-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S4x64x1024 : Shape := ⟨3, ![4, 64, 1024]⟩
abbrev S4 : Shape := ⟨1, ![4]⟩
abbrev S_ : Shape := ⟨0, ![]⟩
abbrev S256x1024 : Shape := ⟨2, ![256, 1024]⟩
abbrev S1024x1024 : Shape := ⟨2, ![1024, 1024]⟩
abbrev S64x1024 : Shape := ⟨2, ![64, 1024]⟩
abbrev S1x64x1024 : Shape := ⟨3, ![1, 64, 1024]⟩
abbrev S1 : Shape := ⟨1, ![1]⟩

abbrev nBuf : Space → Nat
  | .hbm => 3
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S4x64x1024, .bf16⟩
  | .local _ .vmem, ⟨4, _⟩ => ⟨S4x64x1024, .bf16⟩
  | .local _ .vmem, ⟨5, _⟩ => ⟨S4x64x1024, .bf16⟩
  | .local _ .vmem, ⟨6, _⟩ => ⟨S4x64x1024, .bf16⟩
  | .local _ .vmem, ⟨7, _⟩ => ⟨S4x64x1024, .bf16⟩
  | .local _ .vmem, ⟨8, _⟩ => ⟨S4x64x1024, .bf16⟩
  | .local _ .vmem, ⟨9, _⟩ => ⟨S4x64x1024, .bf16⟩
  | .local _ .vmem, ⟨10, _⟩ => ⟨S4x64x1024, .bf16⟩
  | .local _ .vmem, ⟨11, _⟩ => ⟨S4x64x1024, .bf16⟩
  | .local _ .vmem, ⟨12, _⟩ => ⟨S4x64x1024, .bf16⟩
  | .local _ .vmem, ⟨13, _⟩ => ⟨S4x64x1024, .bf16⟩
  | .local _ .vmem, ⟨14, _⟩ => ⟨S4x64x1024, .bf16⟩
  | .local _ .vmem, ⟨15, _⟩ => ⟨S4x64x1024, .bf16⟩
  | .local _ .vmem, ⟨16, _⟩ => ⟨S4x64x1024, .bf16⟩
  | .local _ .vmem, ⟨17, _⟩ => ⟨S4x64x1024, .bf16⟩
  | .local _ .vmem, ⟨18, _⟩ => ⟨S4x64x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 9 67 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_sem0_0 : DmaSem sig := 0
abbrev cc0_sem1_0 : DmaSem sig := 1
abbrev cc0_sem2_0 : DmaSem sig := 2
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_10 : BitVec 32 := 1#32
  let v18 : BitVec 32 := Scalar.muli v11 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_12 : BitVec 32 := 1#32
  let v20 : BitVec 32 := Scalar.muli v16 c1_i32_12
  let v21 : BitVec 32 := Scalar.addi c0_i32_13 v20
  v21.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_14 : BitVec 32 := 8#32
  let v22 : BitVec 32 := Scalar.remsi v5 c8_i32_14
  let c256_i32 : BitVec 32 := 256#32
  let v23 : BitVec 32 := Scalar.muli v22 c256_i32
  v23
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_14 : BitVec 32 := 8#32
  let v22 : BitVec 32 := Scalar.remsi v5 c8_i32_14
  let c256_i32 : BitVec 32 := 256#32
  let v23 : BitVec 32 := Scalar.muli v22 c256_i32
  let v24 : BitVec 32 := v23
  let v25 : Index := Scalar.indexCast v24
  let c0 : Index := 0#32
  ![v25.toNat, 0]
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_17 : BitVec 32 := 8#32
  let v32 : BitVec 32 := Scalar.remsi v5 c8_i32_17
  let c256_i32_18 : BitVec 32 := 256#32
  let v33 : BitVec 32 := Scalar.muli v32 c256_i32_18
  v33
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_17 : BitVec 32 := 8#32
  let v32 : BitVec 32 := Scalar.remsi v5 c8_i32_17
  let c256_i32_18 : BitVec 32 := 256#32
  let v33 : BitVec 32 := Scalar.muli v32 c256_i32_18
  let v34 : BitVec 32 := v33
  let v35 : Index := Scalar.indexCast v34
  let c0_19 : Index := 0#32
  ![v35.toNat, 0]
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_20 : BitVec 32 := 8#32
  let v37 : BitVec 32 := Scalar.remsi v5 c8_i32_20
  let c256_i32_21 : BitVec 32 := 256#32
  let v38 : BitVec 32 := Scalar.muli v37 c256_i32_21
  let c0_i32_22 : BitVec 32 := 0#32
  let v39 : BitVec 32 := Scalar.addi v38 c0_i32_22
  v39
def k0_off3 (d0 : Dev nD) (c0_i32_22 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_20 : BitVec 32 := 8#32
  let v37 : BitVec 32 := Scalar.remsi v5 c8_i32_20
  let c256_i32_21 : BitVec 32 := 256#32
  let v38 : BitVec 32 := Scalar.muli v37 c256_i32_21
  let v39 : BitVec 32 := Scalar.addi v38 c0_i32_22
  let v40 : BitVec 32 := v39
  let v41 : Index := Scalar.indexCast v40
  let c0_23 : Index := 0#32
  ![v41.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_31 : BitVec 32 := 1#32
  let v47 : BitVec 32 := Scalar.muli v16 c1_i32_31
  let v48 : BitVec 32 := Scalar.addi c0_i32_32 v47
  v48.toNat
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_37 : BitVec 32 := 8#32
  let v57 : BitVec 32 := Scalar.remsi v5 c8_i32_37
  let c256_i32_38 : BitVec 32 := 256#32
  let v58 : BitVec 32 := Scalar.muli v57 c256_i32_38
  let c64_i32 : BitVec 32 := 64#32
  let v59 : BitVec 32 := Scalar.addi v58 c64_i32
  v59
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_47 : BitVec 32 := 1#32
  let v67 : BitVec 32 := Scalar.muli v16 c1_i32_47
  let v68 : BitVec 32 := Scalar.addi c0_i32_48 v67
  v68.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_53 : BitVec 32 := 8#32
  let v77 : BitVec 32 := Scalar.remsi v5 c8_i32_53
  let c256_i32_54 : BitVec 32 := 256#32
  let v78 : BitVec 32 := Scalar.muli v77 c256_i32_54
  let c128_i32 : BitVec 32 := 128#32
  let v79 : BitVec 32 := Scalar.addi v78 c128_i32
  v79
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_63 : BitVec 32 := 1#32
  let v87 : BitVec 32 := Scalar.muli v16 c1_i32_63
  let v88 : BitVec 32 := Scalar.addi c0_i32_64 v87
  v88.toNat
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_69 : BitVec 32 := 8#32
  let v97 : BitVec 32 := Scalar.remsi v5 c8_i32_69
  let c256_i32_70 : BitVec 32 := 256#32
  let v98 : BitVec 32 := Scalar.muli v97 c256_i32_70
  let c192_i32 : BitVec 32 := 192#32
  let v99 : BitVec 32 := Scalar.addi v98 c192_i32
  v99
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_79 : BitVec 32 := 1#32
  let v107 : BitVec 32 := Scalar.muli v16 c1_i32_79
  let v108 : BitVec 32 := Scalar.addi c0_i32_80 v107
  v108.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_85 : BitVec 32 := 8#32
  let v117 : BitVec 32 := Scalar.remsi v5 c8_i32_85
  let c256_i32_86 : BitVec 32 := 256#32
  let v118 : BitVec 32 := Scalar.muli v117 c256_i32_86
  v118
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_90 : BitVec 32 := 8#32
  let v127 : BitVec 32 := Scalar.remsi v5 c8_i32_90
  let c256_i32_91 : BitVec 32 := 256#32
  let v128 : BitVec 32 := Scalar.muli v127 c256_i32_91
  v128
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_90 : BitVec 32 := 8#32
  let v127 : BitVec 32 := Scalar.remsi v5 c8_i32_90
  let c256_i32_91 : BitVec 32 := 256#32
  let v128 : BitVec 32 := Scalar.muli v127 c256_i32_91
  let v129 : BitVec 32 := v128
  let v130 : Index := Scalar.indexCast v129
  let c1024_92 : Index := 1024#32
  ![v130.toNat, 1024]
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_93 : BitVec 32 := 8#32
  let v132 : BitVec 32 := Scalar.remsi v5 c8_i32_93
  let c256_i32_94 : BitVec 32 := 256#32
  let v133 : BitVec 32 := Scalar.muli v132 c256_i32_94
  let c0_i32_95 : BitVec 32 := 0#32
  let v134 : BitVec 32 := Scalar.addi v133 c0_i32_95
  v134
def k0_off5 (d0 : Dev nD) (c0_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_93 : BitVec 32 := 8#32
  let v132 : BitVec 32 := Scalar.remsi v5 c8_i32_93
  let c256_i32_94 : BitVec 32 := 256#32
  let v133 : BitVec 32 := Scalar.muli v132 c256_i32_94
  let v134 : BitVec 32 := Scalar.addi v133 c0_i32_95
  let v135 : BitVec 32 := v134
  let v136 : Index := Scalar.indexCast v135
  let c1024_96 : Index := 1024#32
  ![v136.toNat, 1024]
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_104 : BitVec 32 := 1#32
  let v142 : BitVec 32 := Scalar.muli v11 c1_i32_104
  let v143 : BitVec 32 := Scalar.addi c0_i32_105 v142
  v143.toNat
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_110 : BitVec 32 := 8#32
  let v152 : BitVec 32 := Scalar.remsi v5 c8_i32_110
  let c256_i32_111 : BitVec 32 := 256#32
  let v153 : BitVec 32 := Scalar.muli v152 c256_i32_111
  let c64_i32_112 : BitVec 32 := 64#32
  let v154 : BitVec 32 := Scalar.addi v153 c64_i32_112
  v154
def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_121 : BitVec 32 := 1#32
  let v162 : BitVec 32 := Scalar.muli v11 c1_i32_121
  let v163 : BitVec 32 := Scalar.addi c0_i32_122 v162
  v163.toNat
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_127 : BitVec 32 := 8#32
  let v172 : BitVec 32 := Scalar.remsi v5 c8_i32_127
  let c256_i32_128 : BitVec 32 := 256#32
  let v173 : BitVec 32 := Scalar.muli v172 c256_i32_128
  let c128_i32_129 : BitVec 32 := 128#32
  let v174 : BitVec 32 := Scalar.addi v173 c128_i32_129
  v174
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_138 : BitVec 32 := 1#32
  let v182 : BitVec 32 := Scalar.muli v11 c1_i32_138
  let v183 : BitVec 32 := Scalar.addi c0_i32_139 v182
  v183.toNat
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_144 : BitVec 32 := 8#32
  let v192 : BitVec 32 := Scalar.remsi v5 c8_i32_144
  let c256_i32_145 : BitVec 32 := 256#32
  let v193 : BitVec 32 := Scalar.muli v192 c256_i32_145
  let c192_i32_146 : BitVec 32 := 192#32
  let v194 : BitVec 32 := Scalar.addi v193 c192_i32_146
  v194
def k0_dev10 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_155 : BitVec 32 := 1#32
  let v202 : BitVec 32 := Scalar.muli v11 c1_i32_155
  let v203 : BitVec 32 := Scalar.addi c0_i32_156 v202
  v203.toNat
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let c0_i32_161 : BitVec 32 := 0#32
  let v213 : BitVec 32 := Scalar.subi v212 c0_i32_161
  let c1_i32_162 : BitVec 32 := 1#32
  let v214 : BitVec 32 := Scalar.subi v213 c1_i32_162
  let c8_i32_165 : BitVec 32 := 8#32
  let v217 : BitVec 32 := Scalar.remsi v214 c8_i32_165
  let c256_i32_166 : BitVec 32 := 256#32
  let v218 : BitVec 32 := Scalar.muli v217 c256_i32_166
  v218
def k0_off6 (d0 : Dev nD) (c0_i32_161 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let v213 : BitVec 32 := Scalar.subi v212 c0_i32_161
  let c1_i32_162 : BitVec 32 := 1#32
  let v214 : BitVec 32 := Scalar.subi v213 c1_i32_162
  let c8_i32_165 : BitVec 32 := 8#32
  let v217 : BitVec 32 := Scalar.remsi v214 c8_i32_165
  let c256_i32_166 : BitVec 32 := 256#32
  let v218 : BitVec 32 := Scalar.muli v217 c256_i32_166
  let v219 : BitVec 32 := v218
  let v220 : Index := Scalar.indexCast v219
  let c0_167 : Index := 0#32
  ![v220.toNat, 0]
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let c0_i32_161 : BitVec 32 := 0#32
  let v213 : BitVec 32 := Scalar.subi v212 c0_i32_161
  let c1_i32_162 : BitVec 32 := 1#32
  let v214 : BitVec 32 := Scalar.subi v213 c1_i32_162
  let c8_i32_171 : BitVec 32 := 8#32
  let v227 : BitVec 32 := Scalar.remsi v214 c8_i32_171
  let c256_i32_172 : BitVec 32 := 256#32
  let v228 : BitVec 32 := Scalar.muli v227 c256_i32_172
  v228
def k0_off7 (d0 : Dev nD) (c0_i32_161 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let v213 : BitVec 32 := Scalar.subi v212 c0_i32_161
  let c1_i32_162 : BitVec 32 := 1#32
  let v214 : BitVec 32 := Scalar.subi v213 c1_i32_162
  let c8_i32_171 : BitVec 32 := 8#32
  let v227 : BitVec 32 := Scalar.remsi v214 c8_i32_171
  let c256_i32_172 : BitVec 32 := 256#32
  let v228 : BitVec 32 := Scalar.muli v227 c256_i32_172
  let v229 : BitVec 32 := v228
  let v230 : Index := Scalar.indexCast v229
  let c0_173 : Index := 0#32
  ![v230.toNat, 0]
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_163 : BitVec 32 := 0#32
  let v215 : BitVec 32 := Scalar.addi v5 c0_i32_163
  let c1_i32_164 : BitVec 32 := 1#32
  let v216 : BitVec 32 := Scalar.addi v215 c1_i32_164
  let c8_i32_174 : BitVec 32 := 8#32
  let v232 : BitVec 32 := Scalar.remsi v216 c8_i32_174
  let c256_i32_175 : BitVec 32 := 256#32
  let v233 : BitVec 32 := Scalar.muli v232 c256_i32_175
  v233
def k0_off8 (d0 : Dev nD) (c0_i32_163 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v215 : BitVec 32 := Scalar.addi v5 c0_i32_163
  let c1_i32_164 : BitVec 32 := 1#32
  let v216 : BitVec 32 := Scalar.addi v215 c1_i32_164
  let c8_i32_174 : BitVec 32 := 8#32
  let v232 : BitVec 32 := Scalar.remsi v216 c8_i32_174
  let c256_i32_175 : BitVec 32 := 256#32
  let v233 : BitVec 32 := Scalar.muli v232 c256_i32_175
  let v234 : BitVec 32 := v233
  let v235 : Index := Scalar.indexCast v234
  let c0_176 : Index := 0#32
  ![v235.toNat, 0]
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_163 : BitVec 32 := 0#32
  let v215 : BitVec 32 := Scalar.addi v5 c0_i32_163
  let c1_i32_164 : BitVec 32 := 1#32
  let v216 : BitVec 32 := Scalar.addi v215 c1_i32_164
  let c8_i32_180 : BitVec 32 := 8#32
  let v242 : BitVec 32 := Scalar.remsi v216 c8_i32_180
  let c256_i32_181 : BitVec 32 := 256#32
  let v243 : BitVec 32 := Scalar.muli v242 c256_i32_181
  v243
def k0_off9 (d0 : Dev nD) (c0_i32_163 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v215 : BitVec 32 := Scalar.addi v5 c0_i32_163
  let c1_i32_164 : BitVec 32 := 1#32
  let v216 : BitVec 32 := Scalar.addi v215 c1_i32_164
  let c8_i32_180 : BitVec 32 := 8#32
  let v242 : BitVec 32 := Scalar.remsi v216 c8_i32_180
  let c256_i32_181 : BitVec 32 := 256#32
  let v243 : BitVec 32 := Scalar.muli v242 c256_i32_181
  let v244 : BitVec 32 := v243
  let v245 : Index := Scalar.indexCast v244
  let c1024_182 : Index := 1024#32
  ![v245.toNat, 1024]
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let c0_i32_161 : BitVec 32 := 0#32
  let v213 : BitVec 32 := Scalar.subi v212 c0_i32_161
  let c1_i32_162 : BitVec 32 := 1#32
  let v214 : BitVec 32 := Scalar.subi v213 c1_i32_162
  let c8_i32_203 : BitVec 32 := 8#32
  let v263 : BitVec 32 := Scalar.remsi v214 c8_i32_203
  let c256_i32_204 : BitVec 32 := 256#32
  let v264 : BitVec 32 := Scalar.muli v263 c256_i32_204
  let c0_i32_205 : BitVec 32 := 0#32
  let v265 : BitVec 32 := Scalar.addi v264 c0_i32_205
  v265
def k0_off10 (d0 : Dev nD) (c0_i32_161 : BitVec 32) (c0_i32_205 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let v213 : BitVec 32 := Scalar.subi v212 c0_i32_161
  let c1_i32_162 : BitVec 32 := 1#32
  let v214 : BitVec 32 := Scalar.subi v213 c1_i32_162
  let c8_i32_203 : BitVec 32 := 8#32
  let v263 : BitVec 32 := Scalar.remsi v214 c8_i32_203
  let c256_i32_204 : BitVec 32 := 256#32
  let v264 : BitVec 32 := Scalar.muli v263 c256_i32_204
  let v265 : BitVec 32 := Scalar.addi v264 c0_i32_205
  let v266 : BitVec 32 := v265
  let v267 : Index := Scalar.indexCast v266
  let c0_206 : Index := 0#32
  ![v267.toNat, 0]
def k0_dev11 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_216 : BitVec 32 := 1#32
  let v279 : BitVec 32 := Scalar.muli v16 c1_i32_216
  let v280 : BitVec 32 := Scalar.addi c0_i32_217 v279
  v280.toNat
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_223 : BitVec 32 := 1#32
  let v289 : BitVec 32 := Scalar.muli v11 c1_i32_223
  let v290 : BitVec 32 := Scalar.addi c0_i32_224 v289
  v290.toNat
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_163 : BitVec 32 := 0#32
  let v215 : BitVec 32 := Scalar.addi v5 c0_i32_163
  let c1_i32_164 : BitVec 32 := 1#32
  let v216 : BitVec 32 := Scalar.addi v215 c1_i32_164
  let c8_i32_225 : BitVec 32 := 8#32
  let v291 : BitVec 32 := Scalar.remsi v216 c8_i32_225
  let c256_i32_226 : BitVec 32 := 256#32
  let v292 : BitVec 32 := Scalar.muli v291 c256_i32_226
  let c0_i32_227 : BitVec 32 := 0#32
  let v293 : BitVec 32 := Scalar.addi v292 c0_i32_227
  v293
def k0_off11 (d0 : Dev nD) (c0_i32_163 : BitVec 32) (c0_i32_227 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v215 : BitVec 32 := Scalar.addi v5 c0_i32_163
  let c1_i32_164 : BitVec 32 := 1#32
  let v216 : BitVec 32 := Scalar.addi v215 c1_i32_164
  let c8_i32_225 : BitVec 32 := 8#32
  let v291 : BitVec 32 := Scalar.remsi v216 c8_i32_225
  let c256_i32_226 : BitVec 32 := 256#32
  let v292 : BitVec 32 := Scalar.muli v291 c256_i32_226
  let v293 : BitVec 32 := Scalar.addi v292 c0_i32_227
  let v294 : BitVec 32 := v293
  let v295 : Index := Scalar.indexCast v294
  let c1024_228 : Index := 1024#32
  ![v295.toNat, 1024]
def k0_dev13 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_239 : BitVec 32 := 1#32
  let v307 : BitVec 32 := Scalar.muli v11 c1_i32_239
  let v308 : BitVec 32 := Scalar.addi c0_i32_240 v307
  v308.toNat
def k0_dev14 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_246 : BitVec 32 := 1#32
  let v317 : BitVec 32 := Scalar.muli v16 c1_i32_246
  let v318 : BitVec 32 := Scalar.addi c0_i32_247 v317
  v318.toNat
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let c0_i32_161 : BitVec 32 := 0#32
  let v213 : BitVec 32 := Scalar.subi v212 c0_i32_161
  let c1_i32_162 : BitVec 32 := 1#32
  let v214 : BitVec 32 := Scalar.subi v213 c1_i32_162
  let c8_i32_268 : BitVec 32 := 8#32
  let v335 : BitVec 32 := Scalar.remsi v214 c8_i32_268
  let c256_i32_269 : BitVec 32 := 256#32
  let v336 : BitVec 32 := Scalar.muli v335 c256_i32_269
  let c64_i32_270 : BitVec 32 := 64#32
  let v337 : BitVec 32 := Scalar.addi v336 c64_i32_270
  v337
def k0_dev15 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_282 : BitVec 32 := 1#32
  let v351 : BitVec 32 := Scalar.muli v16 c1_i32_282
  let v352 : BitVec 32 := Scalar.addi c0_i32_283 v351
  v352.toNat
def k0_dev16 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_289 : BitVec 32 := 1#32
  let v361 : BitVec 32 := Scalar.muli v11 c1_i32_289
  let v362 : BitVec 32 := Scalar.addi c0_i32_290 v361
  v362.toNat
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_163 : BitVec 32 := 0#32
  let v215 : BitVec 32 := Scalar.addi v5 c0_i32_163
  let c1_i32_164 : BitVec 32 := 1#32
  let v216 : BitVec 32 := Scalar.addi v215 c1_i32_164
  let c8_i32_291 : BitVec 32 := 8#32
  let v363 : BitVec 32 := Scalar.remsi v216 c8_i32_291
  let c256_i32_292 : BitVec 32 := 256#32
  let v364 : BitVec 32 := Scalar.muli v363 c256_i32_292
  let c64_i32_293 : BitVec 32 := 64#32
  let v365 : BitVec 32 := Scalar.addi v364 c64_i32_293
  v365
def k0_dev17 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_305 : BitVec 32 := 1#32
  let v379 : BitVec 32 := Scalar.muli v11 c1_i32_305
  let v380 : BitVec 32 := Scalar.addi c0_i32_306 v379
  v380.toNat
def k0_dev18 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_312 : BitVec 32 := 1#32
  let v389 : BitVec 32 := Scalar.muli v16 c1_i32_312
  let v390 : BitVec 32 := Scalar.addi c0_i32_313 v389
  v390.toNat
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let c0_i32_161 : BitVec 32 := 0#32
  let v213 : BitVec 32 := Scalar.subi v212 c0_i32_161
  let c1_i32_162 : BitVec 32 := 1#32
  let v214 : BitVec 32 := Scalar.subi v213 c1_i32_162
  let c8_i32_334 : BitVec 32 := 8#32
  let v407 : BitVec 32 := Scalar.remsi v214 c8_i32_334
  let c256_i32_335 : BitVec 32 := 256#32
  let v408 : BitVec 32 := Scalar.muli v407 c256_i32_335
  let c128_i32_336 : BitVec 32 := 128#32
  let v409 : BitVec 32 := Scalar.addi v408 c128_i32_336
  v409
def k0_dev19 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_348 : BitVec 32 := 1#32
  let v423 : BitVec 32 := Scalar.muli v16 c1_i32_348
  let v424 : BitVec 32 := Scalar.addi c0_i32_349 v423
  v424.toNat
def k0_dev20 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_355 : BitVec 32 := 1#32
  let v433 : BitVec 32 := Scalar.muli v11 c1_i32_355
  let v434 : BitVec 32 := Scalar.addi c0_i32_356 v433
  v434.toNat
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_163 : BitVec 32 := 0#32
  let v215 : BitVec 32 := Scalar.addi v5 c0_i32_163
  let c1_i32_164 : BitVec 32 := 1#32
  let v216 : BitVec 32 := Scalar.addi v215 c1_i32_164
  let c8_i32_357 : BitVec 32 := 8#32
  let v435 : BitVec 32 := Scalar.remsi v216 c8_i32_357
  let c256_i32_358 : BitVec 32 := 256#32
  let v436 : BitVec 32 := Scalar.muli v435 c256_i32_358
  let c128_i32_359 : BitVec 32 := 128#32
  let v437 : BitVec 32 := Scalar.addi v436 c128_i32_359
  v437
def k0_dev21 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_371 : BitVec 32 := 1#32
  let v451 : BitVec 32 := Scalar.muli v11 c1_i32_371
  let v452 : BitVec 32 := Scalar.addi c0_i32_372 v451
  v452.toNat
def k0_dev22 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_378 : BitVec 32 := 1#32
  let v461 : BitVec 32 := Scalar.muli v16 c1_i32_378
  let v462 : BitVec 32 := Scalar.addi c0_i32_379 v461
  v462.toNat
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v212 : BitVec 32 := Scalar.addi v5 c16_i32
  let c0_i32_161 : BitVec 32 := 0#32
  let v213 : BitVec 32 := Scalar.subi v212 c0_i32_161
  let c1_i32_162 : BitVec 32 := 1#32
  let v214 : BitVec 32 := Scalar.subi v213 c1_i32_162
  let c8_i32_400 : BitVec 32 := 8#32
  let v479 : BitVec 32 := Scalar.remsi v214 c8_i32_400
  let c256_i32_401 : BitVec 32 := 256#32
  let v480 : BitVec 32 := Scalar.muli v479 c256_i32_401
  let c192_i32_402 : BitVec 32 := 192#32
  let v481 : BitVec 32 := Scalar.addi v480 c192_i32_402
  v481
def k0_dev23 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_414 : BitVec 32 := 1#32
  let v495 : BitVec 32 := Scalar.muli v16 c1_i32_414
  let v496 : BitVec 32 := Scalar.addi c0_i32_415 v495
  v496.toNat
def k0_dev24 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_421 : BitVec 32 := 1#32
  let v505 : BitVec 32 := Scalar.muli v11 c1_i32_421
  let v506 : BitVec 32 := Scalar.addi c0_i32_422 v505
  v506.toNat
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_163 : BitVec 32 := 0#32
  let v215 : BitVec 32 := Scalar.addi v5 c0_i32_163
  let c1_i32_164 : BitVec 32 := 1#32
  let v216 : BitVec 32 := Scalar.addi v215 c1_i32_164
  let c8_i32_423 : BitVec 32 := 8#32
  let v507 : BitVec 32 := Scalar.remsi v216 c8_i32_423
  let c256_i32_424 : BitVec 32 := 256#32
  let v508 : BitVec 32 := Scalar.muli v507 c256_i32_424
  let c192_i32_425 : BitVec 32 := 192#32
  let v509 : BitVec 32 := Scalar.addi v508 c192_i32_425
  v509
def k0_dev25 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_437 : BitVec 32 := 1#32
  let v523 : BitVec 32 := Scalar.muli v11 c1_i32_437
  let v524 : BitVec 32 := Scalar.addi c0_i32_438 v523
  v524.toNat
def k0_dev26 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_444 : BitVec 32 := 1#32
  let v533 : BitVec 32 := Scalar.muli v16 c1_i32_444
  let v534 : BitVec 32 := Scalar.addi c0_i32_445 v533
  v534.toNat
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_446 : BitVec 32 := 16#32
  let v535 : BitVec 32 := Scalar.addi v5 c16_i32_446
  let c1_i32_447 : BitVec 32 := 1#32
  let v536 : BitVec 32 := Scalar.subi v535 c1_i32_447
  let c1_i32_448 : BitVec 32 := 1#32
  let v537 : BitVec 32 := Scalar.subi v536 c1_i32_448
  let c8_i32_451 : BitVec 32 := 8#32
  let v540 : BitVec 32 := Scalar.remsi v537 c8_i32_451
  let c256_i32_452 : BitVec 32 := 256#32
  let v541 : BitVec 32 := Scalar.muli v540 c256_i32_452
  v541
def k0_mult26 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_446 : BitVec 32 := 16#32
  let v535 : BitVec 32 := Scalar.addi v5 c16_i32_446
  let c1_i32_447 : BitVec 32 := 1#32
  let v536 : BitVec 32 := Scalar.subi v535 c1_i32_447
  let c1_i32_448 : BitVec 32 := 1#32
  let v537 : BitVec 32 := Scalar.subi v536 c1_i32_448
  let c8_i32_457 : BitVec 32 := 8#32
  let v550 : BitVec 32 := Scalar.remsi v537 c8_i32_457
  let c256_i32_458 : BitVec 32 := 256#32
  let v551 : BitVec 32 := Scalar.muli v550 c256_i32_458
  v551
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_449 : BitVec 32 := 1#32
  let v538 : BitVec 32 := Scalar.addi v5 c1_i32_449
  let c1_i32_450 : BitVec 32 := 1#32
  let v539 : BitVec 32 := Scalar.addi v538 c1_i32_450
  let c8_i32_460 : BitVec 32 := 8#32
  let v555 : BitVec 32 := Scalar.remsi v539 c8_i32_460
  let c256_i32_461 : BitVec 32 := 256#32
  let v556 : BitVec 32 := Scalar.muli v555 c256_i32_461
  v556
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_449 : BitVec 32 := 1#32
  let v538 : BitVec 32 := Scalar.addi v5 c1_i32_449
  let c1_i32_450 : BitVec 32 := 1#32
  let v539 : BitVec 32 := Scalar.addi v538 c1_i32_450
  let c8_i32_466 : BitVec 32 := 8#32
  let v565 : BitVec 32 := Scalar.remsi v539 c8_i32_466
  let c256_i32_467 : BitVec 32 := 256#32
  let v566 : BitVec 32 := Scalar.muli v565 c256_i32_467
  v566
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_446 : BitVec 32 := 16#32
  let v535 : BitVec 32 := Scalar.addi v5 c16_i32_446
  let c1_i32_447 : BitVec 32 := 1#32
  let v536 : BitVec 32 := Scalar.subi v535 c1_i32_447
  let c1_i32_448 : BitVec 32 := 1#32
  let v537 : BitVec 32 := Scalar.subi v536 c1_i32_448
  let c8_i32_489 : BitVec 32 := 8#32
  let v586 : BitVec 32 := Scalar.remsi v537 c8_i32_489
  let c256_i32_490 : BitVec 32 := 256#32
  let v587 : BitVec 32 := Scalar.muli v586 c256_i32_490
  let c0_i32_491 : BitVec 32 := 0#32
  let v588 : BitVec 32 := Scalar.addi v587 c0_i32_491
  v588
def k0_dev27 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_502 : BitVec 32 := 1#32
  let v602 : BitVec 32 := Scalar.muli v16 c1_i32_502
  let v603 : BitVec 32 := Scalar.addi c0_i32_503 v602
  v603.toNat
def k0_dev28 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_509 : BitVec 32 := 1#32
  let v612 : BitVec 32 := Scalar.muli v11 c1_i32_509
  let v613 : BitVec 32 := Scalar.addi c0_i32_510 v612
  v613.toNat
def k0_mult30 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_449 : BitVec 32 := 1#32
  let v538 : BitVec 32 := Scalar.addi v5 c1_i32_449
  let c1_i32_450 : BitVec 32 := 1#32
  let v539 : BitVec 32 := Scalar.addi v538 c1_i32_450
  let c8_i32_511 : BitVec 32 := 8#32
  let v614 : BitVec 32 := Scalar.remsi v539 c8_i32_511
  let c256_i32_512 : BitVec 32 := 256#32
  let v615 : BitVec 32 := Scalar.muli v614 c256_i32_512
  let c0_i32_513 : BitVec 32 := 0#32
  let v616 : BitVec 32 := Scalar.addi v615 c0_i32_513
  v616
def k0_dev29 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_525 : BitVec 32 := 1#32
  let v630 : BitVec 32 := Scalar.muli v11 c1_i32_525
  let v631 : BitVec 32 := Scalar.addi c0_i32_526 v630
  v631.toNat
def k0_dev30 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_532 : BitVec 32 := 1#32
  let v640 : BitVec 32 := Scalar.muli v16 c1_i32_532
  let v641 : BitVec 32 := Scalar.addi c0_i32_533 v640
  v641.toNat
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_446 : BitVec 32 := 16#32
  let v535 : BitVec 32 := Scalar.addi v5 c16_i32_446
  let c1_i32_447 : BitVec 32 := 1#32
  let v536 : BitVec 32 := Scalar.subi v535 c1_i32_447
  let c1_i32_448 : BitVec 32 := 1#32
  let v537 : BitVec 32 := Scalar.subi v536 c1_i32_448
  let c8_i32_554 : BitVec 32 := 8#32
  let v658 : BitVec 32 := Scalar.remsi v537 c8_i32_554
  let c256_i32_555 : BitVec 32 := 256#32
  let v659 : BitVec 32 := Scalar.muli v658 c256_i32_555
  let c64_i32_556 : BitVec 32 := 64#32
  let v660 : BitVec 32 := Scalar.addi v659 c64_i32_556
  v660
def k0_dev31 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_568 : BitVec 32 := 1#32
  let v674 : BitVec 32 := Scalar.muli v16 c1_i32_568
  let v675 : BitVec 32 := Scalar.addi c0_i32_569 v674
  v675.toNat
def k0_dev32 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_575 : BitVec 32 := 1#32
  let v684 : BitVec 32 := Scalar.muli v11 c1_i32_575
  let v685 : BitVec 32 := Scalar.addi c0_i32_576 v684
  v685.toNat
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_449 : BitVec 32 := 1#32
  let v538 : BitVec 32 := Scalar.addi v5 c1_i32_449
  let c1_i32_450 : BitVec 32 := 1#32
  let v539 : BitVec 32 := Scalar.addi v538 c1_i32_450
  let c8_i32_577 : BitVec 32 := 8#32
  let v686 : BitVec 32 := Scalar.remsi v539 c8_i32_577
  let c256_i32_578 : BitVec 32 := 256#32
  let v687 : BitVec 32 := Scalar.muli v686 c256_i32_578
  let c64_i32_579 : BitVec 32 := 64#32
  let v688 : BitVec 32 := Scalar.addi v687 c64_i32_579
  v688
def k0_dev33 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_591 : BitVec 32 := 1#32
  let v702 : BitVec 32 := Scalar.muli v11 c1_i32_591
  let v703 : BitVec 32 := Scalar.addi c0_i32_592 v702
  v703.toNat
def k0_dev34 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_598 : BitVec 32 := 1#32
  let v712 : BitVec 32 := Scalar.muli v16 c1_i32_598
  let v713 : BitVec 32 := Scalar.addi c0_i32_599 v712
  v713.toNat
def k0_mult33 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_446 : BitVec 32 := 16#32
  let v535 : BitVec 32 := Scalar.addi v5 c16_i32_446
  let c1_i32_447 : BitVec 32 := 1#32
  let v536 : BitVec 32 := Scalar.subi v535 c1_i32_447
  let c1_i32_448 : BitVec 32 := 1#32
  let v537 : BitVec 32 := Scalar.subi v536 c1_i32_448
  let c8_i32_620 : BitVec 32 := 8#32
  let v730 : BitVec 32 := Scalar.remsi v537 c8_i32_620
  let c256_i32_621 : BitVec 32 := 256#32
  let v731 : BitVec 32 := Scalar.muli v730 c256_i32_621
  let c128_i32_622 : BitVec 32 := 128#32
  let v732 : BitVec 32 := Scalar.addi v731 c128_i32_622
  v732
def k0_dev35 (d0 : Dev nD) : Nat :=
  let c0_i32_635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_634 : BitVec 32 := 1#32
  let v746 : BitVec 32 := Scalar.muli v16 c1_i32_634
  let v747 : BitVec 32 := Scalar.addi c0_i32_635 v746
  v747.toNat
def k0_dev36 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_641 : BitVec 32 := 1#32
  let v756 : BitVec 32 := Scalar.muli v11 c1_i32_641
  let v757 : BitVec 32 := Scalar.addi c0_i32_642 v756
  v757.toNat
def k0_mult34 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_449 : BitVec 32 := 1#32
  let v538 : BitVec 32 := Scalar.addi v5 c1_i32_449
  let c1_i32_450 : BitVec 32 := 1#32
  let v539 : BitVec 32 := Scalar.addi v538 c1_i32_450
  let c8_i32_643 : BitVec 32 := 8#32
  let v758 : BitVec 32 := Scalar.remsi v539 c8_i32_643
  let c256_i32_644 : BitVec 32 := 256#32
  let v759 : BitVec 32 := Scalar.muli v758 c256_i32_644
  let c128_i32_645 : BitVec 32 := 128#32
  let v760 : BitVec 32 := Scalar.addi v759 c128_i32_645
  v760
def k0_dev37 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_657 : BitVec 32 := 1#32
  let v774 : BitVec 32 := Scalar.muli v11 c1_i32_657
  let v775 : BitVec 32 := Scalar.addi c0_i32_658 v774
  v775.toNat
def k0_dev38 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_664 : BitVec 32 := 1#32
  let v784 : BitVec 32 := Scalar.muli v16 c1_i32_664
  let v785 : BitVec 32 := Scalar.addi c0_i32_665 v784
  v785.toNat
def k0_mult35 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_446 : BitVec 32 := 16#32
  let v535 : BitVec 32 := Scalar.addi v5 c16_i32_446
  let c1_i32_447 : BitVec 32 := 1#32
  let v536 : BitVec 32 := Scalar.subi v535 c1_i32_447
  let c1_i32_448 : BitVec 32 := 1#32
  let v537 : BitVec 32 := Scalar.subi v536 c1_i32_448
  let c8_i32_686 : BitVec 32 := 8#32
  let v802 : BitVec 32 := Scalar.remsi v537 c8_i32_686
  let c256_i32_687 : BitVec 32 := 256#32
  let v803 : BitVec 32 := Scalar.muli v802 c256_i32_687
  let c192_i32_688 : BitVec 32 := 192#32
  let v804 : BitVec 32 := Scalar.addi v803 c192_i32_688
  v804
def k0_dev39 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_700 : BitVec 32 := 1#32
  let v818 : BitVec 32 := Scalar.muli v16 c1_i32_700
  let v819 : BitVec 32 := Scalar.addi c0_i32_701 v818
  v819.toNat
def k0_dev40 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_707 : BitVec 32 := 1#32
  let v828 : BitVec 32 := Scalar.muli v11 c1_i32_707
  let v829 : BitVec 32 := Scalar.addi c0_i32_708 v828
  v829.toNat
def k0_mult36 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_449 : BitVec 32 := 1#32
  let v538 : BitVec 32 := Scalar.addi v5 c1_i32_449
  let c1_i32_450 : BitVec 32 := 1#32
  let v539 : BitVec 32 := Scalar.addi v538 c1_i32_450
  let c8_i32_709 : BitVec 32 := 8#32
  let v830 : BitVec 32 := Scalar.remsi v539 c8_i32_709
  let c256_i32_710 : BitVec 32 := 256#32
  let v831 : BitVec 32 := Scalar.muli v830 c256_i32_710
  let c192_i32_711 : BitVec 32 := 192#32
  let v832 : BitVec 32 := Scalar.addi v831 c192_i32_711
  v832
def k0_dev41 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_723 : BitVec 32 := 1#32
  let v846 : BitVec 32 := Scalar.muli v11 c1_i32_723
  let v847 : BitVec 32 := Scalar.addi c0_i32_724 v846
  v847.toNat
def k0_dev42 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_730 : BitVec 32 := 1#32
  let v856 : BitVec 32 := Scalar.muli v16 c1_i32_730
  let v857 : BitVec 32 := Scalar.addi c0_i32_731 v856
  v857.toNat
def k0_mult37 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_732 : BitVec 32 := 16#32
  let v858 : BitVec 32 := Scalar.addi v5 c16_i32_732
  let c2_i32_733 : BitVec 32 := 2#32
  let v859 : BitVec 32 := Scalar.subi v858 c2_i32_733
  let c1_i32_734 : BitVec 32 := 1#32
  let v860 : BitVec 32 := Scalar.subi v859 c1_i32_734
  let c8_i32_737 : BitVec 32 := 8#32
  let v863 : BitVec 32 := Scalar.remsi v860 c8_i32_737
  let c256_i32_738 : BitVec 32 := 256#32
  let v864 : BitVec 32 := Scalar.muli v863 c256_i32_738
  v864
def k0_mult38 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_732 : BitVec 32 := 16#32
  let v858 : BitVec 32 := Scalar.addi v5 c16_i32_732
  let c2_i32_733 : BitVec 32 := 2#32
  let v859 : BitVec 32 := Scalar.subi v858 c2_i32_733
  let c1_i32_734 : BitVec 32 := 1#32
  let v860 : BitVec 32 := Scalar.subi v859 c1_i32_734
  let c8_i32_743 : BitVec 32 := 8#32
  let v873 : BitVec 32 := Scalar.remsi v860 c8_i32_743
  let c256_i32_744 : BitVec 32 := 256#32
  let v874 : BitVec 32 := Scalar.muli v873 c256_i32_744
  v874
def k0_mult39 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_735 : BitVec 32 := 2#32
  let v861 : BitVec 32 := Scalar.addi v5 c2_i32_735
  let c1_i32_736 : BitVec 32 := 1#32
  let v862 : BitVec 32 := Scalar.addi v861 c1_i32_736
  let c8_i32_746 : BitVec 32 := 8#32
  let v878 : BitVec 32 := Scalar.remsi v862 c8_i32_746
  let c256_i32_747 : BitVec 32 := 256#32
  let v879 : BitVec 32 := Scalar.muli v878 c256_i32_747
  v879
def k0_mult40 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_735 : BitVec 32 := 2#32
  let v861 : BitVec 32 := Scalar.addi v5 c2_i32_735
  let c1_i32_736 : BitVec 32 := 1#32
  let v862 : BitVec 32 := Scalar.addi v861 c1_i32_736
  let c8_i32_752 : BitVec 32 := 8#32
  let v888 : BitVec 32 := Scalar.remsi v862 c8_i32_752
  let c256_i32_753 : BitVec 32 := 256#32
  let v889 : BitVec 32 := Scalar.muli v888 c256_i32_753
  v889
def k0_mult41 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_732 : BitVec 32 := 16#32
  let v858 : BitVec 32 := Scalar.addi v5 c16_i32_732
  let c2_i32_733 : BitVec 32 := 2#32
  let v859 : BitVec 32 := Scalar.subi v858 c2_i32_733
  let c1_i32_734 : BitVec 32 := 1#32
  let v860 : BitVec 32 := Scalar.subi v859 c1_i32_734
  let c8_i32_775 : BitVec 32 := 8#32
  let v909 : BitVec 32 := Scalar.remsi v860 c8_i32_775
  let c256_i32_776 : BitVec 32 := 256#32
  let v910 : BitVec 32 := Scalar.muli v909 c256_i32_776
  let c0_i32_777 : BitVec 32 := 0#32
  let v911 : BitVec 32 := Scalar.addi v910 c0_i32_777
  v911
def k0_dev43 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_787 : BitVec 32 := 1#32
  let v925 : BitVec 32 := Scalar.muli v16 c1_i32_787
  let v926 : BitVec 32 := Scalar.addi c0_i32_788 v925
  v926.toNat
def k0_dev44 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_794 : BitVec 32 := 1#32
  let v935 : BitVec 32 := Scalar.muli v11 c1_i32_794
  let v936 : BitVec 32 := Scalar.addi c0_i32_795 v935
  v936.toNat
def k0_mult42 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_735 : BitVec 32 := 2#32
  let v861 : BitVec 32 := Scalar.addi v5 c2_i32_735
  let c1_i32_736 : BitVec 32 := 1#32
  let v862 : BitVec 32 := Scalar.addi v861 c1_i32_736
  let c8_i32_796 : BitVec 32 := 8#32
  let v937 : BitVec 32 := Scalar.remsi v862 c8_i32_796
  let c256_i32_797 : BitVec 32 := 256#32
  let v938 : BitVec 32 := Scalar.muli v937 c256_i32_797
  let c0_i32_798 : BitVec 32 := 0#32
  let v939 : BitVec 32 := Scalar.addi v938 c0_i32_798
  v939
def k0_dev45 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_810 : BitVec 32 := 1#32
  let v953 : BitVec 32 := Scalar.muli v11 c1_i32_810
  let v954 : BitVec 32 := Scalar.addi c0_i32_811 v953
  v954.toNat
def k0_dev46 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_817 : BitVec 32 := 1#32
  let v963 : BitVec 32 := Scalar.muli v16 c1_i32_817
  let v964 : BitVec 32 := Scalar.addi c0_i32_818 v963
  v964.toNat
def k0_mult43 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_732 : BitVec 32 := 16#32
  let v858 : BitVec 32 := Scalar.addi v5 c16_i32_732
  let c2_i32_733 : BitVec 32 := 2#32
  let v859 : BitVec 32 := Scalar.subi v858 c2_i32_733
  let c1_i32_734 : BitVec 32 := 1#32
  let v860 : BitVec 32 := Scalar.subi v859 c1_i32_734
  let c8_i32_839 : BitVec 32 := 8#32
  let v981 : BitVec 32 := Scalar.remsi v860 c8_i32_839
  let c256_i32_840 : BitVec 32 := 256#32
  let v982 : BitVec 32 := Scalar.muli v981 c256_i32_840
  let c64_i32_841 : BitVec 32 := 64#32
  let v983 : BitVec 32 := Scalar.addi v982 c64_i32_841
  v983
def k0_dev47 (d0 : Dev nD) : Nat :=
  let c0_i32_854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_853 : BitVec 32 := 1#32
  let v997 : BitVec 32 := Scalar.muli v16 c1_i32_853
  let v998 : BitVec 32 := Scalar.addi c0_i32_854 v997
  v998.toNat
def k0_dev48 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_860 : BitVec 32 := 1#32
  let v1007 : BitVec 32 := Scalar.muli v11 c1_i32_860
  let v1008 : BitVec 32 := Scalar.addi c0_i32_861 v1007
  v1008.toNat
def k0_mult44 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_735 : BitVec 32 := 2#32
  let v861 : BitVec 32 := Scalar.addi v5 c2_i32_735
  let c1_i32_736 : BitVec 32 := 1#32
  let v862 : BitVec 32 := Scalar.addi v861 c1_i32_736
  let c8_i32_862 : BitVec 32 := 8#32
  let v1009 : BitVec 32 := Scalar.remsi v862 c8_i32_862
  let c256_i32_863 : BitVec 32 := 256#32
  let v1010 : BitVec 32 := Scalar.muli v1009 c256_i32_863
  let c64_i32_864 : BitVec 32 := 64#32
  let v1011 : BitVec 32 := Scalar.addi v1010 c64_i32_864
  v1011
def k0_dev49 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_876 : BitVec 32 := 1#32
  let v1025 : BitVec 32 := Scalar.muli v11 c1_i32_876
  let v1026 : BitVec 32 := Scalar.addi c0_i32_877 v1025
  v1026.toNat
def k0_dev50 (d0 : Dev nD) : Nat :=
  let c0_i32_884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_883 : BitVec 32 := 1#32
  let v1035 : BitVec 32 := Scalar.muli v16 c1_i32_883
  let v1036 : BitVec 32 := Scalar.addi c0_i32_884 v1035
  v1036.toNat
def k0_mult45 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_732 : BitVec 32 := 16#32
  let v858 : BitVec 32 := Scalar.addi v5 c16_i32_732
  let c2_i32_733 : BitVec 32 := 2#32
  let v859 : BitVec 32 := Scalar.subi v858 c2_i32_733
  let c1_i32_734 : BitVec 32 := 1#32
  let v860 : BitVec 32 := Scalar.subi v859 c1_i32_734
  let c8_i32_905 : BitVec 32 := 8#32
  let v1053 : BitVec 32 := Scalar.remsi v860 c8_i32_905
  let c256_i32_906 : BitVec 32 := 256#32
  let v1054 : BitVec 32 := Scalar.muli v1053 c256_i32_906
  let c128_i32_907 : BitVec 32 := 128#32
  let v1055 : BitVec 32 := Scalar.addi v1054 c128_i32_907
  v1055
def k0_dev51 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_919 : BitVec 32 := 1#32
  let v1069 : BitVec 32 := Scalar.muli v16 c1_i32_919
  let v1070 : BitVec 32 := Scalar.addi c0_i32_920 v1069
  v1070.toNat
def k0_dev52 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_926 : BitVec 32 := 1#32
  let v1079 : BitVec 32 := Scalar.muli v11 c1_i32_926
  let v1080 : BitVec 32 := Scalar.addi c0_i32_927 v1079
  v1080.toNat
def k0_mult46 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_735 : BitVec 32 := 2#32
  let v861 : BitVec 32 := Scalar.addi v5 c2_i32_735
  let c1_i32_736 : BitVec 32 := 1#32
  let v862 : BitVec 32 := Scalar.addi v861 c1_i32_736
  let c8_i32_928 : BitVec 32 := 8#32
  let v1081 : BitVec 32 := Scalar.remsi v862 c8_i32_928
  let c256_i32_929 : BitVec 32 := 256#32
  let v1082 : BitVec 32 := Scalar.muli v1081 c256_i32_929
  let c128_i32_930 : BitVec 32 := 128#32
  let v1083 : BitVec 32 := Scalar.addi v1082 c128_i32_930
  v1083
def k0_dev53 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_942 : BitVec 32 := 1#32
  let v1097 : BitVec 32 := Scalar.muli v11 c1_i32_942
  let v1098 : BitVec 32 := Scalar.addi c0_i32_943 v1097
  v1098.toNat
def k0_dev54 (d0 : Dev nD) : Nat :=
  let c0_i32_950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_949 : BitVec 32 := 1#32
  let v1107 : BitVec 32 := Scalar.muli v16 c1_i32_949
  let v1108 : BitVec 32 := Scalar.addi c0_i32_950 v1107
  v1108.toNat
def k0_mult47 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_732 : BitVec 32 := 16#32
  let v858 : BitVec 32 := Scalar.addi v5 c16_i32_732
  let c2_i32_733 : BitVec 32 := 2#32
  let v859 : BitVec 32 := Scalar.subi v858 c2_i32_733
  let c1_i32_734 : BitVec 32 := 1#32
  let v860 : BitVec 32 := Scalar.subi v859 c1_i32_734
  let c8_i32_971 : BitVec 32 := 8#32
  let v1125 : BitVec 32 := Scalar.remsi v860 c8_i32_971
  let c256_i32_972 : BitVec 32 := 256#32
  let v1126 : BitVec 32 := Scalar.muli v1125 c256_i32_972
  let c192_i32_973 : BitVec 32 := 192#32
  let v1127 : BitVec 32 := Scalar.addi v1126 c192_i32_973
  v1127
def k0_dev55 (d0 : Dev nD) : Nat :=
  let c0_i32_986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_985 : BitVec 32 := 1#32
  let v1141 : BitVec 32 := Scalar.muli v16 c1_i32_985
  let v1142 : BitVec 32 := Scalar.addi c0_i32_986 v1141
  v1142.toNat
def k0_dev56 (d0 : Dev nD) : Nat :=
  let c0_i32_993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_992 : BitVec 32 := 1#32
  let v1151 : BitVec 32 := Scalar.muli v11 c1_i32_992
  let v1152 : BitVec 32 := Scalar.addi c0_i32_993 v1151
  v1152.toNat
def k0_mult48 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_735 : BitVec 32 := 2#32
  let v861 : BitVec 32 := Scalar.addi v5 c2_i32_735
  let c1_i32_736 : BitVec 32 := 1#32
  let v862 : BitVec 32 := Scalar.addi v861 c1_i32_736
  let c8_i32_994 : BitVec 32 := 8#32
  let v1153 : BitVec 32 := Scalar.remsi v862 c8_i32_994
  let c256_i32_995 : BitVec 32 := 256#32
  let v1154 : BitVec 32 := Scalar.muli v1153 c256_i32_995
  let c192_i32_996 : BitVec 32 := 192#32
  let v1155 : BitVec 32 := Scalar.addi v1154 c192_i32_996
  v1155
def k0_dev57 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1008 : BitVec 32 := 1#32
  let v1169 : BitVec 32 := Scalar.muli v11 c1_i32_1008
  let v1170 : BitVec 32 := Scalar.addi c0_i32_1009 v1169
  v1170.toNat
def k0_dev58 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1015 : BitVec 32 := 1#32
  let v1179 : BitVec 32 := Scalar.muli v16 c1_i32_1015
  let v1180 : BitVec 32 := Scalar.addi c0_i32_1016 v1179
  v1180.toNat
def k0_mult49 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1017 : BitVec 32 := 16#32
  let v1181 : BitVec 32 := Scalar.addi v5 c16_i32_1017
  let c3_i32_1018 : BitVec 32 := 3#32
  let v1182 : BitVec 32 := Scalar.subi v1181 c3_i32_1018
  let c1_i32_1019 : BitVec 32 := 1#32
  let v1183 : BitVec 32 := Scalar.subi v1182 c1_i32_1019
  let c8_i32_1022 : BitVec 32 := 8#32
  let v1186 : BitVec 32 := Scalar.remsi v1183 c8_i32_1022
  let c256_i32_1023 : BitVec 32 := 256#32
  let v1187 : BitVec 32 := Scalar.muli v1186 c256_i32_1023
  v1187
def k0_mult50 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1017 : BitVec 32 := 16#32
  let v1181 : BitVec 32 := Scalar.addi v5 c16_i32_1017
  let c3_i32_1018 : BitVec 32 := 3#32
  let v1182 : BitVec 32 := Scalar.subi v1181 c3_i32_1018
  let c1_i32_1019 : BitVec 32 := 1#32
  let v1183 : BitVec 32 := Scalar.subi v1182 c1_i32_1019
  let c8_i32_1028 : BitVec 32 := 8#32
  let v1196 : BitVec 32 := Scalar.remsi v1183 c8_i32_1028
  let c256_i32_1029 : BitVec 32 := 256#32
  let v1197 : BitVec 32 := Scalar.muli v1196 c256_i32_1029
  v1197
def k0_mult51 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_1020 : BitVec 32 := 3#32
  let v1184 : BitVec 32 := Scalar.addi v5 c3_i32_1020
  let c1_i32_1021 : BitVec 32 := 1#32
  let v1185 : BitVec 32 := Scalar.addi v1184 c1_i32_1021
  let c8_i32_1031 : BitVec 32 := 8#32
  let v1201 : BitVec 32 := Scalar.remsi v1185 c8_i32_1031
  let c256_i32_1032 : BitVec 32 := 256#32
  let v1202 : BitVec 32 := Scalar.muli v1201 c256_i32_1032
  v1202
def k0_mult52 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_1020 : BitVec 32 := 3#32
  let v1184 : BitVec 32 := Scalar.addi v5 c3_i32_1020
  let c1_i32_1021 : BitVec 32 := 1#32
  let v1185 : BitVec 32 := Scalar.addi v1184 c1_i32_1021
  let c8_i32_1037 : BitVec 32 := 8#32
  let v1211 : BitVec 32 := Scalar.remsi v1185 c8_i32_1037
  let c256_i32_1038 : BitVec 32 := 256#32
  let v1212 : BitVec 32 := Scalar.muli v1211 c256_i32_1038
  v1212
def k0_mult53 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1017 : BitVec 32 := 16#32
  let v1181 : BitVec 32 := Scalar.addi v5 c16_i32_1017
  let c3_i32_1018 : BitVec 32 := 3#32
  let v1182 : BitVec 32 := Scalar.subi v1181 c3_i32_1018
  let c1_i32_1019 : BitVec 32 := 1#32
  let v1183 : BitVec 32 := Scalar.subi v1182 c1_i32_1019
  let c8_i32_1060 : BitVec 32 := 8#32
  let v1232 : BitVec 32 := Scalar.remsi v1183 c8_i32_1060
  let c256_i32_1061 : BitVec 32 := 256#32
  let v1233 : BitVec 32 := Scalar.muli v1232 c256_i32_1061
  let c0_i32_1062 : BitVec 32 := 0#32
  let v1234 : BitVec 32 := Scalar.addi v1233 c0_i32_1062
  v1234
def k0_dev59 (d0 : Dev nD) : Nat :=
  let c0_i32_1086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1085 : BitVec 32 := 1#32
  let v1254 : BitVec 32 := Scalar.muli v16 c1_i32_1085
  let v1255 : BitVec 32 := Scalar.addi c0_i32_1086 v1254
  v1255.toNat
def k0_dev60 (d0 : Dev nD) : Nat :=
  let c0_i32_1093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1092 : BitVec 32 := 1#32
  let v1264 : BitVec 32 := Scalar.muli v11 c1_i32_1092
  let v1265 : BitVec 32 := Scalar.addi c0_i32_1093 v1264
  v1265.toNat
def k0_mult54 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_1020 : BitVec 32 := 3#32
  let v1184 : BitVec 32 := Scalar.addi v5 c3_i32_1020
  let c1_i32_1021 : BitVec 32 := 1#32
  let v1185 : BitVec 32 := Scalar.addi v1184 c1_i32_1021
  let c8_i32_1094 : BitVec 32 := 8#32
  let v1266 : BitVec 32 := Scalar.remsi v1185 c8_i32_1094
  let c256_i32_1095 : BitVec 32 := 256#32
  let v1267 : BitVec 32 := Scalar.muli v1266 c256_i32_1095
  let c0_i32_1096 : BitVec 32 := 0#32
  let v1268 : BitVec 32 := Scalar.addi v1267 c0_i32_1096
  v1268
def k0_dev61 (d0 : Dev nD) : Nat :=
  let c0_i32_1120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1119 : BitVec 32 := 1#32
  let v1288 : BitVec 32 := Scalar.muli v11 c1_i32_1119
  let v1289 : BitVec 32 := Scalar.addi c0_i32_1120 v1288
  v1289.toNat
def k0_dev62 (d0 : Dev nD) : Nat :=
  let c0_i32_1127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1126 : BitVec 32 := 1#32
  let v1298 : BitVec 32 := Scalar.muli v16 c1_i32_1126
  let v1299 : BitVec 32 := Scalar.addi c0_i32_1127 v1298
  v1299.toNat
def k0_mult55 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1017 : BitVec 32 := 16#32
  let v1181 : BitVec 32 := Scalar.addi v5 c16_i32_1017
  let c3_i32_1018 : BitVec 32 := 3#32
  let v1182 : BitVec 32 := Scalar.subi v1181 c3_i32_1018
  let c1_i32_1019 : BitVec 32 := 1#32
  let v1183 : BitVec 32 := Scalar.subi v1182 c1_i32_1019
  let c8_i32_1148 : BitVec 32 := 8#32
  let v1316 : BitVec 32 := Scalar.remsi v1183 c8_i32_1148
  let c256_i32_1149 : BitVec 32 := 256#32
  let v1317 : BitVec 32 := Scalar.muli v1316 c256_i32_1149
  let c64_i32_1150 : BitVec 32 := 64#32
  let v1318 : BitVec 32 := Scalar.addi v1317 c64_i32_1150
  v1318
def k0_dev63 (d0 : Dev nD) : Nat :=
  let c0_i32_1174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1173 : BitVec 32 := 1#32
  let v1338 : BitVec 32 := Scalar.muli v16 c1_i32_1173
  let v1339 : BitVec 32 := Scalar.addi c0_i32_1174 v1338
  v1339.toNat
def k0_dev64 (d0 : Dev nD) : Nat :=
  let c0_i32_1181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1180 : BitVec 32 := 1#32
  let v1348 : BitVec 32 := Scalar.muli v11 c1_i32_1180
  let v1349 : BitVec 32 := Scalar.addi c0_i32_1181 v1348
  v1349.toNat
def k0_mult56 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_1020 : BitVec 32 := 3#32
  let v1184 : BitVec 32 := Scalar.addi v5 c3_i32_1020
  let c1_i32_1021 : BitVec 32 := 1#32
  let v1185 : BitVec 32 := Scalar.addi v1184 c1_i32_1021
  let c8_i32_1182 : BitVec 32 := 8#32
  let v1350 : BitVec 32 := Scalar.remsi v1185 c8_i32_1182
  let c256_i32_1183 : BitVec 32 := 256#32
  let v1351 : BitVec 32 := Scalar.muli v1350 c256_i32_1183
  let c64_i32_1184 : BitVec 32 := 64#32
  let v1352 : BitVec 32 := Scalar.addi v1351 c64_i32_1184
  v1352
def k0_dev65 (d0 : Dev nD) : Nat :=
  let c0_i32_1208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1207 : BitVec 32 := 1#32
  let v1372 : BitVec 32 := Scalar.muli v11 c1_i32_1207
  let v1373 : BitVec 32 := Scalar.addi c0_i32_1208 v1372
  v1373.toNat
def k0_dev66 (d0 : Dev nD) : Nat :=
  let c0_i32_1215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1214 : BitVec 32 := 1#32
  let v1382 : BitVec 32 := Scalar.muli v16 c1_i32_1214
  let v1383 : BitVec 32 := Scalar.addi c0_i32_1215 v1382
  v1383.toNat
def k0_mult57 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1017 : BitVec 32 := 16#32
  let v1181 : BitVec 32 := Scalar.addi v5 c16_i32_1017
  let c3_i32_1018 : BitVec 32 := 3#32
  let v1182 : BitVec 32 := Scalar.subi v1181 c3_i32_1018
  let c1_i32_1019 : BitVec 32 := 1#32
  let v1183 : BitVec 32 := Scalar.subi v1182 c1_i32_1019
  let c8_i32_1236 : BitVec 32 := 8#32
  let v1400 : BitVec 32 := Scalar.remsi v1183 c8_i32_1236
  let c256_i32_1237 : BitVec 32 := 256#32
  let v1401 : BitVec 32 := Scalar.muli v1400 c256_i32_1237
  let c128_i32_1238 : BitVec 32 := 128#32
  let v1402 : BitVec 32 := Scalar.addi v1401 c128_i32_1238
  v1402
def k0_dev67 (d0 : Dev nD) : Nat :=
  let c0_i32_1262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1261 : BitVec 32 := 1#32
  let v1422 : BitVec 32 := Scalar.muli v16 c1_i32_1261
  let v1423 : BitVec 32 := Scalar.addi c0_i32_1262 v1422
  v1423.toNat
def k0_dev68 (d0 : Dev nD) : Nat :=
  let c0_i32_1269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1268 : BitVec 32 := 1#32
  let v1432 : BitVec 32 := Scalar.muli v11 c1_i32_1268
  let v1433 : BitVec 32 := Scalar.addi c0_i32_1269 v1432
  v1433.toNat
def k0_mult58 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_1020 : BitVec 32 := 3#32
  let v1184 : BitVec 32 := Scalar.addi v5 c3_i32_1020
  let c1_i32_1021 : BitVec 32 := 1#32
  let v1185 : BitVec 32 := Scalar.addi v1184 c1_i32_1021
  let c8_i32_1270 : BitVec 32 := 8#32
  let v1434 : BitVec 32 := Scalar.remsi v1185 c8_i32_1270
  let c256_i32_1271 : BitVec 32 := 256#32
  let v1435 : BitVec 32 := Scalar.muli v1434 c256_i32_1271
  let c128_i32_1272 : BitVec 32 := 128#32
  let v1436 : BitVec 32 := Scalar.addi v1435 c128_i32_1272
  v1436
def k0_dev69 (d0 : Dev nD) : Nat :=
  let c0_i32_1296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1295 : BitVec 32 := 1#32
  let v1456 : BitVec 32 := Scalar.muli v11 c1_i32_1295
  let v1457 : BitVec 32 := Scalar.addi c0_i32_1296 v1456
  v1457.toNat
def k0_dev70 (d0 : Dev nD) : Nat :=
  let c0_i32_1303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1302 : BitVec 32 := 1#32
  let v1466 : BitVec 32 := Scalar.muli v16 c1_i32_1302
  let v1467 : BitVec 32 := Scalar.addi c0_i32_1303 v1466
  v1467.toNat
def k0_mult59 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1017 : BitVec 32 := 16#32
  let v1181 : BitVec 32 := Scalar.addi v5 c16_i32_1017
  let c3_i32_1018 : BitVec 32 := 3#32
  let v1182 : BitVec 32 := Scalar.subi v1181 c3_i32_1018
  let c1_i32_1019 : BitVec 32 := 1#32
  let v1183 : BitVec 32 := Scalar.subi v1182 c1_i32_1019
  let c8_i32_1324 : BitVec 32 := 8#32
  let v1484 : BitVec 32 := Scalar.remsi v1183 c8_i32_1324
  let c256_i32_1325 : BitVec 32 := 256#32
  let v1485 : BitVec 32 := Scalar.muli v1484 c256_i32_1325
  let c192_i32_1326 : BitVec 32 := 192#32
  let v1486 : BitVec 32 := Scalar.addi v1485 c192_i32_1326
  v1486
def k0_dev71 (d0 : Dev nD) : Nat :=
  let c0_i32_1350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1349 : BitVec 32 := 1#32
  let v1506 : BitVec 32 := Scalar.muli v16 c1_i32_1349
  let v1507 : BitVec 32 := Scalar.addi c0_i32_1350 v1506
  v1507.toNat
def k0_dev72 (d0 : Dev nD) : Nat :=
  let c0_i32_1357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1356 : BitVec 32 := 1#32
  let v1516 : BitVec 32 := Scalar.muli v11 c1_i32_1356
  let v1517 : BitVec 32 := Scalar.addi c0_i32_1357 v1516
  v1517.toNat
def k0_mult60 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_1020 : BitVec 32 := 3#32
  let v1184 : BitVec 32 := Scalar.addi v5 c3_i32_1020
  let c1_i32_1021 : BitVec 32 := 1#32
  let v1185 : BitVec 32 := Scalar.addi v1184 c1_i32_1021
  let c8_i32_1358 : BitVec 32 := 8#32
  let v1518 : BitVec 32 := Scalar.remsi v1185 c8_i32_1358
  let c256_i32_1359 : BitVec 32 := 256#32
  let v1519 : BitVec 32 := Scalar.muli v1518 c256_i32_1359
  let c192_i32_1360 : BitVec 32 := 192#32
  let v1520 : BitVec 32 := Scalar.addi v1519 c192_i32_1360
  v1520
def k0_dev73 (d0 : Dev nD) : Nat :=
  let c0_i32_1384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1383 : BitVec 32 := 1#32
  let v1540 : BitVec 32 := Scalar.muli v11 c1_i32_1383
  let v1541 : BitVec 32 := Scalar.addi c0_i32_1384 v1540
  v1541.toNat
def k0_dev74 (d0 : Dev nD) : Nat :=
  let c0_i32_1391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1390 : BitVec 32 := 1#32
  let v1550 : BitVec 32 := Scalar.muli v16 c1_i32_1390
  let v1551 : BitVec 32 := Scalar.addi c0_i32_1391 v1550
  v1551.toNat
def k0_mult61 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1392 : BitVec 32 := 16#32
  let v1552 : BitVec 32 := Scalar.addi v5 c16_i32_1392
  let c4_i32_1393 : BitVec 32 := 4#32
  let v1553 : BitVec 32 := Scalar.subi v1552 c4_i32_1393
  let c1_i32_1394 : BitVec 32 := 1#32
  let v1554 : BitVec 32 := Scalar.subi v1553 c1_i32_1394
  let c8_i32_1397 : BitVec 32 := 8#32
  let v1557 : BitVec 32 := Scalar.remsi v1554 c8_i32_1397
  let c256_i32_1398 : BitVec 32 := 256#32
  let v1558 : BitVec 32 := Scalar.muli v1557 c256_i32_1398
  v1558
def k0_mult62 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1392 : BitVec 32 := 16#32
  let v1552 : BitVec 32 := Scalar.addi v5 c16_i32_1392
  let c4_i32_1393 : BitVec 32 := 4#32
  let v1553 : BitVec 32 := Scalar.subi v1552 c4_i32_1393
  let c1_i32_1394 : BitVec 32 := 1#32
  let v1554 : BitVec 32 := Scalar.subi v1553 c1_i32_1394
  let c8_i32_1403 : BitVec 32 := 8#32
  let v1567 : BitVec 32 := Scalar.remsi v1554 c8_i32_1403
  let c256_i32_1404 : BitVec 32 := 256#32
  let v1568 : BitVec 32 := Scalar.muli v1567 c256_i32_1404
  v1568
def k0_mult63 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_1395 : BitVec 32 := 4#32
  let v1555 : BitVec 32 := Scalar.addi v5 c4_i32_1395
  let c1_i32_1396 : BitVec 32 := 1#32
  let v1556 : BitVec 32 := Scalar.addi v1555 c1_i32_1396
  let c8_i32_1406 : BitVec 32 := 8#32
  let v1572 : BitVec 32 := Scalar.remsi v1556 c8_i32_1406
  let c256_i32_1407 : BitVec 32 := 256#32
  let v1573 : BitVec 32 := Scalar.muli v1572 c256_i32_1407
  v1573
def k0_mult64 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_1395 : BitVec 32 := 4#32
  let v1555 : BitVec 32 := Scalar.addi v5 c4_i32_1395
  let c1_i32_1396 : BitVec 32 := 1#32
  let v1556 : BitVec 32 := Scalar.addi v1555 c1_i32_1396
  let c8_i32_1412 : BitVec 32 := 8#32
  let v1582 : BitVec 32 := Scalar.remsi v1556 c8_i32_1412
  let c256_i32_1413 : BitVec 32 := 256#32
  let v1583 : BitVec 32 := Scalar.muli v1582 c256_i32_1413
  v1583
def k0_mult65 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1392 : BitVec 32 := 16#32
  let v1552 : BitVec 32 := Scalar.addi v5 c16_i32_1392
  let c4_i32_1393 : BitVec 32 := 4#32
  let v1553 : BitVec 32 := Scalar.subi v1552 c4_i32_1393
  let c1_i32_1394 : BitVec 32 := 1#32
  let v1554 : BitVec 32 := Scalar.subi v1553 c1_i32_1394
  let c8_i32_1435 : BitVec 32 := 8#32
  let v1603 : BitVec 32 := Scalar.remsi v1554 c8_i32_1435
  let c256_i32_1436 : BitVec 32 := 256#32
  let v1604 : BitVec 32 := Scalar.muli v1603 c256_i32_1436
  let c0_i32_1437 : BitVec 32 := 0#32
  let v1605 : BitVec 32 := Scalar.addi v1604 c0_i32_1437
  v1605
def k0_dev75 (d0 : Dev nD) : Nat :=
  let c0_i32_1461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1460 : BitVec 32 := 1#32
  let v1625 : BitVec 32 := Scalar.muli v16 c1_i32_1460
  let v1626 : BitVec 32 := Scalar.addi c0_i32_1461 v1625
  v1626.toNat
def k0_dev76 (d0 : Dev nD) : Nat :=
  let c0_i32_1468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1467 : BitVec 32 := 1#32
  let v1635 : BitVec 32 := Scalar.muli v11 c1_i32_1467
  let v1636 : BitVec 32 := Scalar.addi c0_i32_1468 v1635
  v1636.toNat
def k0_mult66 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_1395 : BitVec 32 := 4#32
  let v1555 : BitVec 32 := Scalar.addi v5 c4_i32_1395
  let c1_i32_1396 : BitVec 32 := 1#32
  let v1556 : BitVec 32 := Scalar.addi v1555 c1_i32_1396
  let c8_i32_1469 : BitVec 32 := 8#32
  let v1637 : BitVec 32 := Scalar.remsi v1556 c8_i32_1469
  let c256_i32_1470 : BitVec 32 := 256#32
  let v1638 : BitVec 32 := Scalar.muli v1637 c256_i32_1470
  let c0_i32_1471 : BitVec 32 := 0#32
  let v1639 : BitVec 32 := Scalar.addi v1638 c0_i32_1471
  v1639
def k0_dev77 (d0 : Dev nD) : Nat :=
  let c0_i32_1495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1494 : BitVec 32 := 1#32
  let v1659 : BitVec 32 := Scalar.muli v11 c1_i32_1494
  let v1660 : BitVec 32 := Scalar.addi c0_i32_1495 v1659
  v1660.toNat
def k0_dev78 (d0 : Dev nD) : Nat :=
  let c0_i32_1502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1501 : BitVec 32 := 1#32
  let v1669 : BitVec 32 := Scalar.muli v16 c1_i32_1501
  let v1670 : BitVec 32 := Scalar.addi c0_i32_1502 v1669
  v1670.toNat
def k0_mult67 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1392 : BitVec 32 := 16#32
  let v1552 : BitVec 32 := Scalar.addi v5 c16_i32_1392
  let c4_i32_1393 : BitVec 32 := 4#32
  let v1553 : BitVec 32 := Scalar.subi v1552 c4_i32_1393
  let c1_i32_1394 : BitVec 32 := 1#32
  let v1554 : BitVec 32 := Scalar.subi v1553 c1_i32_1394
  let c8_i32_1523 : BitVec 32 := 8#32
  let v1687 : BitVec 32 := Scalar.remsi v1554 c8_i32_1523
  let c256_i32_1524 : BitVec 32 := 256#32
  let v1688 : BitVec 32 := Scalar.muli v1687 c256_i32_1524
  let c64_i32_1525 : BitVec 32 := 64#32
  let v1689 : BitVec 32 := Scalar.addi v1688 c64_i32_1525
  v1689
def k0_dev79 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1548 : BitVec 32 := 1#32
  let v1709 : BitVec 32 := Scalar.muli v16 c1_i32_1548
  let v1710 : BitVec 32 := Scalar.addi c0_i32_1549 v1709
  v1710.toNat
def k0_dev80 (d0 : Dev nD) : Nat :=
  let c0_i32_1556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1555 : BitVec 32 := 1#32
  let v1719 : BitVec 32 := Scalar.muli v11 c1_i32_1555
  let v1720 : BitVec 32 := Scalar.addi c0_i32_1556 v1719
  v1720.toNat
def k0_mult68 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_1395 : BitVec 32 := 4#32
  let v1555 : BitVec 32 := Scalar.addi v5 c4_i32_1395
  let c1_i32_1396 : BitVec 32 := 1#32
  let v1556 : BitVec 32 := Scalar.addi v1555 c1_i32_1396
  let c8_i32_1557 : BitVec 32 := 8#32
  let v1721 : BitVec 32 := Scalar.remsi v1556 c8_i32_1557
  let c256_i32_1558 : BitVec 32 := 256#32
  let v1722 : BitVec 32 := Scalar.muli v1721 c256_i32_1558
  let c64_i32_1559 : BitVec 32 := 64#32
  let v1723 : BitVec 32 := Scalar.addi v1722 c64_i32_1559
  v1723
def k0_dev81 (d0 : Dev nD) : Nat :=
  let c0_i32_1583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1582 : BitVec 32 := 1#32
  let v1743 : BitVec 32 := Scalar.muli v11 c1_i32_1582
  let v1744 : BitVec 32 := Scalar.addi c0_i32_1583 v1743
  v1744.toNat
def k0_dev82 (d0 : Dev nD) : Nat :=
  let c0_i32_1590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1589 : BitVec 32 := 1#32
  let v1753 : BitVec 32 := Scalar.muli v16 c1_i32_1589
  let v1754 : BitVec 32 := Scalar.addi c0_i32_1590 v1753
  v1754.toNat
def k0_mult69 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1392 : BitVec 32 := 16#32
  let v1552 : BitVec 32 := Scalar.addi v5 c16_i32_1392
  let c4_i32_1393 : BitVec 32 := 4#32
  let v1553 : BitVec 32 := Scalar.subi v1552 c4_i32_1393
  let c1_i32_1394 : BitVec 32 := 1#32
  let v1554 : BitVec 32 := Scalar.subi v1553 c1_i32_1394
  let c8_i32_1611 : BitVec 32 := 8#32
  let v1771 : BitVec 32 := Scalar.remsi v1554 c8_i32_1611
  let c256_i32_1612 : BitVec 32 := 256#32
  let v1772 : BitVec 32 := Scalar.muli v1771 c256_i32_1612
  let c128_i32_1613 : BitVec 32 := 128#32
  let v1773 : BitVec 32 := Scalar.addi v1772 c128_i32_1613
  v1773
def k0_dev83 (d0 : Dev nD) : Nat :=
  let c0_i32_1637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1636 : BitVec 32 := 1#32
  let v1793 : BitVec 32 := Scalar.muli v16 c1_i32_1636
  let v1794 : BitVec 32 := Scalar.addi c0_i32_1637 v1793
  v1794.toNat
def k0_dev84 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1643 : BitVec 32 := 1#32
  let v1803 : BitVec 32 := Scalar.muli v11 c1_i32_1643
  let v1804 : BitVec 32 := Scalar.addi c0_i32_1644 v1803
  v1804.toNat
def k0_mult70 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_1395 : BitVec 32 := 4#32
  let v1555 : BitVec 32 := Scalar.addi v5 c4_i32_1395
  let c1_i32_1396 : BitVec 32 := 1#32
  let v1556 : BitVec 32 := Scalar.addi v1555 c1_i32_1396
  let c8_i32_1645 : BitVec 32 := 8#32
  let v1805 : BitVec 32 := Scalar.remsi v1556 c8_i32_1645
  let c256_i32_1646 : BitVec 32 := 256#32
  let v1806 : BitVec 32 := Scalar.muli v1805 c256_i32_1646
  let c128_i32_1647 : BitVec 32 := 128#32
  let v1807 : BitVec 32 := Scalar.addi v1806 c128_i32_1647
  v1807
def k0_dev85 (d0 : Dev nD) : Nat :=
  let c0_i32_1671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1670 : BitVec 32 := 1#32
  let v1827 : BitVec 32 := Scalar.muli v11 c1_i32_1670
  let v1828 : BitVec 32 := Scalar.addi c0_i32_1671 v1827
  v1828.toNat
def k0_dev86 (d0 : Dev nD) : Nat :=
  let c0_i32_1678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1677 : BitVec 32 := 1#32
  let v1837 : BitVec 32 := Scalar.muli v16 c1_i32_1677
  let v1838 : BitVec 32 := Scalar.addi c0_i32_1678 v1837
  v1838.toNat
def k0_mult71 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1392 : BitVec 32 := 16#32
  let v1552 : BitVec 32 := Scalar.addi v5 c16_i32_1392
  let c4_i32_1393 : BitVec 32 := 4#32
  let v1553 : BitVec 32 := Scalar.subi v1552 c4_i32_1393
  let c1_i32_1394 : BitVec 32 := 1#32
  let v1554 : BitVec 32 := Scalar.subi v1553 c1_i32_1394
  let c8_i32_1699 : BitVec 32 := 8#32
  let v1855 : BitVec 32 := Scalar.remsi v1554 c8_i32_1699
  let c256_i32_1700 : BitVec 32 := 256#32
  let v1856 : BitVec 32 := Scalar.muli v1855 c256_i32_1700
  let c192_i32_1701 : BitVec 32 := 192#32
  let v1857 : BitVec 32 := Scalar.addi v1856 c192_i32_1701
  v1857
def k0_dev87 (d0 : Dev nD) : Nat :=
  let c0_i32_1725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1724 : BitVec 32 := 1#32
  let v1877 : BitVec 32 := Scalar.muli v16 c1_i32_1724
  let v1878 : BitVec 32 := Scalar.addi c0_i32_1725 v1877
  v1878.toNat
def k0_dev88 (d0 : Dev nD) : Nat :=
  let c0_i32_1732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1731 : BitVec 32 := 1#32
  let v1887 : BitVec 32 := Scalar.muli v11 c1_i32_1731
  let v1888 : BitVec 32 := Scalar.addi c0_i32_1732 v1887
  v1888.toNat
def k0_mult72 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_1395 : BitVec 32 := 4#32
  let v1555 : BitVec 32 := Scalar.addi v5 c4_i32_1395
  let c1_i32_1396 : BitVec 32 := 1#32
  let v1556 : BitVec 32 := Scalar.addi v1555 c1_i32_1396
  let c8_i32_1733 : BitVec 32 := 8#32
  let v1889 : BitVec 32 := Scalar.remsi v1556 c8_i32_1733
  let c256_i32_1734 : BitVec 32 := 256#32
  let v1890 : BitVec 32 := Scalar.muli v1889 c256_i32_1734
  let c192_i32_1735 : BitVec 32 := 192#32
  let v1891 : BitVec 32 := Scalar.addi v1890 c192_i32_1735
  v1891
def k0_dev89 (d0 : Dev nD) : Nat :=
  let c0_i32_1759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1758 : BitVec 32 := 1#32
  let v1911 : BitVec 32 := Scalar.muli v11 c1_i32_1758
  let v1912 : BitVec 32 := Scalar.addi c0_i32_1759 v1911
  v1912.toNat
def k0_dev90 (d0 : Dev nD) : Nat :=
  let c0_i32_1766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1765 : BitVec 32 := 1#32
  let v1921 : BitVec 32 := Scalar.muli v16 c1_i32_1765
  let v1922 : BitVec 32 := Scalar.addi c0_i32_1766 v1921
  v1922.toNat
def k0_mult73 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1767 : BitVec 32 := 16#32
  let v1923 : BitVec 32 := Scalar.addi v5 c16_i32_1767
  let c5_i32 : BitVec 32 := 5#32
  let v1924 : BitVec 32 := Scalar.subi v1923 c5_i32
  let c1_i32_1768 : BitVec 32 := 1#32
  let v1925 : BitVec 32 := Scalar.subi v1924 c1_i32_1768
  let c8_i32_1771 : BitVec 32 := 8#32
  let v1928 : BitVec 32 := Scalar.remsi v1925 c8_i32_1771
  let c256_i32_1772 : BitVec 32 := 256#32
  let v1929 : BitVec 32 := Scalar.muli v1928 c256_i32_1772
  v1929
def k0_mult74 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1767 : BitVec 32 := 16#32
  let v1923 : BitVec 32 := Scalar.addi v5 c16_i32_1767
  let c5_i32 : BitVec 32 := 5#32
  let v1924 : BitVec 32 := Scalar.subi v1923 c5_i32
  let c1_i32_1768 : BitVec 32 := 1#32
  let v1925 : BitVec 32 := Scalar.subi v1924 c1_i32_1768
  let c8_i32_1777 : BitVec 32 := 8#32
  let v1938 : BitVec 32 := Scalar.remsi v1925 c8_i32_1777
  let c256_i32_1778 : BitVec 32 := 256#32
  let v1939 : BitVec 32 := Scalar.muli v1938 c256_i32_1778
  v1939
def k0_mult75 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_1769 : BitVec 32 := 5#32
  let v1926 : BitVec 32 := Scalar.addi v5 c5_i32_1769
  let c1_i32_1770 : BitVec 32 := 1#32
  let v1927 : BitVec 32 := Scalar.addi v1926 c1_i32_1770
  let c8_i32_1780 : BitVec 32 := 8#32
  let v1943 : BitVec 32 := Scalar.remsi v1927 c8_i32_1780
  let c256_i32_1781 : BitVec 32 := 256#32
  let v1944 : BitVec 32 := Scalar.muli v1943 c256_i32_1781
  v1944
def k0_mult76 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_1769 : BitVec 32 := 5#32
  let v1926 : BitVec 32 := Scalar.addi v5 c5_i32_1769
  let c1_i32_1770 : BitVec 32 := 1#32
  let v1927 : BitVec 32 := Scalar.addi v1926 c1_i32_1770
  let c8_i32_1786 : BitVec 32 := 8#32
  let v1953 : BitVec 32 := Scalar.remsi v1927 c8_i32_1786
  let c256_i32_1787 : BitVec 32 := 256#32
  let v1954 : BitVec 32 := Scalar.muli v1953 c256_i32_1787
  v1954
def k0_mult77 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1767 : BitVec 32 := 16#32
  let v1923 : BitVec 32 := Scalar.addi v5 c16_i32_1767
  let c5_i32 : BitVec 32 := 5#32
  let v1924 : BitVec 32 := Scalar.subi v1923 c5_i32
  let c1_i32_1768 : BitVec 32 := 1#32
  let v1925 : BitVec 32 := Scalar.subi v1924 c1_i32_1768
  let c8_i32_1809 : BitVec 32 := 8#32
  let v1974 : BitVec 32 := Scalar.remsi v1925 c8_i32_1809
  let c256_i32_1810 : BitVec 32 := 256#32
  let v1975 : BitVec 32 := Scalar.muli v1974 c256_i32_1810
  let c0_i32_1811 : BitVec 32 := 0#32
  let v1976 : BitVec 32 := Scalar.addi v1975 c0_i32_1811
  v1976
def k0_dev91 (d0 : Dev nD) : Nat :=
  let c0_i32_1835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1834 : BitVec 32 := 1#32
  let v1996 : BitVec 32 := Scalar.muli v16 c1_i32_1834
  let v1997 : BitVec 32 := Scalar.addi c0_i32_1835 v1996
  v1997.toNat
def k0_dev92 (d0 : Dev nD) : Nat :=
  let c0_i32_1842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1841 : BitVec 32 := 1#32
  let v2006 : BitVec 32 := Scalar.muli v11 c1_i32_1841
  let v2007 : BitVec 32 := Scalar.addi c0_i32_1842 v2006
  v2007.toNat
def k0_mult78 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_1769 : BitVec 32 := 5#32
  let v1926 : BitVec 32 := Scalar.addi v5 c5_i32_1769
  let c1_i32_1770 : BitVec 32 := 1#32
  let v1927 : BitVec 32 := Scalar.addi v1926 c1_i32_1770
  let c8_i32_1843 : BitVec 32 := 8#32
  let v2008 : BitVec 32 := Scalar.remsi v1927 c8_i32_1843
  let c256_i32_1844 : BitVec 32 := 256#32
  let v2009 : BitVec 32 := Scalar.muli v2008 c256_i32_1844
  let c0_i32_1845 : BitVec 32 := 0#32
  let v2010 : BitVec 32 := Scalar.addi v2009 c0_i32_1845
  v2010
def k0_dev93 (d0 : Dev nD) : Nat :=
  let c0_i32_1869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1868 : BitVec 32 := 1#32
  let v2030 : BitVec 32 := Scalar.muli v11 c1_i32_1868
  let v2031 : BitVec 32 := Scalar.addi c0_i32_1869 v2030
  v2031.toNat
def k0_dev94 (d0 : Dev nD) : Nat :=
  let c0_i32_1876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1875 : BitVec 32 := 1#32
  let v2040 : BitVec 32 := Scalar.muli v16 c1_i32_1875
  let v2041 : BitVec 32 := Scalar.addi c0_i32_1876 v2040
  v2041.toNat
def k0_mult79 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1767 : BitVec 32 := 16#32
  let v1923 : BitVec 32 := Scalar.addi v5 c16_i32_1767
  let c5_i32 : BitVec 32 := 5#32
  let v1924 : BitVec 32 := Scalar.subi v1923 c5_i32
  let c1_i32_1768 : BitVec 32 := 1#32
  let v1925 : BitVec 32 := Scalar.subi v1924 c1_i32_1768
  let c8_i32_1897 : BitVec 32 := 8#32
  let v2058 : BitVec 32 := Scalar.remsi v1925 c8_i32_1897
  let c256_i32_1898 : BitVec 32 := 256#32
  let v2059 : BitVec 32 := Scalar.muli v2058 c256_i32_1898
  let c64_i32_1899 : BitVec 32 := 64#32
  let v2060 : BitVec 32 := Scalar.addi v2059 c64_i32_1899
  v2060
def k0_dev95 (d0 : Dev nD) : Nat :=
  let c0_i32_1923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1922 : BitVec 32 := 1#32
  let v2080 : BitVec 32 := Scalar.muli v16 c1_i32_1922
  let v2081 : BitVec 32 := Scalar.addi c0_i32_1923 v2080
  v2081.toNat
def k0_dev96 (d0 : Dev nD) : Nat :=
  let c0_i32_1930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1929 : BitVec 32 := 1#32
  let v2090 : BitVec 32 := Scalar.muli v11 c1_i32_1929
  let v2091 : BitVec 32 := Scalar.addi c0_i32_1930 v2090
  v2091.toNat
def k0_mult80 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_1769 : BitVec 32 := 5#32
  let v1926 : BitVec 32 := Scalar.addi v5 c5_i32_1769
  let c1_i32_1770 : BitVec 32 := 1#32
  let v1927 : BitVec 32 := Scalar.addi v1926 c1_i32_1770
  let c8_i32_1931 : BitVec 32 := 8#32
  let v2092 : BitVec 32 := Scalar.remsi v1927 c8_i32_1931
  let c256_i32_1932 : BitVec 32 := 256#32
  let v2093 : BitVec 32 := Scalar.muli v2092 c256_i32_1932
  let c64_i32_1933 : BitVec 32 := 64#32
  let v2094 : BitVec 32 := Scalar.addi v2093 c64_i32_1933
  v2094
def k0_dev97 (d0 : Dev nD) : Nat :=
  let c0_i32_1957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1956 : BitVec 32 := 1#32
  let v2114 : BitVec 32 := Scalar.muli v11 c1_i32_1956
  let v2115 : BitVec 32 := Scalar.addi c0_i32_1957 v2114
  v2115.toNat
def k0_dev98 (d0 : Dev nD) : Nat :=
  let c0_i32_1964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1963 : BitVec 32 := 1#32
  let v2124 : BitVec 32 := Scalar.muli v16 c1_i32_1963
  let v2125 : BitVec 32 := Scalar.addi c0_i32_1964 v2124
  v2125.toNat
def k0_mult81 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1767 : BitVec 32 := 16#32
  let v1923 : BitVec 32 := Scalar.addi v5 c16_i32_1767
  let c5_i32 : BitVec 32 := 5#32
  let v1924 : BitVec 32 := Scalar.subi v1923 c5_i32
  let c1_i32_1768 : BitVec 32 := 1#32
  let v1925 : BitVec 32 := Scalar.subi v1924 c1_i32_1768
  let c8_i32_1985 : BitVec 32 := 8#32
  let v2142 : BitVec 32 := Scalar.remsi v1925 c8_i32_1985
  let c256_i32_1986 : BitVec 32 := 256#32
  let v2143 : BitVec 32 := Scalar.muli v2142 c256_i32_1986
  let c128_i32_1987 : BitVec 32 := 128#32
  let v2144 : BitVec 32 := Scalar.addi v2143 c128_i32_1987
  v2144
def k0_dev99 (d0 : Dev nD) : Nat :=
  let c0_i32_2011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2010 : BitVec 32 := 1#32
  let v2164 : BitVec 32 := Scalar.muli v16 c1_i32_2010
  let v2165 : BitVec 32 := Scalar.addi c0_i32_2011 v2164
  v2165.toNat
def k0_dev100 (d0 : Dev nD) : Nat :=
  let c0_i32_2018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2017 : BitVec 32 := 1#32
  let v2174 : BitVec 32 := Scalar.muli v11 c1_i32_2017
  let v2175 : BitVec 32 := Scalar.addi c0_i32_2018 v2174
  v2175.toNat
def k0_mult82 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_1769 : BitVec 32 := 5#32
  let v1926 : BitVec 32 := Scalar.addi v5 c5_i32_1769
  let c1_i32_1770 : BitVec 32 := 1#32
  let v1927 : BitVec 32 := Scalar.addi v1926 c1_i32_1770
  let c8_i32_2019 : BitVec 32 := 8#32
  let v2176 : BitVec 32 := Scalar.remsi v1927 c8_i32_2019
  let c256_i32_2020 : BitVec 32 := 256#32
  let v2177 : BitVec 32 := Scalar.muli v2176 c256_i32_2020
  let c128_i32_2021 : BitVec 32 := 128#32
  let v2178 : BitVec 32 := Scalar.addi v2177 c128_i32_2021
  v2178
def k0_dev101 (d0 : Dev nD) : Nat :=
  let c0_i32_2045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2044 : BitVec 32 := 1#32
  let v2198 : BitVec 32 := Scalar.muli v11 c1_i32_2044
  let v2199 : BitVec 32 := Scalar.addi c0_i32_2045 v2198
  v2199.toNat
def k0_dev102 (d0 : Dev nD) : Nat :=
  let c0_i32_2052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2051 : BitVec 32 := 1#32
  let v2208 : BitVec 32 := Scalar.muli v16 c1_i32_2051
  let v2209 : BitVec 32 := Scalar.addi c0_i32_2052 v2208
  v2209.toNat
def k0_mult83 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_1767 : BitVec 32 := 16#32
  let v1923 : BitVec 32 := Scalar.addi v5 c16_i32_1767
  let c5_i32 : BitVec 32 := 5#32
  let v1924 : BitVec 32 := Scalar.subi v1923 c5_i32
  let c1_i32_1768 : BitVec 32 := 1#32
  let v1925 : BitVec 32 := Scalar.subi v1924 c1_i32_1768
  let c8_i32_2073 : BitVec 32 := 8#32
  let v2226 : BitVec 32 := Scalar.remsi v1925 c8_i32_2073
  let c256_i32_2074 : BitVec 32 := 256#32
  let v2227 : BitVec 32 := Scalar.muli v2226 c256_i32_2074
  let c192_i32_2075 : BitVec 32 := 192#32
  let v2228 : BitVec 32 := Scalar.addi v2227 c192_i32_2075
  v2228
def k0_dev103 (d0 : Dev nD) : Nat :=
  let c0_i32_2099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2098 : BitVec 32 := 1#32
  let v2248 : BitVec 32 := Scalar.muli v16 c1_i32_2098
  let v2249 : BitVec 32 := Scalar.addi c0_i32_2099 v2248
  v2249.toNat
def k0_dev104 (d0 : Dev nD) : Nat :=
  let c0_i32_2106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2105 : BitVec 32 := 1#32
  let v2258 : BitVec 32 := Scalar.muli v11 c1_i32_2105
  let v2259 : BitVec 32 := Scalar.addi c0_i32_2106 v2258
  v2259.toNat
def k0_mult84 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_1769 : BitVec 32 := 5#32
  let v1926 : BitVec 32 := Scalar.addi v5 c5_i32_1769
  let c1_i32_1770 : BitVec 32 := 1#32
  let v1927 : BitVec 32 := Scalar.addi v1926 c1_i32_1770
  let c8_i32_2107 : BitVec 32 := 8#32
  let v2260 : BitVec 32 := Scalar.remsi v1927 c8_i32_2107
  let c256_i32_2108 : BitVec 32 := 256#32
  let v2261 : BitVec 32 := Scalar.muli v2260 c256_i32_2108
  let c192_i32_2109 : BitVec 32 := 192#32
  let v2262 : BitVec 32 := Scalar.addi v2261 c192_i32_2109
  v2262
def k0_dev105 (d0 : Dev nD) : Nat :=
  let c0_i32_2133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2132 : BitVec 32 := 1#32
  let v2282 : BitVec 32 := Scalar.muli v11 c1_i32_2132
  let v2283 : BitVec 32 := Scalar.addi c0_i32_2133 v2282
  v2283.toNat
def k0_dev106 (d0 : Dev nD) : Nat :=
  let c0_i32_2140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2139 : BitVec 32 := 1#32
  let v2292 : BitVec 32 := Scalar.muli v16 c1_i32_2139
  let v2293 : BitVec 32 := Scalar.addi c0_i32_2140 v2292
  v2293.toNat
def k0_mult85 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2141 : BitVec 32 := 16#32
  let v2294 : BitVec 32 := Scalar.addi v5 c16_i32_2141
  let c6_i32 : BitVec 32 := 6#32
  let v2295 : BitVec 32 := Scalar.subi v2294 c6_i32
  let c1_i32_2142 : BitVec 32 := 1#32
  let v2296 : BitVec 32 := Scalar.subi v2295 c1_i32_2142
  let c8_i32_2145 : BitVec 32 := 8#32
  let v2299 : BitVec 32 := Scalar.remsi v2296 c8_i32_2145
  let c256_i32_2146 : BitVec 32 := 256#32
  let v2300 : BitVec 32 := Scalar.muli v2299 c256_i32_2146
  v2300
def k0_mult86 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2141 : BitVec 32 := 16#32
  let v2294 : BitVec 32 := Scalar.addi v5 c16_i32_2141
  let c6_i32 : BitVec 32 := 6#32
  let v2295 : BitVec 32 := Scalar.subi v2294 c6_i32
  let c1_i32_2142 : BitVec 32 := 1#32
  let v2296 : BitVec 32 := Scalar.subi v2295 c1_i32_2142
  let c8_i32_2151 : BitVec 32 := 8#32
  let v2309 : BitVec 32 := Scalar.remsi v2296 c8_i32_2151
  let c256_i32_2152 : BitVec 32 := 256#32
  let v2310 : BitVec 32 := Scalar.muli v2309 c256_i32_2152
  v2310
def k0_mult87 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_2143 : BitVec 32 := 6#32
  let v2297 : BitVec 32 := Scalar.addi v5 c6_i32_2143
  let c1_i32_2144 : BitVec 32 := 1#32
  let v2298 : BitVec 32 := Scalar.addi v2297 c1_i32_2144
  let c8_i32_2154 : BitVec 32 := 8#32
  let v2314 : BitVec 32 := Scalar.remsi v2298 c8_i32_2154
  let c256_i32_2155 : BitVec 32 := 256#32
  let v2315 : BitVec 32 := Scalar.muli v2314 c256_i32_2155
  v2315
def k0_mult88 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_2143 : BitVec 32 := 6#32
  let v2297 : BitVec 32 := Scalar.addi v5 c6_i32_2143
  let c1_i32_2144 : BitVec 32 := 1#32
  let v2298 : BitVec 32 := Scalar.addi v2297 c1_i32_2144
  let c8_i32_2160 : BitVec 32 := 8#32
  let v2324 : BitVec 32 := Scalar.remsi v2298 c8_i32_2160
  let c256_i32_2161 : BitVec 32 := 256#32
  let v2325 : BitVec 32 := Scalar.muli v2324 c256_i32_2161
  v2325
def k0_mult89 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2141 : BitVec 32 := 16#32
  let v2294 : BitVec 32 := Scalar.addi v5 c16_i32_2141
  let c6_i32 : BitVec 32 := 6#32
  let v2295 : BitVec 32 := Scalar.subi v2294 c6_i32
  let c1_i32_2142 : BitVec 32 := 1#32
  let v2296 : BitVec 32 := Scalar.subi v2295 c1_i32_2142
  let c8_i32_2183 : BitVec 32 := 8#32
  let v2345 : BitVec 32 := Scalar.remsi v2296 c8_i32_2183
  let c256_i32_2184 : BitVec 32 := 256#32
  let v2346 : BitVec 32 := Scalar.muli v2345 c256_i32_2184
  let c0_i32_2185 : BitVec 32 := 0#32
  let v2347 : BitVec 32 := Scalar.addi v2346 c0_i32_2185
  v2347
def k0_dev107 (d0 : Dev nD) : Nat :=
  let c0_i32_2211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2210 : BitVec 32 := 1#32
  let v2371 : BitVec 32 := Scalar.muli v16 c1_i32_2210
  let v2372 : BitVec 32 := Scalar.addi c0_i32_2211 v2371
  v2372.toNat
def k0_dev108 (d0 : Dev nD) : Nat :=
  let c0_i32_2218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2217 : BitVec 32 := 1#32
  let v2381 : BitVec 32 := Scalar.muli v11 c1_i32_2217
  let v2382 : BitVec 32 := Scalar.addi c0_i32_2218 v2381
  v2382.toNat
def k0_mult90 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_2143 : BitVec 32 := 6#32
  let v2297 : BitVec 32 := Scalar.addi v5 c6_i32_2143
  let c1_i32_2144 : BitVec 32 := 1#32
  let v2298 : BitVec 32 := Scalar.addi v2297 c1_i32_2144
  let c8_i32_2219 : BitVec 32 := 8#32
  let v2383 : BitVec 32 := Scalar.remsi v2298 c8_i32_2219
  let c256_i32_2220 : BitVec 32 := 256#32
  let v2384 : BitVec 32 := Scalar.muli v2383 c256_i32_2220
  let c0_i32_2221 : BitVec 32 := 0#32
  let v2385 : BitVec 32 := Scalar.addi v2384 c0_i32_2221
  v2385
def k0_dev109 (d0 : Dev nD) : Nat :=
  let c0_i32_2247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2246 : BitVec 32 := 1#32
  let v2409 : BitVec 32 := Scalar.muli v11 c1_i32_2246
  let v2410 : BitVec 32 := Scalar.addi c0_i32_2247 v2409
  v2410.toNat
def k0_dev110 (d0 : Dev nD) : Nat :=
  let c0_i32_2254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2253 : BitVec 32 := 1#32
  let v2419 : BitVec 32 := Scalar.muli v16 c1_i32_2253
  let v2420 : BitVec 32 := Scalar.addi c0_i32_2254 v2419
  v2420.toNat
def k0_mult91 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2141 : BitVec 32 := 16#32
  let v2294 : BitVec 32 := Scalar.addi v5 c16_i32_2141
  let c6_i32 : BitVec 32 := 6#32
  let v2295 : BitVec 32 := Scalar.subi v2294 c6_i32
  let c1_i32_2142 : BitVec 32 := 1#32
  let v2296 : BitVec 32 := Scalar.subi v2295 c1_i32_2142
  let c8_i32_2275 : BitVec 32 := 8#32
  let v2437 : BitVec 32 := Scalar.remsi v2296 c8_i32_2275
  let c256_i32_2276 : BitVec 32 := 256#32
  let v2438 : BitVec 32 := Scalar.muli v2437 c256_i32_2276
  let c64_i32_2277 : BitVec 32 := 64#32
  let v2439 : BitVec 32 := Scalar.addi v2438 c64_i32_2277
  v2439
def k0_dev111 (d0 : Dev nD) : Nat :=
  let c0_i32_2303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2302 : BitVec 32 := 1#32
  let v2463 : BitVec 32 := Scalar.muli v16 c1_i32_2302
  let v2464 : BitVec 32 := Scalar.addi c0_i32_2303 v2463
  v2464.toNat
def k0_dev112 (d0 : Dev nD) : Nat :=
  let c0_i32_2310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2309 : BitVec 32 := 1#32
  let v2473 : BitVec 32 := Scalar.muli v11 c1_i32_2309
  let v2474 : BitVec 32 := Scalar.addi c0_i32_2310 v2473
  v2474.toNat
def k0_mult92 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_2143 : BitVec 32 := 6#32
  let v2297 : BitVec 32 := Scalar.addi v5 c6_i32_2143
  let c1_i32_2144 : BitVec 32 := 1#32
  let v2298 : BitVec 32 := Scalar.addi v2297 c1_i32_2144
  let c8_i32_2311 : BitVec 32 := 8#32
  let v2475 : BitVec 32 := Scalar.remsi v2298 c8_i32_2311
  let c256_i32_2312 : BitVec 32 := 256#32
  let v2476 : BitVec 32 := Scalar.muli v2475 c256_i32_2312
  let c64_i32_2313 : BitVec 32 := 64#32
  let v2477 : BitVec 32 := Scalar.addi v2476 c64_i32_2313
  v2477
def k0_dev113 (d0 : Dev nD) : Nat :=
  let c0_i32_2339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2338 : BitVec 32 := 1#32
  let v2501 : BitVec 32 := Scalar.muli v11 c1_i32_2338
  let v2502 : BitVec 32 := Scalar.addi c0_i32_2339 v2501
  v2502.toNat
def k0_dev114 (d0 : Dev nD) : Nat :=
  let c0_i32_2346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2345 : BitVec 32 := 1#32
  let v2511 : BitVec 32 := Scalar.muli v16 c1_i32_2345
  let v2512 : BitVec 32 := Scalar.addi c0_i32_2346 v2511
  v2512.toNat
def k0_mult93 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2141 : BitVec 32 := 16#32
  let v2294 : BitVec 32 := Scalar.addi v5 c16_i32_2141
  let c6_i32 : BitVec 32 := 6#32
  let v2295 : BitVec 32 := Scalar.subi v2294 c6_i32
  let c1_i32_2142 : BitVec 32 := 1#32
  let v2296 : BitVec 32 := Scalar.subi v2295 c1_i32_2142
  let c8_i32_2367 : BitVec 32 := 8#32
  let v2529 : BitVec 32 := Scalar.remsi v2296 c8_i32_2367
  let c256_i32_2368 : BitVec 32 := 256#32
  let v2530 : BitVec 32 := Scalar.muli v2529 c256_i32_2368
  let c128_i32_2369 : BitVec 32 := 128#32
  let v2531 : BitVec 32 := Scalar.addi v2530 c128_i32_2369
  v2531
def k0_dev115 (d0 : Dev nD) : Nat :=
  let c0_i32_2395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2394 : BitVec 32 := 1#32
  let v2555 : BitVec 32 := Scalar.muli v16 c1_i32_2394
  let v2556 : BitVec 32 := Scalar.addi c0_i32_2395 v2555
  v2556.toNat
def k0_dev116 (d0 : Dev nD) : Nat :=
  let c0_i32_2402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2401 : BitVec 32 := 1#32
  let v2565 : BitVec 32 := Scalar.muli v11 c1_i32_2401
  let v2566 : BitVec 32 := Scalar.addi c0_i32_2402 v2565
  v2566.toNat
def k0_mult94 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_2143 : BitVec 32 := 6#32
  let v2297 : BitVec 32 := Scalar.addi v5 c6_i32_2143
  let c1_i32_2144 : BitVec 32 := 1#32
  let v2298 : BitVec 32 := Scalar.addi v2297 c1_i32_2144
  let c8_i32_2403 : BitVec 32 := 8#32
  let v2567 : BitVec 32 := Scalar.remsi v2298 c8_i32_2403
  let c256_i32_2404 : BitVec 32 := 256#32
  let v2568 : BitVec 32 := Scalar.muli v2567 c256_i32_2404
  let c128_i32_2405 : BitVec 32 := 128#32
  let v2569 : BitVec 32 := Scalar.addi v2568 c128_i32_2405
  v2569
def k0_dev117 (d0 : Dev nD) : Nat :=
  let c0_i32_2431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2430 : BitVec 32 := 1#32
  let v2593 : BitVec 32 := Scalar.muli v11 c1_i32_2430
  let v2594 : BitVec 32 := Scalar.addi c0_i32_2431 v2593
  v2594.toNat
def k0_dev118 (d0 : Dev nD) : Nat :=
  let c0_i32_2438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2437 : BitVec 32 := 1#32
  let v2603 : BitVec 32 := Scalar.muli v16 c1_i32_2437
  let v2604 : BitVec 32 := Scalar.addi c0_i32_2438 v2603
  v2604.toNat
def k0_mult95 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2141 : BitVec 32 := 16#32
  let v2294 : BitVec 32 := Scalar.addi v5 c16_i32_2141
  let c6_i32 : BitVec 32 := 6#32
  let v2295 : BitVec 32 := Scalar.subi v2294 c6_i32
  let c1_i32_2142 : BitVec 32 := 1#32
  let v2296 : BitVec 32 := Scalar.subi v2295 c1_i32_2142
  let c8_i32_2459 : BitVec 32 := 8#32
  let v2621 : BitVec 32 := Scalar.remsi v2296 c8_i32_2459
  let c256_i32_2460 : BitVec 32 := 256#32
  let v2622 : BitVec 32 := Scalar.muli v2621 c256_i32_2460
  let c192_i32_2461 : BitVec 32 := 192#32
  let v2623 : BitVec 32 := Scalar.addi v2622 c192_i32_2461
  v2623
def k0_dev119 (d0 : Dev nD) : Nat :=
  let c0_i32_2487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2486 : BitVec 32 := 1#32
  let v2647 : BitVec 32 := Scalar.muli v16 c1_i32_2486
  let v2648 : BitVec 32 := Scalar.addi c0_i32_2487 v2647
  v2648.toNat
def k0_dev120 (d0 : Dev nD) : Nat :=
  let c0_i32_2494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2493 : BitVec 32 := 1#32
  let v2657 : BitVec 32 := Scalar.muli v11 c1_i32_2493
  let v2658 : BitVec 32 := Scalar.addi c0_i32_2494 v2657
  v2658.toNat
def k0_mult96 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_2143 : BitVec 32 := 6#32
  let v2297 : BitVec 32 := Scalar.addi v5 c6_i32_2143
  let c1_i32_2144 : BitVec 32 := 1#32
  let v2298 : BitVec 32 := Scalar.addi v2297 c1_i32_2144
  let c8_i32_2495 : BitVec 32 := 8#32
  let v2659 : BitVec 32 := Scalar.remsi v2298 c8_i32_2495
  let c256_i32_2496 : BitVec 32 := 256#32
  let v2660 : BitVec 32 := Scalar.muli v2659 c256_i32_2496
  let c192_i32_2497 : BitVec 32 := 192#32
  let v2661 : BitVec 32 := Scalar.addi v2660 c192_i32_2497
  v2661
def k0_dev121 (d0 : Dev nD) : Nat :=
  let c0_i32_2523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2522 : BitVec 32 := 1#32
  let v2685 : BitVec 32 := Scalar.muli v11 c1_i32_2522
  let v2686 : BitVec 32 := Scalar.addi c0_i32_2523 v2685
  v2686.toNat
def k0_dev122 (d0 : Dev nD) : Nat :=
  let c0_i32_2530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2529 : BitVec 32 := 1#32
  let v2695 : BitVec 32 := Scalar.muli v16 c1_i32_2529
  let v2696 : BitVec 32 := Scalar.addi c0_i32_2530 v2695
  v2696.toNat
def k0_mult97 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2531 : BitVec 32 := 16#32
  let v2697 : BitVec 32 := Scalar.addi v5 c16_i32_2531
  let c0_i32_2532 : BitVec 32 := 0#32
  let v2698 : BitVec 32 := Scalar.subi v2697 c0_i32_2532
  let c8_i32_2554 : BitVec 32 := 8#32
  let v2716 : BitVec 32 := Scalar.remsi v2698 c8_i32_2554
  let c256_i32_2555 : BitVec 32 := 256#32
  let v2717 : BitVec 32 := Scalar.muli v2716 c256_i32_2555
  let c0_i32_2556 : BitVec 32 := 0#32
  let v2718 : BitVec 32 := Scalar.addi v2717 c0_i32_2556
  v2718
def k0_dev123 (d0 : Dev nD) : Nat :=
  let c0_i32_2573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2572 : BitVec 32 := 1#32
  let v2726 : BitVec 32 := Scalar.muli v16 c1_i32_2572
  let v2727 : BitVec 32 := Scalar.addi c0_i32_2573 v2726
  v2727.toNat
def k0_off12 (d0 : Dev nD) (c0_i32_2532 : BitVec 32) (c0_i32_2556 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2531 : BitVec 32 := 16#32
  let v2697 : BitVec 32 := Scalar.addi v5 c16_i32_2531
  let v2698 : BitVec 32 := Scalar.subi v2697 c0_i32_2532
  let c8_i32_2554 : BitVec 32 := 8#32
  let v2716 : BitVec 32 := Scalar.remsi v2698 c8_i32_2554
  let c256_i32_2555 : BitVec 32 := 256#32
  let v2717 : BitVec 32 := Scalar.muli v2716 c256_i32_2555
  let v2718 : BitVec 32 := Scalar.addi v2717 c0_i32_2556
  let v2719 : BitVec 32 := v2718
  let v2738 : Index := Scalar.indexCast v2719
  let c0_2581 : Index := 0#32
  ![v2738.toNat, 0]
def k0_mult98 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_2533 : BitVec 32 := 0#32
  let v2699 : BitVec 32 := Scalar.addi v5 c0_i32_2533
  let c8_i32_2582 : BitVec 32 := 8#32
  let v2740 : BitVec 32 := Scalar.remsi v2699 c8_i32_2582
  let c256_i32_2583 : BitVec 32 := 256#32
  let v2741 : BitVec 32 := Scalar.muli v2740 c256_i32_2583
  let c0_i32_2584 : BitVec 32 := 0#32
  let v2742 : BitVec 32 := Scalar.addi v2741 c0_i32_2584
  v2742
def k0_dev124 (d0 : Dev nD) : Nat :=
  let c0_i32_2601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2600 : BitVec 32 := 1#32
  let v2750 : BitVec 32 := Scalar.muli v11 c1_i32_2600
  let v2751 : BitVec 32 := Scalar.addi c0_i32_2601 v2750
  v2751.toNat
def k0_off13 (d0 : Dev nD) (c0_i32_2533 : BitVec 32) (c0_i32_2584 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v2699 : BitVec 32 := Scalar.addi v5 c0_i32_2533
  let c8_i32_2582 : BitVec 32 := 8#32
  let v2740 : BitVec 32 := Scalar.remsi v2699 c8_i32_2582
  let c256_i32_2583 : BitVec 32 := 256#32
  let v2741 : BitVec 32 := Scalar.muli v2740 c256_i32_2583
  let v2742 : BitVec 32 := Scalar.addi v2741 c0_i32_2584
  let v2743 : BitVec 32 := v2742
  let v2762 : Index := Scalar.indexCast v2743
  let c1024_2609 : Index := 1024#32
  ![v2762.toNat, 1024]
def k0_mult99 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2531 : BitVec 32 := 16#32
  let v2697 : BitVec 32 := Scalar.addi v5 c16_i32_2531
  let c0_i32_2532 : BitVec 32 := 0#32
  let v2698 : BitVec 32 := Scalar.subi v2697 c0_i32_2532
  let c8_i32_2630 : BitVec 32 := 8#32
  let v2780 : BitVec 32 := Scalar.remsi v2698 c8_i32_2630
  let c256_i32_2631 : BitVec 32 := 256#32
  let v2781 : BitVec 32 := Scalar.muli v2780 c256_i32_2631
  let c64_i32_2632 : BitVec 32 := 64#32
  let v2782 : BitVec 32 := Scalar.addi v2781 c64_i32_2632
  v2782
def k0_dev125 (d0 : Dev nD) : Nat :=
  let c0_i32_2649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2648 : BitVec 32 := 1#32
  let v2790 : BitVec 32 := Scalar.muli v16 c1_i32_2648
  let v2791 : BitVec 32 := Scalar.addi c0_i32_2649 v2790
  v2791.toNat
def k0_mult100 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_2533 : BitVec 32 := 0#32
  let v2699 : BitVec 32 := Scalar.addi v5 c0_i32_2533
  let c8_i32_2658 : BitVec 32 := 8#32
  let v2804 : BitVec 32 := Scalar.remsi v2699 c8_i32_2658
  let c256_i32_2659 : BitVec 32 := 256#32
  let v2805 : BitVec 32 := Scalar.muli v2804 c256_i32_2659
  let c64_i32_2660 : BitVec 32 := 64#32
  let v2806 : BitVec 32 := Scalar.addi v2805 c64_i32_2660
  v2806
def k0_dev126 (d0 : Dev nD) : Nat :=
  let c0_i32_2677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2676 : BitVec 32 := 1#32
  let v2814 : BitVec 32 := Scalar.muli v11 c1_i32_2676
  let v2815 : BitVec 32 := Scalar.addi c0_i32_2677 v2814
  v2815.toNat
def k0_mult101 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2531 : BitVec 32 := 16#32
  let v2697 : BitVec 32 := Scalar.addi v5 c16_i32_2531
  let c0_i32_2532 : BitVec 32 := 0#32
  let v2698 : BitVec 32 := Scalar.subi v2697 c0_i32_2532
  let c8_i32_2706 : BitVec 32 := 8#32
  let v2844 : BitVec 32 := Scalar.remsi v2698 c8_i32_2706
  let c256_i32_2707 : BitVec 32 := 256#32
  let v2845 : BitVec 32 := Scalar.muli v2844 c256_i32_2707
  let c128_i32_2708 : BitVec 32 := 128#32
  let v2846 : BitVec 32 := Scalar.addi v2845 c128_i32_2708
  v2846
def k0_dev127 (d0 : Dev nD) : Nat :=
  let c0_i32_2725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2724 : BitVec 32 := 1#32
  let v2854 : BitVec 32 := Scalar.muli v16 c1_i32_2724
  let v2855 : BitVec 32 := Scalar.addi c0_i32_2725 v2854
  v2855.toNat
def k0_mult102 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_2533 : BitVec 32 := 0#32
  let v2699 : BitVec 32 := Scalar.addi v5 c0_i32_2533
  let c8_i32_2734 : BitVec 32 := 8#32
  let v2868 : BitVec 32 := Scalar.remsi v2699 c8_i32_2734
  let c256_i32_2735 : BitVec 32 := 256#32
  let v2869 : BitVec 32 := Scalar.muli v2868 c256_i32_2735
  let c128_i32_2736 : BitVec 32 := 128#32
  let v2870 : BitVec 32 := Scalar.addi v2869 c128_i32_2736
  v2870
def k0_dev128 (d0 : Dev nD) : Nat :=
  let c0_i32_2753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2752 : BitVec 32 := 1#32
  let v2878 : BitVec 32 := Scalar.muli v11 c1_i32_2752
  let v2879 : BitVec 32 := Scalar.addi c0_i32_2753 v2878
  v2879.toNat
def k0_mult103 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2531 : BitVec 32 := 16#32
  let v2697 : BitVec 32 := Scalar.addi v5 c16_i32_2531
  let c0_i32_2532 : BitVec 32 := 0#32
  let v2698 : BitVec 32 := Scalar.subi v2697 c0_i32_2532
  let c8_i32_2782 : BitVec 32 := 8#32
  let v2908 : BitVec 32 := Scalar.remsi v2698 c8_i32_2782
  let c256_i32_2783 : BitVec 32 := 256#32
  let v2909 : BitVec 32 := Scalar.muli v2908 c256_i32_2783
  let c192_i32_2784 : BitVec 32 := 192#32
  let v2910 : BitVec 32 := Scalar.addi v2909 c192_i32_2784
  v2910
def k0_dev129 (d0 : Dev nD) : Nat :=
  let c0_i32_2801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2800 : BitVec 32 := 1#32
  let v2918 : BitVec 32 := Scalar.muli v16 c1_i32_2800
  let v2919 : BitVec 32 := Scalar.addi c0_i32_2801 v2918
  v2919.toNat
def k0_mult104 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_2533 : BitVec 32 := 0#32
  let v2699 : BitVec 32 := Scalar.addi v5 c0_i32_2533
  let c8_i32_2810 : BitVec 32 := 8#32
  let v2932 : BitVec 32 := Scalar.remsi v2699 c8_i32_2810
  let c256_i32_2811 : BitVec 32 := 256#32
  let v2933 : BitVec 32 := Scalar.muli v2932 c256_i32_2811
  let c192_i32_2812 : BitVec 32 := 192#32
  let v2934 : BitVec 32 := Scalar.addi v2933 c192_i32_2812
  v2934
def k0_dev130 (d0 : Dev nD) : Nat :=
  let c0_i32_2829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2828 : BitVec 32 := 1#32
  let v2942 : BitVec 32 := Scalar.muli v11 c1_i32_2828
  let v2943 : BitVec 32 := Scalar.addi c0_i32_2829 v2942
  v2943.toNat
def k0_mult105 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2838 : BitVec 32 := 16#32
  let v2956 : BitVec 32 := Scalar.addi v5 c16_i32_2838
  let c1_i32_2839 : BitVec 32 := 1#32
  let v2957 : BitVec 32 := Scalar.subi v2956 c1_i32_2839
  let c8_i32_2861 : BitVec 32 := 8#32
  let v2975 : BitVec 32 := Scalar.remsi v2957 c8_i32_2861
  let c256_i32_2862 : BitVec 32 := 256#32
  let v2976 : BitVec 32 := Scalar.muli v2975 c256_i32_2862
  let c0_i32_2863 : BitVec 32 := 0#32
  let v2977 : BitVec 32 := Scalar.addi v2976 c0_i32_2863
  v2977
def k0_dev131 (d0 : Dev nD) : Nat :=
  let c0_i32_2880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2879 : BitVec 32 := 1#32
  let v2985 : BitVec 32 := Scalar.muli v16 c1_i32_2879
  let v2986 : BitVec 32 := Scalar.addi c0_i32_2880 v2985
  v2986.toNat
def k0_mult106 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2840 : BitVec 32 := 1#32
  let v2958 : BitVec 32 := Scalar.addi v5 c1_i32_2840
  let c8_i32_2889 : BitVec 32 := 8#32
  let v2999 : BitVec 32 := Scalar.remsi v2958 c8_i32_2889
  let c256_i32_2890 : BitVec 32 := 256#32
  let v3000 : BitVec 32 := Scalar.muli v2999 c256_i32_2890
  let c0_i32_2891 : BitVec 32 := 0#32
  let v3001 : BitVec 32 := Scalar.addi v3000 c0_i32_2891
  v3001
def k0_dev132 (d0 : Dev nD) : Nat :=
  let c0_i32_2908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2907 : BitVec 32 := 1#32
  let v3009 : BitVec 32 := Scalar.muli v11 c1_i32_2907
  let v3010 : BitVec 32 := Scalar.addi c0_i32_2908 v3009
  v3010.toNat
def k0_mult107 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2838 : BitVec 32 := 16#32
  let v2956 : BitVec 32 := Scalar.addi v5 c16_i32_2838
  let c1_i32_2839 : BitVec 32 := 1#32
  let v2957 : BitVec 32 := Scalar.subi v2956 c1_i32_2839
  let c8_i32_2937 : BitVec 32 := 8#32
  let v3039 : BitVec 32 := Scalar.remsi v2957 c8_i32_2937
  let c256_i32_2938 : BitVec 32 := 256#32
  let v3040 : BitVec 32 := Scalar.muli v3039 c256_i32_2938
  let c64_i32_2939 : BitVec 32 := 64#32
  let v3041 : BitVec 32 := Scalar.addi v3040 c64_i32_2939
  v3041
def k0_dev133 (d0 : Dev nD) : Nat :=
  let c0_i32_2956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2955 : BitVec 32 := 1#32
  let v3049 : BitVec 32 := Scalar.muli v16 c1_i32_2955
  let v3050 : BitVec 32 := Scalar.addi c0_i32_2956 v3049
  v3050.toNat
def k0_mult108 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2840 : BitVec 32 := 1#32
  let v2958 : BitVec 32 := Scalar.addi v5 c1_i32_2840
  let c8_i32_2965 : BitVec 32 := 8#32
  let v3063 : BitVec 32 := Scalar.remsi v2958 c8_i32_2965
  let c256_i32_2966 : BitVec 32 := 256#32
  let v3064 : BitVec 32 := Scalar.muli v3063 c256_i32_2966
  let c64_i32_2967 : BitVec 32 := 64#32
  let v3065 : BitVec 32 := Scalar.addi v3064 c64_i32_2967
  v3065
def k0_dev134 (d0 : Dev nD) : Nat :=
  let c0_i32_2984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2983 : BitVec 32 := 1#32
  let v3073 : BitVec 32 := Scalar.muli v11 c1_i32_2983
  let v3074 : BitVec 32 := Scalar.addi c0_i32_2984 v3073
  v3074.toNat
def k0_mult109 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2838 : BitVec 32 := 16#32
  let v2956 : BitVec 32 := Scalar.addi v5 c16_i32_2838
  let c1_i32_2839 : BitVec 32 := 1#32
  let v2957 : BitVec 32 := Scalar.subi v2956 c1_i32_2839
  let c8_i32_3013 : BitVec 32 := 8#32
  let v3103 : BitVec 32 := Scalar.remsi v2957 c8_i32_3013
  let c256_i32_3014 : BitVec 32 := 256#32
  let v3104 : BitVec 32 := Scalar.muli v3103 c256_i32_3014
  let c128_i32_3015 : BitVec 32 := 128#32
  let v3105 : BitVec 32 := Scalar.addi v3104 c128_i32_3015
  v3105
def k0_dev135 (d0 : Dev nD) : Nat :=
  let c0_i32_3032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3031 : BitVec 32 := 1#32
  let v3113 : BitVec 32 := Scalar.muli v16 c1_i32_3031
  let v3114 : BitVec 32 := Scalar.addi c0_i32_3032 v3113
  v3114.toNat
def k0_mult110 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2840 : BitVec 32 := 1#32
  let v2958 : BitVec 32 := Scalar.addi v5 c1_i32_2840
  let c8_i32_3041 : BitVec 32 := 8#32
  let v3127 : BitVec 32 := Scalar.remsi v2958 c8_i32_3041
  let c256_i32_3042 : BitVec 32 := 256#32
  let v3128 : BitVec 32 := Scalar.muli v3127 c256_i32_3042
  let c128_i32_3043 : BitVec 32 := 128#32
  let v3129 : BitVec 32 := Scalar.addi v3128 c128_i32_3043
  v3129
def k0_dev136 (d0 : Dev nD) : Nat :=
  let c0_i32_3060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3059 : BitVec 32 := 1#32
  let v3137 : BitVec 32 := Scalar.muli v11 c1_i32_3059
  let v3138 : BitVec 32 := Scalar.addi c0_i32_3060 v3137
  v3138.toNat
def k0_mult111 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_2838 : BitVec 32 := 16#32
  let v2956 : BitVec 32 := Scalar.addi v5 c16_i32_2838
  let c1_i32_2839 : BitVec 32 := 1#32
  let v2957 : BitVec 32 := Scalar.subi v2956 c1_i32_2839
  let c8_i32_3089 : BitVec 32 := 8#32
  let v3167 : BitVec 32 := Scalar.remsi v2957 c8_i32_3089
  let c256_i32_3090 : BitVec 32 := 256#32
  let v3168 : BitVec 32 := Scalar.muli v3167 c256_i32_3090
  let c192_i32_3091 : BitVec 32 := 192#32
  let v3169 : BitVec 32 := Scalar.addi v3168 c192_i32_3091
  v3169
def k0_dev137 (d0 : Dev nD) : Nat :=
  let c0_i32_3108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3107 : BitVec 32 := 1#32
  let v3177 : BitVec 32 := Scalar.muli v16 c1_i32_3107
  let v3178 : BitVec 32 := Scalar.addi c0_i32_3108 v3177
  v3178.toNat
def k0_mult112 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2840 : BitVec 32 := 1#32
  let v2958 : BitVec 32 := Scalar.addi v5 c1_i32_2840
  let c8_i32_3117 : BitVec 32 := 8#32
  let v3191 : BitVec 32 := Scalar.remsi v2958 c8_i32_3117
  let c256_i32_3118 : BitVec 32 := 256#32
  let v3192 : BitVec 32 := Scalar.muli v3191 c256_i32_3118
  let c192_i32_3119 : BitVec 32 := 192#32
  let v3193 : BitVec 32 := Scalar.addi v3192 c192_i32_3119
  v3193
def k0_dev138 (d0 : Dev nD) : Nat :=
  let c0_i32_3136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3135 : BitVec 32 := 1#32
  let v3201 : BitVec 32 := Scalar.muli v11 c1_i32_3135
  let v3202 : BitVec 32 := Scalar.addi c0_i32_3136 v3201
  v3202.toNat
def k0_mult113 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3145 : BitVec 32 := 16#32
  let v3215 : BitVec 32 := Scalar.addi v5 c16_i32_3145
  let c2_i32_3146 : BitVec 32 := 2#32
  let v3216 : BitVec 32 := Scalar.subi v3215 c2_i32_3146
  let c8_i32_3168 : BitVec 32 := 8#32
  let v3234 : BitVec 32 := Scalar.remsi v3216 c8_i32_3168
  let c256_i32_3169 : BitVec 32 := 256#32
  let v3235 : BitVec 32 := Scalar.muli v3234 c256_i32_3169
  let c0_i32_3170 : BitVec 32 := 0#32
  let v3236 : BitVec 32 := Scalar.addi v3235 c0_i32_3170
  v3236
def k0_dev139 (d0 : Dev nD) : Nat :=
  let c0_i32_3187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3186 : BitVec 32 := 1#32
  let v3244 : BitVec 32 := Scalar.muli v16 c1_i32_3186
  let v3245 : BitVec 32 := Scalar.addi c0_i32_3187 v3244
  v3245.toNat
def k0_dev140 (d0 : Dev nD) : Nat :=
  let c0_i32_3207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3206 : BitVec 32 := 1#32
  let v3264 : BitVec 32 := Scalar.muli v11 c1_i32_3206
  let v3265 : BitVec 32 := Scalar.addi c0_i32_3207 v3264
  v3265.toNat
def k0_mult114 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_3147 : BitVec 32 := 2#32
  let v3217 : BitVec 32 := Scalar.addi v5 c2_i32_3147
  let c8_i32_3208 : BitVec 32 := 8#32
  let v3266 : BitVec 32 := Scalar.remsi v3217 c8_i32_3208
  let c256_i32_3209 : BitVec 32 := 256#32
  let v3267 : BitVec 32 := Scalar.muli v3266 c256_i32_3209
  let c0_i32_3210 : BitVec 32 := 0#32
  let v3268 : BitVec 32 := Scalar.addi v3267 c0_i32_3210
  v3268
def k0_dev141 (d0 : Dev nD) : Nat :=
  let c0_i32_3227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3226 : BitVec 32 := 1#32
  let v3276 : BitVec 32 := Scalar.muli v11 c1_i32_3226
  let v3277 : BitVec 32 := Scalar.addi c0_i32_3227 v3276
  v3277.toNat
def k0_dev142 (d0 : Dev nD) : Nat :=
  let c0_i32_3247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3246 : BitVec 32 := 1#32
  let v3296 : BitVec 32 := Scalar.muli v16 c1_i32_3246
  let v3297 : BitVec 32 := Scalar.addi c0_i32_3247 v3296
  v3297.toNat
def k0_mult115 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3145 : BitVec 32 := 16#32
  let v3215 : BitVec 32 := Scalar.addi v5 c16_i32_3145
  let c2_i32_3146 : BitVec 32 := 2#32
  let v3216 : BitVec 32 := Scalar.subi v3215 c2_i32_3146
  let c8_i32_3268 : BitVec 32 := 8#32
  let v3314 : BitVec 32 := Scalar.remsi v3216 c8_i32_3268
  let c256_i32_3269 : BitVec 32 := 256#32
  let v3315 : BitVec 32 := Scalar.muli v3314 c256_i32_3269
  let c64_i32_3270 : BitVec 32 := 64#32
  let v3316 : BitVec 32 := Scalar.addi v3315 c64_i32_3270
  v3316
def k0_dev143 (d0 : Dev nD) : Nat :=
  let c0_i32_3287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3286 : BitVec 32 := 1#32
  let v3324 : BitVec 32 := Scalar.muli v16 c1_i32_3286
  let v3325 : BitVec 32 := Scalar.addi c0_i32_3287 v3324
  v3325.toNat
def k0_dev144 (d0 : Dev nD) : Nat :=
  let c0_i32_3307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3306 : BitVec 32 := 1#32
  let v3344 : BitVec 32 := Scalar.muli v11 c1_i32_3306
  let v3345 : BitVec 32 := Scalar.addi c0_i32_3307 v3344
  v3345.toNat
def k0_mult116 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_3147 : BitVec 32 := 2#32
  let v3217 : BitVec 32 := Scalar.addi v5 c2_i32_3147
  let c8_i32_3308 : BitVec 32 := 8#32
  let v3346 : BitVec 32 := Scalar.remsi v3217 c8_i32_3308
  let c256_i32_3309 : BitVec 32 := 256#32
  let v3347 : BitVec 32 := Scalar.muli v3346 c256_i32_3309
  let c64_i32_3310 : BitVec 32 := 64#32
  let v3348 : BitVec 32 := Scalar.addi v3347 c64_i32_3310
  v3348
def k0_dev145 (d0 : Dev nD) : Nat :=
  let c0_i32_3327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3326 : BitVec 32 := 1#32
  let v3356 : BitVec 32 := Scalar.muli v11 c1_i32_3326
  let v3357 : BitVec 32 := Scalar.addi c0_i32_3327 v3356
  v3357.toNat
def k0_dev146 (d0 : Dev nD) : Nat :=
  let c0_i32_3347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3346 : BitVec 32 := 1#32
  let v3376 : BitVec 32 := Scalar.muli v16 c1_i32_3346
  let v3377 : BitVec 32 := Scalar.addi c0_i32_3347 v3376
  v3377.toNat
def k0_mult117 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3145 : BitVec 32 := 16#32
  let v3215 : BitVec 32 := Scalar.addi v5 c16_i32_3145
  let c2_i32_3146 : BitVec 32 := 2#32
  let v3216 : BitVec 32 := Scalar.subi v3215 c2_i32_3146
  let c8_i32_3368 : BitVec 32 := 8#32
  let v3394 : BitVec 32 := Scalar.remsi v3216 c8_i32_3368
  let c256_i32_3369 : BitVec 32 := 256#32
  let v3395 : BitVec 32 := Scalar.muli v3394 c256_i32_3369
  let c128_i32_3370 : BitVec 32 := 128#32
  let v3396 : BitVec 32 := Scalar.addi v3395 c128_i32_3370
  v3396
def k0_dev147 (d0 : Dev nD) : Nat :=
  let c0_i32_3387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3386 : BitVec 32 := 1#32
  let v3404 : BitVec 32 := Scalar.muli v16 c1_i32_3386
  let v3405 : BitVec 32 := Scalar.addi c0_i32_3387 v3404
  v3405.toNat
def k0_dev148 (d0 : Dev nD) : Nat :=
  let c0_i32_3407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3406 : BitVec 32 := 1#32
  let v3424 : BitVec 32 := Scalar.muli v11 c1_i32_3406
  let v3425 : BitVec 32 := Scalar.addi c0_i32_3407 v3424
  v3425.toNat
def k0_mult118 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_3147 : BitVec 32 := 2#32
  let v3217 : BitVec 32 := Scalar.addi v5 c2_i32_3147
  let c8_i32_3408 : BitVec 32 := 8#32
  let v3426 : BitVec 32 := Scalar.remsi v3217 c8_i32_3408
  let c256_i32_3409 : BitVec 32 := 256#32
  let v3427 : BitVec 32 := Scalar.muli v3426 c256_i32_3409
  let c128_i32_3410 : BitVec 32 := 128#32
  let v3428 : BitVec 32 := Scalar.addi v3427 c128_i32_3410
  v3428
def k0_dev149 (d0 : Dev nD) : Nat :=
  let c0_i32_3427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3426 : BitVec 32 := 1#32
  let v3436 : BitVec 32 := Scalar.muli v11 c1_i32_3426
  let v3437 : BitVec 32 := Scalar.addi c0_i32_3427 v3436
  v3437.toNat
def k0_dev150 (d0 : Dev nD) : Nat :=
  let c0_i32_3447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3446 : BitVec 32 := 1#32
  let v3456 : BitVec 32 := Scalar.muli v16 c1_i32_3446
  let v3457 : BitVec 32 := Scalar.addi c0_i32_3447 v3456
  v3457.toNat
def k0_mult119 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3145 : BitVec 32 := 16#32
  let v3215 : BitVec 32 := Scalar.addi v5 c16_i32_3145
  let c2_i32_3146 : BitVec 32 := 2#32
  let v3216 : BitVec 32 := Scalar.subi v3215 c2_i32_3146
  let c8_i32_3468 : BitVec 32 := 8#32
  let v3474 : BitVec 32 := Scalar.remsi v3216 c8_i32_3468
  let c256_i32_3469 : BitVec 32 := 256#32
  let v3475 : BitVec 32 := Scalar.muli v3474 c256_i32_3469
  let c192_i32_3470 : BitVec 32 := 192#32
  let v3476 : BitVec 32 := Scalar.addi v3475 c192_i32_3470
  v3476
def k0_dev151 (d0 : Dev nD) : Nat :=
  let c0_i32_3487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3486 : BitVec 32 := 1#32
  let v3484 : BitVec 32 := Scalar.muli v16 c1_i32_3486
  let v3485 : BitVec 32 := Scalar.addi c0_i32_3487 v3484
  v3485.toNat
def k0_dev152 (d0 : Dev nD) : Nat :=
  let c0_i32_3507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3506 : BitVec 32 := 1#32
  let v3504 : BitVec 32 := Scalar.muli v11 c1_i32_3506
  let v3505 : BitVec 32 := Scalar.addi c0_i32_3507 v3504
  v3505.toNat
def k0_mult120 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_3147 : BitVec 32 := 2#32
  let v3217 : BitVec 32 := Scalar.addi v5 c2_i32_3147
  let c8_i32_3508 : BitVec 32 := 8#32
  let v3506 : BitVec 32 := Scalar.remsi v3217 c8_i32_3508
  let c256_i32_3509 : BitVec 32 := 256#32
  let v3507 : BitVec 32 := Scalar.muli v3506 c256_i32_3509
  let c192_i32_3510 : BitVec 32 := 192#32
  let v3508 : BitVec 32 := Scalar.addi v3507 c192_i32_3510
  v3508
def k0_dev153 (d0 : Dev nD) : Nat :=
  let c0_i32_3527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3526 : BitVec 32 := 1#32
  let v3516 : BitVec 32 := Scalar.muli v11 c1_i32_3526
  let v3517 : BitVec 32 := Scalar.addi c0_i32_3527 v3516
  v3517.toNat
def k0_dev154 (d0 : Dev nD) : Nat :=
  let c0_i32_3547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3546 : BitVec 32 := 1#32
  let v3536 : BitVec 32 := Scalar.muli v16 c1_i32_3546
  let v3537 : BitVec 32 := Scalar.addi c0_i32_3547 v3536
  v3537.toNat
def k0_mult121 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3548 : BitVec 32 := 16#32
  let v3538 : BitVec 32 := Scalar.addi v5 c16_i32_3548
  let c3_i32_3549 : BitVec 32 := 3#32
  let v3539 : BitVec 32 := Scalar.subi v3538 c3_i32_3549
  let c8_i32_3571 : BitVec 32 := 8#32
  let v3557 : BitVec 32 := Scalar.remsi v3539 c8_i32_3571
  let c256_i32_3572 : BitVec 32 := 256#32
  let v3558 : BitVec 32 := Scalar.muli v3557 c256_i32_3572
  let c0_i32_3573 : BitVec 32 := 0#32
  let v3559 : BitVec 32 := Scalar.addi v3558 c0_i32_3573
  v3559
def k0_dev155 (d0 : Dev nD) : Nat :=
  let c0_i32_3590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3589 : BitVec 32 := 1#32
  let v3567 : BitVec 32 := Scalar.muli v16 c1_i32_3589
  let v3568 : BitVec 32 := Scalar.addi c0_i32_3590 v3567
  v3568.toNat
def k0_dev156 (d0 : Dev nD) : Nat :=
  let c0_i32_3610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3609 : BitVec 32 := 1#32
  let v3587 : BitVec 32 := Scalar.muli v11 c1_i32_3609
  let v3588 : BitVec 32 := Scalar.addi c0_i32_3610 v3587
  v3588.toNat
def k0_mult122 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_3550 : BitVec 32 := 3#32
  let v3540 : BitVec 32 := Scalar.addi v5 c3_i32_3550
  let c8_i32_3611 : BitVec 32 := 8#32
  let v3589 : BitVec 32 := Scalar.remsi v3540 c8_i32_3611
  let c256_i32_3612 : BitVec 32 := 256#32
  let v3590 : BitVec 32 := Scalar.muli v3589 c256_i32_3612
  let c0_i32_3613 : BitVec 32 := 0#32
  let v3591 : BitVec 32 := Scalar.addi v3590 c0_i32_3613
  v3591
def k0_dev157 (d0 : Dev nD) : Nat :=
  let c0_i32_3630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3629 : BitVec 32 := 1#32
  let v3599 : BitVec 32 := Scalar.muli v11 c1_i32_3629
  let v3600 : BitVec 32 := Scalar.addi c0_i32_3630 v3599
  v3600.toNat
def k0_dev158 (d0 : Dev nD) : Nat :=
  let c0_i32_3650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3649 : BitVec 32 := 1#32
  let v3619 : BitVec 32 := Scalar.muli v16 c1_i32_3649
  let v3620 : BitVec 32 := Scalar.addi c0_i32_3650 v3619
  v3620.toNat
def k0_mult123 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3548 : BitVec 32 := 16#32
  let v3538 : BitVec 32 := Scalar.addi v5 c16_i32_3548
  let c3_i32_3549 : BitVec 32 := 3#32
  let v3539 : BitVec 32 := Scalar.subi v3538 c3_i32_3549
  let c8_i32_3671 : BitVec 32 := 8#32
  let v3637 : BitVec 32 := Scalar.remsi v3539 c8_i32_3671
  let c256_i32_3672 : BitVec 32 := 256#32
  let v3638 : BitVec 32 := Scalar.muli v3637 c256_i32_3672
  let c64_i32_3673 : BitVec 32 := 64#32
  let v3639 : BitVec 32 := Scalar.addi v3638 c64_i32_3673
  v3639
def k0_dev159 (d0 : Dev nD) : Nat :=
  let c0_i32_3690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3689 : BitVec 32 := 1#32
  let v3647 : BitVec 32 := Scalar.muli v16 c1_i32_3689
  let v3648 : BitVec 32 := Scalar.addi c0_i32_3690 v3647
  v3648.toNat
def k0_dev160 (d0 : Dev nD) : Nat :=
  let c0_i32_3710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3709 : BitVec 32 := 1#32
  let v3667 : BitVec 32 := Scalar.muli v11 c1_i32_3709
  let v3668 : BitVec 32 := Scalar.addi c0_i32_3710 v3667
  v3668.toNat
def k0_mult124 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_3550 : BitVec 32 := 3#32
  let v3540 : BitVec 32 := Scalar.addi v5 c3_i32_3550
  let c8_i32_3711 : BitVec 32 := 8#32
  let v3669 : BitVec 32 := Scalar.remsi v3540 c8_i32_3711
  let c256_i32_3712 : BitVec 32 := 256#32
  let v3670 : BitVec 32 := Scalar.muli v3669 c256_i32_3712
  let c64_i32_3713 : BitVec 32 := 64#32
  let v3671 : BitVec 32 := Scalar.addi v3670 c64_i32_3713
  v3671
def k0_dev161 (d0 : Dev nD) : Nat :=
  let c0_i32_3730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3729 : BitVec 32 := 1#32
  let v3679 : BitVec 32 := Scalar.muli v11 c1_i32_3729
  let v3680 : BitVec 32 := Scalar.addi c0_i32_3730 v3679
  v3680.toNat
def k0_dev162 (d0 : Dev nD) : Nat :=
  let c0_i32_3750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3749 : BitVec 32 := 1#32
  let v3699 : BitVec 32 := Scalar.muli v16 c1_i32_3749
  let v3700 : BitVec 32 := Scalar.addi c0_i32_3750 v3699
  v3700.toNat
def k0_mult125 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3548 : BitVec 32 := 16#32
  let v3538 : BitVec 32 := Scalar.addi v5 c16_i32_3548
  let c3_i32_3549 : BitVec 32 := 3#32
  let v3539 : BitVec 32 := Scalar.subi v3538 c3_i32_3549
  let c8_i32_3771 : BitVec 32 := 8#32
  let v3717 : BitVec 32 := Scalar.remsi v3539 c8_i32_3771
  let c256_i32_3772 : BitVec 32 := 256#32
  let v3718 : BitVec 32 := Scalar.muli v3717 c256_i32_3772
  let c128_i32_3773 : BitVec 32 := 128#32
  let v3719 : BitVec 32 := Scalar.addi v3718 c128_i32_3773
  v3719
def k0_dev163 (d0 : Dev nD) : Nat :=
  let c0_i32_3790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3789 : BitVec 32 := 1#32
  let v3727 : BitVec 32 := Scalar.muli v16 c1_i32_3789
  let v3728 : BitVec 32 := Scalar.addi c0_i32_3790 v3727
  v3728.toNat
def k0_dev164 (d0 : Dev nD) : Nat :=
  let c0_i32_3810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3809 : BitVec 32 := 1#32
  let v3747 : BitVec 32 := Scalar.muli v11 c1_i32_3809
  let v3748 : BitVec 32 := Scalar.addi c0_i32_3810 v3747
  v3748.toNat
def k0_mult126 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_3550 : BitVec 32 := 3#32
  let v3540 : BitVec 32 := Scalar.addi v5 c3_i32_3550
  let c8_i32_3811 : BitVec 32 := 8#32
  let v3749 : BitVec 32 := Scalar.remsi v3540 c8_i32_3811
  let c256_i32_3812 : BitVec 32 := 256#32
  let v3750 : BitVec 32 := Scalar.muli v3749 c256_i32_3812
  let c128_i32_3813 : BitVec 32 := 128#32
  let v3751 : BitVec 32 := Scalar.addi v3750 c128_i32_3813
  v3751
def k0_dev165 (d0 : Dev nD) : Nat :=
  let c0_i32_3830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3829 : BitVec 32 := 1#32
  let v3759 : BitVec 32 := Scalar.muli v11 c1_i32_3829
  let v3760 : BitVec 32 := Scalar.addi c0_i32_3830 v3759
  v3760.toNat
def k0_dev166 (d0 : Dev nD) : Nat :=
  let c0_i32_3850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3849 : BitVec 32 := 1#32
  let v3779 : BitVec 32 := Scalar.muli v16 c1_i32_3849
  let v3780 : BitVec 32 := Scalar.addi c0_i32_3850 v3779
  v3780.toNat
def k0_mult127 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3548 : BitVec 32 := 16#32
  let v3538 : BitVec 32 := Scalar.addi v5 c16_i32_3548
  let c3_i32_3549 : BitVec 32 := 3#32
  let v3539 : BitVec 32 := Scalar.subi v3538 c3_i32_3549
  let c8_i32_3871 : BitVec 32 := 8#32
  let v3797 : BitVec 32 := Scalar.remsi v3539 c8_i32_3871
  let c256_i32_3872 : BitVec 32 := 256#32
  let v3798 : BitVec 32 := Scalar.muli v3797 c256_i32_3872
  let c192_i32_3873 : BitVec 32 := 192#32
  let v3799 : BitVec 32 := Scalar.addi v3798 c192_i32_3873
  v3799
def k0_dev167 (d0 : Dev nD) : Nat :=
  let c0_i32_3890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3889 : BitVec 32 := 1#32
  let v3807 : BitVec 32 := Scalar.muli v16 c1_i32_3889
  let v3808 : BitVec 32 := Scalar.addi c0_i32_3890 v3807
  v3808.toNat
def k0_dev168 (d0 : Dev nD) : Nat :=
  let c0_i32_3910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3909 : BitVec 32 := 1#32
  let v3827 : BitVec 32 := Scalar.muli v11 c1_i32_3909
  let v3828 : BitVec 32 := Scalar.addi c0_i32_3910 v3827
  v3828.toNat
def k0_mult128 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_3550 : BitVec 32 := 3#32
  let v3540 : BitVec 32 := Scalar.addi v5 c3_i32_3550
  let c8_i32_3911 : BitVec 32 := 8#32
  let v3829 : BitVec 32 := Scalar.remsi v3540 c8_i32_3911
  let c256_i32_3912 : BitVec 32 := 256#32
  let v3830 : BitVec 32 := Scalar.muli v3829 c256_i32_3912
  let c192_i32_3913 : BitVec 32 := 192#32
  let v3831 : BitVec 32 := Scalar.addi v3830 c192_i32_3913
  v3831
def k0_dev169 (d0 : Dev nD) : Nat :=
  let c0_i32_3930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3929 : BitVec 32 := 1#32
  let v3839 : BitVec 32 := Scalar.muli v11 c1_i32_3929
  let v3840 : BitVec 32 := Scalar.addi c0_i32_3930 v3839
  v3840.toNat
def k0_dev170 (d0 : Dev nD) : Nat :=
  let c0_i32_3950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3949 : BitVec 32 := 1#32
  let v3859 : BitVec 32 := Scalar.muli v16 c1_i32_3949
  let v3860 : BitVec 32 := Scalar.addi c0_i32_3950 v3859
  v3860.toNat
def k0_mult129 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3951 : BitVec 32 := 16#32
  let v3861 : BitVec 32 := Scalar.addi v5 c16_i32_3951
  let c4_i32_3952 : BitVec 32 := 4#32
  let v3862 : BitVec 32 := Scalar.subi v3861 c4_i32_3952
  let c8_i32_3974 : BitVec 32 := 8#32
  let v3880 : BitVec 32 := Scalar.remsi v3862 c8_i32_3974
  let c256_i32_3975 : BitVec 32 := 256#32
  let v3881 : BitVec 32 := Scalar.muli v3880 c256_i32_3975
  let c0_i32_3976 : BitVec 32 := 0#32
  let v3882 : BitVec 32 := Scalar.addi v3881 c0_i32_3976
  v3882
def k0_dev171 (d0 : Dev nD) : Nat :=
  let c0_i32_3984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3983 : BitVec 32 := 1#32
  let v3884 : BitVec 32 := Scalar.muli v16 c1_i32_3983
  let v3885 : BitVec 32 := Scalar.addi c0_i32_3984 v3884
  v3885.toNat
def k0_dev172 (d0 : Dev nD) : Nat :=
  let c0_i32_4004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4003 : BitVec 32 := 1#32
  let v3904 : BitVec 32 := Scalar.muli v11 c1_i32_4003
  let v3905 : BitVec 32 := Scalar.addi c0_i32_4004 v3904
  v3905.toNat
def k0_mult130 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_3953 : BitVec 32 := 4#32
  let v3863 : BitVec 32 := Scalar.addi v5 c4_i32_3953
  let c8_i32_4005 : BitVec 32 := 8#32
  let v3906 : BitVec 32 := Scalar.remsi v3863 c8_i32_4005
  let c256_i32_4006 : BitVec 32 := 256#32
  let v3907 : BitVec 32 := Scalar.muli v3906 c256_i32_4006
  let c0_i32_4007 : BitVec 32 := 0#32
  let v3908 : BitVec 32 := Scalar.addi v3907 c0_i32_4007
  v3908
def k0_dev173 (d0 : Dev nD) : Nat :=
  let c0_i32_4015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4014 : BitVec 32 := 1#32
  let v3910 : BitVec 32 := Scalar.muli v11 c1_i32_4014
  let v3911 : BitVec 32 := Scalar.addi c0_i32_4015 v3910
  v3911.toNat
def k0_dev174 (d0 : Dev nD) : Nat :=
  let c0_i32_4035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4034 : BitVec 32 := 1#32
  let v3930 : BitVec 32 := Scalar.muli v16 c1_i32_4034
  let v3931 : BitVec 32 := Scalar.addi c0_i32_4035 v3930
  v3931.toNat
def k0_mult131 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3951 : BitVec 32 := 16#32
  let v3861 : BitVec 32 := Scalar.addi v5 c16_i32_3951
  let c4_i32_3952 : BitVec 32 := 4#32
  let v3862 : BitVec 32 := Scalar.subi v3861 c4_i32_3952
  let c8_i32_4056 : BitVec 32 := 8#32
  let v3948 : BitVec 32 := Scalar.remsi v3862 c8_i32_4056
  let c256_i32_4057 : BitVec 32 := 256#32
  let v3949 : BitVec 32 := Scalar.muli v3948 c256_i32_4057
  let c64_i32_4058 : BitVec 32 := 64#32
  let v3950 : BitVec 32 := Scalar.addi v3949 c64_i32_4058
  v3950
def k0_dev175 (d0 : Dev nD) : Nat :=
  let c0_i32_4066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4065 : BitVec 32 := 1#32
  let v3952 : BitVec 32 := Scalar.muli v16 c1_i32_4065
  let v3953 : BitVec 32 := Scalar.addi c0_i32_4066 v3952
  v3953.toNat
def k0_dev176 (d0 : Dev nD) : Nat :=
  let c0_i32_4086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4085 : BitVec 32 := 1#32
  let v3972 : BitVec 32 := Scalar.muli v11 c1_i32_4085
  let v3973 : BitVec 32 := Scalar.addi c0_i32_4086 v3972
  v3973.toNat
def k0_mult132 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_3953 : BitVec 32 := 4#32
  let v3863 : BitVec 32 := Scalar.addi v5 c4_i32_3953
  let c8_i32_4087 : BitVec 32 := 8#32
  let v3974 : BitVec 32 := Scalar.remsi v3863 c8_i32_4087
  let c256_i32_4088 : BitVec 32 := 256#32
  let v3975 : BitVec 32 := Scalar.muli v3974 c256_i32_4088
  let c64_i32_4089 : BitVec 32 := 64#32
  let v3976 : BitVec 32 := Scalar.addi v3975 c64_i32_4089
  v3976
def k0_dev177 (d0 : Dev nD) : Nat :=
  let c0_i32_4097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4096 : BitVec 32 := 1#32
  let v3978 : BitVec 32 := Scalar.muli v11 c1_i32_4096
  let v3979 : BitVec 32 := Scalar.addi c0_i32_4097 v3978
  v3979.toNat
def k0_dev178 (d0 : Dev nD) : Nat :=
  let c0_i32_4117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4116 : BitVec 32 := 1#32
  let v3998 : BitVec 32 := Scalar.muli v16 c1_i32_4116
  let v3999 : BitVec 32 := Scalar.addi c0_i32_4117 v3998
  v3999.toNat
def k0_mult133 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3951 : BitVec 32 := 16#32
  let v3861 : BitVec 32 := Scalar.addi v5 c16_i32_3951
  let c4_i32_3952 : BitVec 32 := 4#32
  let v3862 : BitVec 32 := Scalar.subi v3861 c4_i32_3952
  let c8_i32_4138 : BitVec 32 := 8#32
  let v4016 : BitVec 32 := Scalar.remsi v3862 c8_i32_4138
  let c256_i32_4139 : BitVec 32 := 256#32
  let v4017 : BitVec 32 := Scalar.muli v4016 c256_i32_4139
  let c128_i32_4140 : BitVec 32 := 128#32
  let v4018 : BitVec 32 := Scalar.addi v4017 c128_i32_4140
  v4018
def k0_dev179 (d0 : Dev nD) : Nat :=
  let c0_i32_4148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4147 : BitVec 32 := 1#32
  let v4020 : BitVec 32 := Scalar.muli v16 c1_i32_4147
  let v4021 : BitVec 32 := Scalar.addi c0_i32_4148 v4020
  v4021.toNat
def k0_dev180 (d0 : Dev nD) : Nat :=
  let c0_i32_4168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4167 : BitVec 32 := 1#32
  let v4040 : BitVec 32 := Scalar.muli v11 c1_i32_4167
  let v4041 : BitVec 32 := Scalar.addi c0_i32_4168 v4040
  v4041.toNat
def k0_mult134 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_3953 : BitVec 32 := 4#32
  let v3863 : BitVec 32 := Scalar.addi v5 c4_i32_3953
  let c8_i32_4169 : BitVec 32 := 8#32
  let v4042 : BitVec 32 := Scalar.remsi v3863 c8_i32_4169
  let c256_i32_4170 : BitVec 32 := 256#32
  let v4043 : BitVec 32 := Scalar.muli v4042 c256_i32_4170
  let c128_i32_4171 : BitVec 32 := 128#32
  let v4044 : BitVec 32 := Scalar.addi v4043 c128_i32_4171
  v4044
def k0_dev181 (d0 : Dev nD) : Nat :=
  let c0_i32_4179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4178 : BitVec 32 := 1#32
  let v4046 : BitVec 32 := Scalar.muli v11 c1_i32_4178
  let v4047 : BitVec 32 := Scalar.addi c0_i32_4179 v4046
  v4047.toNat
def k0_dev182 (d0 : Dev nD) : Nat :=
  let c0_i32_4199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4198 : BitVec 32 := 1#32
  let v4066 : BitVec 32 := Scalar.muli v16 c1_i32_4198
  let v4067 : BitVec 32 := Scalar.addi c0_i32_4199 v4066
  v4067.toNat
def k0_mult135 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_3951 : BitVec 32 := 16#32
  let v3861 : BitVec 32 := Scalar.addi v5 c16_i32_3951
  let c4_i32_3952 : BitVec 32 := 4#32
  let v3862 : BitVec 32 := Scalar.subi v3861 c4_i32_3952
  let c8_i32_4220 : BitVec 32 := 8#32
  let v4084 : BitVec 32 := Scalar.remsi v3862 c8_i32_4220
  let c256_i32_4221 : BitVec 32 := 256#32
  let v4085 : BitVec 32 := Scalar.muli v4084 c256_i32_4221
  let c192_i32_4222 : BitVec 32 := 192#32
  let v4086 : BitVec 32 := Scalar.addi v4085 c192_i32_4222
  v4086
def k0_dev183 (d0 : Dev nD) : Nat :=
  let c0_i32_4230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4229 : BitVec 32 := 1#32
  let v4088 : BitVec 32 := Scalar.muli v16 c1_i32_4229
  let v4089 : BitVec 32 := Scalar.addi c0_i32_4230 v4088
  v4089.toNat
def k0_dev184 (d0 : Dev nD) : Nat :=
  let c0_i32_4250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4249 : BitVec 32 := 1#32
  let v4108 : BitVec 32 := Scalar.muli v11 c1_i32_4249
  let v4109 : BitVec 32 := Scalar.addi c0_i32_4250 v4108
  v4109.toNat
def k0_mult136 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_3953 : BitVec 32 := 4#32
  let v3863 : BitVec 32 := Scalar.addi v5 c4_i32_3953
  let c8_i32_4251 : BitVec 32 := 8#32
  let v4110 : BitVec 32 := Scalar.remsi v3863 c8_i32_4251
  let c256_i32_4252 : BitVec 32 := 256#32
  let v4111 : BitVec 32 := Scalar.muli v4110 c256_i32_4252
  let c192_i32_4253 : BitVec 32 := 192#32
  let v4112 : BitVec 32 := Scalar.addi v4111 c192_i32_4253
  v4112
def k0_dev185 (d0 : Dev nD) : Nat :=
  let c0_i32_4261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4260 : BitVec 32 := 1#32
  let v4114 : BitVec 32 := Scalar.muli v11 c1_i32_4260
  let v4115 : BitVec 32 := Scalar.addi c0_i32_4261 v4114
  v4115.toNat
def k0_dev186 (d0 : Dev nD) : Nat :=
  let c0_i32_4281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4280 : BitVec 32 := 1#32
  let v4134 : BitVec 32 := Scalar.muli v16 c1_i32_4280
  let v4135 : BitVec 32 := Scalar.addi c0_i32_4281 v4134
  v4135.toNat
def k0_mult137 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_4282 : BitVec 32 := 16#32
  let v4136 : BitVec 32 := Scalar.addi v5 c16_i32_4282
  let c5_i32_4283 : BitVec 32 := 5#32
  let v4137 : BitVec 32 := Scalar.subi v4136 c5_i32_4283
  let c8_i32_4305 : BitVec 32 := 8#32
  let v4155 : BitVec 32 := Scalar.remsi v4137 c8_i32_4305
  let c256_i32_4306 : BitVec 32 := 256#32
  let v4156 : BitVec 32 := Scalar.muli v4155 c256_i32_4306
  let c0_i32_4307 : BitVec 32 := 0#32
  let v4157 : BitVec 32 := Scalar.addi v4156 c0_i32_4307
  v4157
def k0_dev187 (d0 : Dev nD) : Nat :=
  let c0_i32_4315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4314 : BitVec 32 := 1#32
  let v4159 : BitVec 32 := Scalar.muli v16 c1_i32_4314
  let v4160 : BitVec 32 := Scalar.addi c0_i32_4315 v4159
  v4160.toNat
def k0_dev188 (d0 : Dev nD) : Nat :=
  let c0_i32_4335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4334 : BitVec 32 := 1#32
  let v4179 : BitVec 32 := Scalar.muli v11 c1_i32_4334
  let v4180 : BitVec 32 := Scalar.addi c0_i32_4335 v4179
  v4180.toNat
def k0_mult138 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_4284 : BitVec 32 := 5#32
  let v4138 : BitVec 32 := Scalar.addi v5 c5_i32_4284
  let c8_i32_4336 : BitVec 32 := 8#32
  let v4181 : BitVec 32 := Scalar.remsi v4138 c8_i32_4336
  let c256_i32_4337 : BitVec 32 := 256#32
  let v4182 : BitVec 32 := Scalar.muli v4181 c256_i32_4337
  let c0_i32_4338 : BitVec 32 := 0#32
  let v4183 : BitVec 32 := Scalar.addi v4182 c0_i32_4338
  v4183
def k0_dev189 (d0 : Dev nD) : Nat :=
  let c0_i32_4346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4345 : BitVec 32 := 1#32
  let v4185 : BitVec 32 := Scalar.muli v11 c1_i32_4345
  let v4186 : BitVec 32 := Scalar.addi c0_i32_4346 v4185
  v4186.toNat
def k0_dev190 (d0 : Dev nD) : Nat :=
  let c0_i32_4366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4365 : BitVec 32 := 1#32
  let v4205 : BitVec 32 := Scalar.muli v16 c1_i32_4365
  let v4206 : BitVec 32 := Scalar.addi c0_i32_4366 v4205
  v4206.toNat
def k0_mult139 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_4282 : BitVec 32 := 16#32
  let v4136 : BitVec 32 := Scalar.addi v5 c16_i32_4282
  let c5_i32_4283 : BitVec 32 := 5#32
  let v4137 : BitVec 32 := Scalar.subi v4136 c5_i32_4283
  let c8_i32_4387 : BitVec 32 := 8#32
  let v4223 : BitVec 32 := Scalar.remsi v4137 c8_i32_4387
  let c256_i32_4388 : BitVec 32 := 256#32
  let v4224 : BitVec 32 := Scalar.muli v4223 c256_i32_4388
  let c64_i32_4389 : BitVec 32 := 64#32
  let v4225 : BitVec 32 := Scalar.addi v4224 c64_i32_4389
  v4225
def k0_dev191 (d0 : Dev nD) : Nat :=
  let c0_i32_4397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4396 : BitVec 32 := 1#32
  let v4227 : BitVec 32 := Scalar.muli v16 c1_i32_4396
  let v4228 : BitVec 32 := Scalar.addi c0_i32_4397 v4227
  v4228.toNat
def k0_dev192 (d0 : Dev nD) : Nat :=
  let c0_i32_4417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4416 : BitVec 32 := 1#32
  let v4247 : BitVec 32 := Scalar.muli v11 c1_i32_4416
  let v4248 : BitVec 32 := Scalar.addi c0_i32_4417 v4247
  v4248.toNat
def k0_mult140 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_4284 : BitVec 32 := 5#32
  let v4138 : BitVec 32 := Scalar.addi v5 c5_i32_4284
  let c8_i32_4418 : BitVec 32 := 8#32
  let v4249 : BitVec 32 := Scalar.remsi v4138 c8_i32_4418
  let c256_i32_4419 : BitVec 32 := 256#32
  let v4250 : BitVec 32 := Scalar.muli v4249 c256_i32_4419
  let c64_i32_4420 : BitVec 32 := 64#32
  let v4251 : BitVec 32 := Scalar.addi v4250 c64_i32_4420
  v4251
def k0_dev193 (d0 : Dev nD) : Nat :=
  let c0_i32_4428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4427 : BitVec 32 := 1#32
  let v4253 : BitVec 32 := Scalar.muli v11 c1_i32_4427
  let v4254 : BitVec 32 := Scalar.addi c0_i32_4428 v4253
  v4254.toNat
def k0_dev194 (d0 : Dev nD) : Nat :=
  let c0_i32_4448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4447 : BitVec 32 := 1#32
  let v4273 : BitVec 32 := Scalar.muli v16 c1_i32_4447
  let v4274 : BitVec 32 := Scalar.addi c0_i32_4448 v4273
  v4274.toNat
def k0_mult141 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_4282 : BitVec 32 := 16#32
  let v4136 : BitVec 32 := Scalar.addi v5 c16_i32_4282
  let c5_i32_4283 : BitVec 32 := 5#32
  let v4137 : BitVec 32 := Scalar.subi v4136 c5_i32_4283
  let c8_i32_4469 : BitVec 32 := 8#32
  let v4291 : BitVec 32 := Scalar.remsi v4137 c8_i32_4469
  let c256_i32_4470 : BitVec 32 := 256#32
  let v4292 : BitVec 32 := Scalar.muli v4291 c256_i32_4470
  let c128_i32_4471 : BitVec 32 := 128#32
  let v4293 : BitVec 32 := Scalar.addi v4292 c128_i32_4471
  v4293
def k0_dev195 (d0 : Dev nD) : Nat :=
  let c0_i32_4479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4478 : BitVec 32 := 1#32
  let v4295 : BitVec 32 := Scalar.muli v16 c1_i32_4478
  let v4296 : BitVec 32 := Scalar.addi c0_i32_4479 v4295
  v4296.toNat
def k0_dev196 (d0 : Dev nD) : Nat :=
  let c0_i32_4499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4498 : BitVec 32 := 1#32
  let v4315 : BitVec 32 := Scalar.muli v11 c1_i32_4498
  let v4316 : BitVec 32 := Scalar.addi c0_i32_4499 v4315
  v4316.toNat
def k0_mult142 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_4284 : BitVec 32 := 5#32
  let v4138 : BitVec 32 := Scalar.addi v5 c5_i32_4284
  let c8_i32_4500 : BitVec 32 := 8#32
  let v4317 : BitVec 32 := Scalar.remsi v4138 c8_i32_4500
  let c256_i32_4501 : BitVec 32 := 256#32
  let v4318 : BitVec 32 := Scalar.muli v4317 c256_i32_4501
  let c128_i32_4502 : BitVec 32 := 128#32
  let v4319 : BitVec 32 := Scalar.addi v4318 c128_i32_4502
  v4319
def k0_dev197 (d0 : Dev nD) : Nat :=
  let c0_i32_4510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4509 : BitVec 32 := 1#32
  let v4321 : BitVec 32 := Scalar.muli v11 c1_i32_4509
  let v4322 : BitVec 32 := Scalar.addi c0_i32_4510 v4321
  v4322.toNat
def k0_dev198 (d0 : Dev nD) : Nat :=
  let c0_i32_4530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4529 : BitVec 32 := 1#32
  let v4341 : BitVec 32 := Scalar.muli v16 c1_i32_4529
  let v4342 : BitVec 32 := Scalar.addi c0_i32_4530 v4341
  v4342.toNat
def k0_mult143 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_4282 : BitVec 32 := 16#32
  let v4136 : BitVec 32 := Scalar.addi v5 c16_i32_4282
  let c5_i32_4283 : BitVec 32 := 5#32
  let v4137 : BitVec 32 := Scalar.subi v4136 c5_i32_4283
  let c8_i32_4551 : BitVec 32 := 8#32
  let v4359 : BitVec 32 := Scalar.remsi v4137 c8_i32_4551
  let c256_i32_4552 : BitVec 32 := 256#32
  let v4360 : BitVec 32 := Scalar.muli v4359 c256_i32_4552
  let c192_i32_4553 : BitVec 32 := 192#32
  let v4361 : BitVec 32 := Scalar.addi v4360 c192_i32_4553
  v4361
def k0_dev199 (d0 : Dev nD) : Nat :=
  let c0_i32_4561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4560 : BitVec 32 := 1#32
  let v4363 : BitVec 32 := Scalar.muli v16 c1_i32_4560
  let v4364 : BitVec 32 := Scalar.addi c0_i32_4561 v4363
  v4364.toNat
def k0_dev200 (d0 : Dev nD) : Nat :=
  let c0_i32_4581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4580 : BitVec 32 := 1#32
  let v4383 : BitVec 32 := Scalar.muli v11 c1_i32_4580
  let v4384 : BitVec 32 := Scalar.addi c0_i32_4581 v4383
  v4384.toNat
def k0_mult144 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_4284 : BitVec 32 := 5#32
  let v4138 : BitVec 32 := Scalar.addi v5 c5_i32_4284
  let c8_i32_4582 : BitVec 32 := 8#32
  let v4385 : BitVec 32 := Scalar.remsi v4138 c8_i32_4582
  let c256_i32_4583 : BitVec 32 := 256#32
  let v4386 : BitVec 32 := Scalar.muli v4385 c256_i32_4583
  let c192_i32_4584 : BitVec 32 := 192#32
  let v4387 : BitVec 32 := Scalar.addi v4386 c192_i32_4584
  v4387
def k0_dev201 (d0 : Dev nD) : Nat :=
  let c0_i32_4592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4591 : BitVec 32 := 1#32
  let v4389 : BitVec 32 := Scalar.muli v11 c1_i32_4591
  let v4390 : BitVec 32 := Scalar.addi c0_i32_4592 v4389
  v4390.toNat
def k0_dev202 (d0 : Dev nD) : Nat :=
  let c0_i32_4612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4611 : BitVec 32 := 1#32
  let v4409 : BitVec 32 := Scalar.muli v16 c1_i32_4611
  let v4410 : BitVec 32 := Scalar.addi c0_i32_4612 v4409
  v4410.toNat
def k0_mult145 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_4613 : BitVec 32 := 16#32
  let v4411 : BitVec 32 := Scalar.addi v5 c16_i32_4613
  let c6_i32_4614 : BitVec 32 := 6#32
  let v4412 : BitVec 32 := Scalar.subi v4411 c6_i32_4614
  let c8_i32_4636 : BitVec 32 := 8#32
  let v4430 : BitVec 32 := Scalar.remsi v4412 c8_i32_4636
  let c256_i32_4637 : BitVec 32 := 256#32
  let v4431 : BitVec 32 := Scalar.muli v4430 c256_i32_4637
  let c0_i32_4638 : BitVec 32 := 0#32
  let v4432 : BitVec 32 := Scalar.addi v4431 c0_i32_4638
  v4432
def k0_dev203 (d0 : Dev nD) : Nat :=
  let c0_i32_4654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4653 : BitVec 32 := 1#32
  let v4444 : BitVec 32 := Scalar.muli v11 c1_i32_4653
  let v4445 : BitVec 32 := Scalar.addi c0_i32_4654 v4444
  v4445.toNat
def k0_mult146 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_4615 : BitVec 32 := 6#32
  let v4413 : BitVec 32 := Scalar.addi v5 c6_i32_4615
  let c8_i32_4655 : BitVec 32 := 8#32
  let v4446 : BitVec 32 := Scalar.remsi v4413 c8_i32_4655
  let c256_i32_4656 : BitVec 32 := 256#32
  let v4447 : BitVec 32 := Scalar.muli v4446 c256_i32_4656
  let c0_i32_4657 : BitVec 32 := 0#32
  let v4448 : BitVec 32 := Scalar.addi v4447 c0_i32_4657
  v4448
def k0_dev204 (d0 : Dev nD) : Nat :=
  let c0_i32_4673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4672 : BitVec 32 := 1#32
  let v4460 : BitVec 32 := Scalar.muli v16 c1_i32_4672
  let v4461 : BitVec 32 := Scalar.addi c0_i32_4673 v4460
  v4461.toNat
def k0_mult147 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_4613 : BitVec 32 := 16#32
  let v4411 : BitVec 32 := Scalar.addi v5 c16_i32_4613
  let c6_i32_4614 : BitVec 32 := 6#32
  let v4412 : BitVec 32 := Scalar.subi v4411 c6_i32_4614
  let c8_i32_4694 : BitVec 32 := 8#32
  let v4478 : BitVec 32 := Scalar.remsi v4412 c8_i32_4694
  let c256_i32_4695 : BitVec 32 := 256#32
  let v4479 : BitVec 32 := Scalar.muli v4478 c256_i32_4695
  let c64_i32_4696 : BitVec 32 := 64#32
  let v4480 : BitVec 32 := Scalar.addi v4479 c64_i32_4696
  v4480
def k0_dev205 (d0 : Dev nD) : Nat :=
  let c0_i32_4712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4711 : BitVec 32 := 1#32
  let v4492 : BitVec 32 := Scalar.muli v11 c1_i32_4711
  let v4493 : BitVec 32 := Scalar.addi c0_i32_4712 v4492
  v4493.toNat
def k0_mult148 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_4615 : BitVec 32 := 6#32
  let v4413 : BitVec 32 := Scalar.addi v5 c6_i32_4615
  let c8_i32_4713 : BitVec 32 := 8#32
  let v4494 : BitVec 32 := Scalar.remsi v4413 c8_i32_4713
  let c256_i32_4714 : BitVec 32 := 256#32
  let v4495 : BitVec 32 := Scalar.muli v4494 c256_i32_4714
  let c64_i32_4715 : BitVec 32 := 64#32
  let v4496 : BitVec 32 := Scalar.addi v4495 c64_i32_4715
  v4496
def k0_dev206 (d0 : Dev nD) : Nat :=
  let c0_i32_4731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4730 : BitVec 32 := 1#32
  let v4508 : BitVec 32 := Scalar.muli v16 c1_i32_4730
  let v4509 : BitVec 32 := Scalar.addi c0_i32_4731 v4508
  v4509.toNat
def k0_mult149 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_4613 : BitVec 32 := 16#32
  let v4411 : BitVec 32 := Scalar.addi v5 c16_i32_4613
  let c6_i32_4614 : BitVec 32 := 6#32
  let v4412 : BitVec 32 := Scalar.subi v4411 c6_i32_4614
  let c8_i32_4752 : BitVec 32 := 8#32
  let v4526 : BitVec 32 := Scalar.remsi v4412 c8_i32_4752
  let c256_i32_4753 : BitVec 32 := 256#32
  let v4527 : BitVec 32 := Scalar.muli v4526 c256_i32_4753
  let c128_i32_4754 : BitVec 32 := 128#32
  let v4528 : BitVec 32 := Scalar.addi v4527 c128_i32_4754
  v4528
def k0_dev207 (d0 : Dev nD) : Nat :=
  let c0_i32_4770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4769 : BitVec 32 := 1#32
  let v4540 : BitVec 32 := Scalar.muli v11 c1_i32_4769
  let v4541 : BitVec 32 := Scalar.addi c0_i32_4770 v4540
  v4541.toNat
def k0_mult150 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_4615 : BitVec 32 := 6#32
  let v4413 : BitVec 32 := Scalar.addi v5 c6_i32_4615
  let c8_i32_4771 : BitVec 32 := 8#32
  let v4542 : BitVec 32 := Scalar.remsi v4413 c8_i32_4771
  let c256_i32_4772 : BitVec 32 := 256#32
  let v4543 : BitVec 32 := Scalar.muli v4542 c256_i32_4772
  let c128_i32_4773 : BitVec 32 := 128#32
  let v4544 : BitVec 32 := Scalar.addi v4543 c128_i32_4773
  v4544
def k0_dev208 (d0 : Dev nD) : Nat :=
  let c0_i32_4789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4788 : BitVec 32 := 1#32
  let v4556 : BitVec 32 := Scalar.muli v16 c1_i32_4788
  let v4557 : BitVec 32 := Scalar.addi c0_i32_4789 v4556
  v4557.toNat
def k0_mult151 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_4613 : BitVec 32 := 16#32
  let v4411 : BitVec 32 := Scalar.addi v5 c16_i32_4613
  let c6_i32_4614 : BitVec 32 := 6#32
  let v4412 : BitVec 32 := Scalar.subi v4411 c6_i32_4614
  let c8_i32_4810 : BitVec 32 := 8#32
  let v4574 : BitVec 32 := Scalar.remsi v4412 c8_i32_4810
  let c256_i32_4811 : BitVec 32 := 256#32
  let v4575 : BitVec 32 := Scalar.muli v4574 c256_i32_4811
  let c192_i32_4812 : BitVec 32 := 192#32
  let v4576 : BitVec 32 := Scalar.addi v4575 c192_i32_4812
  v4576
def k0_dev209 (d0 : Dev nD) : Nat :=
  let c0_i32_4828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4827 : BitVec 32 := 1#32
  let v4588 : BitVec 32 := Scalar.muli v11 c1_i32_4827
  let v4589 : BitVec 32 := Scalar.addi c0_i32_4828 v4588
  v4589.toNat
def k0_mult152 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_4615 : BitVec 32 := 6#32
  let v4413 : BitVec 32 := Scalar.addi v5 c6_i32_4615
  let c8_i32_4829 : BitVec 32 := 8#32
  let v4590 : BitVec 32 := Scalar.remsi v4413 c8_i32_4829
  let c256_i32_4830 : BitVec 32 := 256#32
  let v4591 : BitVec 32 := Scalar.muli v4590 c256_i32_4830
  let c192_i32_4831 : BitVec 32 := 192#32
  let v4592 : BitVec 32 := Scalar.addi v4591 c192_i32_4831
  v4592
def k0_dev210 (d0 : Dev nD) : Nat :=
  let c0_i32_4847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4846 : BitVec 32 := 1#32
  let v4604 : BitVec 32 := Scalar.muli v16 c1_i32_4846
  let v4605 : BitVec 32 := Scalar.addi c0_i32_4847 v4604
  v4605.toNat
def k0_dev211 (d0 : Dev nD) : Nat :=
  let c0_i32_4859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4858 : BitVec 32 := 1#32
  let v4612 : BitVec 32 := Scalar.muli v11 c1_i32_4858
  let v4613 : BitVec 32 := Scalar.addi c0_i32_4859 v4612
  v4613.toNat
def k0_dev212 (d0 : Dev nD) : Nat :=
  let c0_i32_4871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4870 : BitVec 32 := 1#32
  let v4620 : BitVec 32 := Scalar.muli v16 c1_i32_4870
  let v4621 : BitVec 32 := Scalar.addi c0_i32_4871 v4620
  v4621.toNat
def k0_dev213 (d0 : Dev nD) : Nat :=
  let c0_i32_4883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4882 : BitVec 32 := 1#32
  let v4628 : BitVec 32 := Scalar.muli v11 c1_i32_4882
  let v4629 : BitVec 32 := Scalar.addi c0_i32_4883 v4628
  v4629.toNat
def k0_dev214 (d0 : Dev nD) : Nat :=
  let c0_i32_4895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4894 : BitVec 32 := 1#32
  let v4636 : BitVec 32 := Scalar.muli v16 c1_i32_4894
  let v4637 : BitVec 32 := Scalar.addi c0_i32_4895 v4636
  v4637.toNat
def k0_dev215 (d0 : Dev nD) : Nat :=
  let c0_i32_4907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4906 : BitVec 32 := 1#32
  let v4644 : BitVec 32 := Scalar.muli v11 c1_i32_4906
  let v4645 : BitVec 32 := Scalar.addi c0_i32_4907 v4644
  v4645.toNat
def k0_dev216 (d0 : Dev nD) : Nat :=
  let c0_i32_4919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4918 : BitVec 32 := 1#32
  let v4652 : BitVec 32 := Scalar.muli v16 c1_i32_4918
  let v4653 : BitVec 32 := Scalar.addi c0_i32_4919 v4652
  v4653.toNat
def k0_dev217 (d0 : Dev nD) : Nat :=
  let c0_i32_4931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4930 : BitVec 32 := 1#32
  let v4660 : BitVec 32 := Scalar.muli v11 c1_i32_4930
  let v4661 : BitVec 32 := Scalar.addi c0_i32_4931 v4660
  v4661.toNat
def k0_dev218 (d0 : Dev nD) : Nat :=
  let c0_i32_4943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4942 : BitVec 32 := 1#32
  let v4668 : BitVec 32 := Scalar.muli v16 c1_i32_4942
  let v4669 : BitVec 32 := Scalar.addi c0_i32_4943 v4668
  v4669.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .bf16⟩
  | .hbm, ⟨4, _⟩ => ⟨S_, .bf16⟩
  | .hbm, ⟨5, _⟩ => ⟨S2048x2048, .bf16⟩
  | .hbm, ⟨6, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Prog.lean ====
/- The kernel as a program over tables: its buffers and semaphores by flow, its slots by hop, its offsets by
   flow and hop, and the body as loops over them. -/
module

public import proofs.«01_k».proof.Proof.Gen.KernelIdeal
public import proofs.«01_k».proof.Proof.Gen.KernelIdeal.Points
public import Idealize.ShloMosaic.Lib.Pipeline.Regions

@[expose] public section

noncomputable section

namespace Cert.Proof.Ring

open Cert.KernelIdeal Cert.KernelIdeal.Gen
open Idealize.ShloMosaic Idealize.SL.Sem

variable {F : FTy → Type} [FloatOps F]

/-- A stretch of the kernel's body. -/
abbrev PR (F : FTy → Type) [FloatOps F] := Prog (TpuEff nD τ sig (Elt F) Λ₀ .tc) PUnit

/-! ## The buffers and the semaphores, by flow -/

abbrev aM : Memref sig .tc .vmem S2048x1024 .bf16 := Memref.whole cc0_stg0_0
abbrev bM : Memref sig .tc .vmem S1024x2048 .bf16 := Memref.whole cc0_stg1_0
abbrev oM : Memref sig .tc .vmem S2048x2048 .bf16 := Memref.whole cc0_stg2_0

/-- The buffer the flow's hops arrive in, four slots. -/
def cM (f : Fin 8) : Memref sig .tc .vmem S4x64x1024 .bf16 := match f with
  | 0 => Memref.whole cc0_scratch0 | 1 => Memref.whole cc0_scratch1
  | 2 => Memref.whole cc0_scratch2 | 3 => Memref.whole cc0_scratch3
  | 4 => Memref.whole cc0_scratch4 | 5 => Memref.whole cc0_scratch5
  | 6 => Memref.whole cc0_scratch6 | 7 => Memref.whole cc0_scratch7

/-- The buffer the flow's partial sums are sent from, four slots. -/
def gM (f : Fin 8) : Memref sig .tc .vmem S4x64x1024 .bf16 := match f with
  | 0 => Memref.whole cc0_scratch8 | 1 => Memref.whole cc0_scratch9
  | 2 => Memref.whole cc0_scratch10 | 3 => Memref.whole cc0_scratch11
  | 4 => Memref.whole cc0_scratch12 | 5 => Memref.whole cc0_scratch13
  | 6 => Memref.whole cc0_scratch14 | 7 => Memref.whole cc0_scratch15

theorem cM_whole (f : Fin 8) : (cM f).IsWhole := by
  fin_cases f <;> exact Memref.isWhole_whole _

theorem gM_whole (f : Fin 8) : (gM f).IsWhole := by
  fin_cases f <;> exact Memref.isWhole_whole _

/-- The flow's send semaphores. -/
def ssA (f : Fin 8) : DmaSems sig S4 := match f with
  | 0 => cc0_scratch16 | 1 => cc0_scratch17 | 2 => cc0_scratch18 | 3 => cc0_scratch19
  | 4 => cc0_scratch20 | 5 => cc0_scratch21 | 6 => cc0_scratch22 | 7 => cc0_scratch23

/-- The flow's receive semaphores. -/
def rsA (f : Fin 8) : DmaSems sig S4 := match f with
  | 0 => cc0_scratch24 | 1 => cc0_scratch25 | 2 => cc0_scratch26 | 3 => cc0_scratch27
  | 4 => cc0_scratch28 | 5 => cc0_scratch29 | 6 => cc0_scratch30 | 7 => cc0_scratch31

/-- The flow's credit semaphore. -/
def crA (f : Fin 8) : Sems sig S_ := match f with
  | 0 => cc0_scratch32 | 1 => cc0_scratch33 | 2 => cc0_scratch34 | 3 => cc0_scratch35
  | 4 => cc0_scratch36 | 5 => cc0_scratch37 | 6 => cc0_scratch38 | 7 => cc0_scratch39

abbrev cS (f : Fin 8) : Sem sig := (crA f).sem
abbrev barS : Sem sig := (SemArray.scalar (sig.barrier 0 rfl) : Sems sig S_).sem

/-! ## Slots -/

theorem slot_inb (h : ℕ) : ∀ a, (![h % 4, 0, 0] : Fin 3 → ℕ) a + S1x64x1024.size a ≤ S4x64x1024.size a := by
  have key : ∀ r : Fin 4, ∀ a, (![r.val, 0, 0] : Fin 3 → ℕ) a + S1x64x1024.size a ≤ S4x64x1024.size a := by
    decide +kernel
  exact key ⟨h % 4, Nat.mod_lt _ (by decide)⟩

/-- The slot of hop `h` in a buffer of four. -/
abbrev slotR (h : ℕ) : Rect S4x64x1024 :=
  Rect.unit (s := S4x64x1024) ![h % 4, 0, 0] S1x64x1024.size (slot_inb h)

theorem slot_packed (h : ℕ) : (slotR h).PackedRows (EltTy.packing .bf16) := by
  have key : ∀ r : Fin 4, ∀ hi, (Rect.unit (s := S4x64x1024) ![r.val, 0, 0] S1x64x1024.size hi).PackedRows
      (EltTy.packing .bf16) := by
    decide +kernel
  exact key ⟨h % 4, Nat.mod_lt _ (by decide)⟩ _

theorem slot_words (h : ℕ) : (slotR h).WholeWords (EltTy.packing .bf16) := by
  have key : ∀ r : Fin 4, ∀ hi, (Rect.unit (s := S4x64x1024) ![r.val, 0, 0] S1x64x1024.size hi).WholeWords
      (EltTy.packing .bf16) := by
    decide +kernel
  exact key ⟨h % 4, Nat.mod_lt _ (by decide)⟩ _

/-- Slot `h` of the buffer `M`, as a transfer names it. -/
abbrev slotM (M : Memref sig .tc .vmem S4x64x1024 .bf16) (h : ℕ) : Memref sig .tc .vmem S64x1024 .bf16 :=
  (M.slice (slotR h) (fun _ => rfl)).squeeze S64x1024 squeezes_S1x64x1024_S64x1024

theorem slotM_words (M : Memref sig .tc .vmem S4x64x1024 .bf16) (hM : M.IsWhole) (h : ℕ) :
    (slotM M h).view.WordExact :=
  (hM.wordExact_slice rfl _ (slot_words h)).reshape _ _

theorem sem_inb (h : ℕ) : ∀ a, (![h % 4] : Fin 1 → ℕ) a + S1.size a ≤ S4.size a := by
  have key : ∀ r : Fin 4, ∀ a, (![r.val] : Fin 1 → ℕ) a + S1.size a ≤ S4.size a := by
    decide +kernel
  exact key ⟨h % 4, Nat.mod_lt _ (by decide)⟩

/-- The semaphore of hop `h` in an array of four. -/
abbrev semAt (A : DmaSems sig S4) (h : ℕ) : DmaSem sig :=
  ((A.slice (Rect.unit (s := S4) ![h % 4] S1.size (sem_inb h))).squeeze S_ squeezes_S1_S_).sem

abbrev sS (f : Fin 8) (h : ℕ) : DmaSem sig := semAt (ssA f) h
abbrev rS (f : Fin 8) (h : ℕ) : DmaSem sig := semAt (rsA f) h

/-- What hop `h` of the flow is sent from: the sums' buffer up to the reduced tile (hop 7), and from then on the
    slot the previous hop arrived in. -/
def srcBuf (f : Fin 8) (h : ℕ) : Memref sig .tc .vmem S4x64x1024 .bf16 := if h < 8 then gM f else cM f
def srcIx (h : ℕ) : ℕ := if h < 8 then h else h - 1

theorem srcBuf_whole (f : Fin 8) (h : ℕ) : (srcBuf f h).IsWhole := by
  unfold srcBuf; split
  · exact gM_whole f
  · exact cM_whole f

abbrev srcM (f : Fin 8) (h : ℕ) : Memref sig .tc .vmem S64x1024 .bf16 := slotM (srcBuf f h) (srcIx h)
abbrev dstM (f : Fin 8) (h : ℕ) : Memref sig .tc .vmem S64x1024 .bf16 := slotM (cM f) h

/-! ## Devices -/

/-- The neighbours on the ring. -/
abbrev lftD (d : Dev nD) : Dev nD := ⟨k0_dev1 d, k0_dev1_lt d⟩
abbrev rgtD (d : Dev nD) : Dev nD := ⟨k0_dev2 d, k0_dev2_lt d⟩

/-- Whom the flow sends to, and who sends it to this device: even flows run right, odd ones left. -/
def toD (f : Fin 8) (d : Dev nD) : Dev nD := if f.val % 2 = 0 then rgtD d else lftD d
def frD (f : Fin 8) (d : Dev nD) : Dev nD := if f.val % 2 = 0 then lftD d else rgtD d

/-! ## Offsets -/

/-- The quarter of its 256 rows that a flow carries. -/
abbrev sub (f : Fin 8) : Fin 4 := ⟨f.val / 2, by omega⟩

/-- Where the tile a flow starts from lies in the result. -/
def off0 (d : Dev nD) (f : Fin 8) : Fin 2 → ℕ :=
  if f.val % 2 = 0 then k0_off3 d (BitVec.ofNat 32 (64 * (sub f).val)) else k0_off5 d (BitVec.ofNat 32 (64 * (sub f).val))
/-- Where the tile that hop `k` of the reduction adds lies in the result. -/
def offR (d : Dev nD) (k : Fin 7) (f : Fin 8) : Fin 2 → ℕ :=
  if f.val % 2 = 0 then k0_off10 d (BitVec.ofNat 32 k.val) (BitVec.ofNat 32 (64 * (sub f).val))
  else k0_off11 d (BitVec.ofNat 32 k.val) (BitVec.ofNat 32 (64 * (sub f).val))
/-- Where the tile that hop `7 + s` brings goes in the result. -/
def offG (d : Dev nD) (s : Fin 7) (f : Fin 8) : Fin 2 → ℕ :=
  if f.val % 2 = 0 then k0_off12 d (BitVec.ofNat 32 s.val) (BitVec.ofNat 32 (64 * (sub f).val))
  else k0_off13 d (BitVec.ofNat 32 s.val) (BitVec.ofNat 32 (64 * (sub f).val))

theorem off0_inb (d : Dev nD) (f : Fin 8) : ∀ a, off0 d f a + S64x1024.size a ≤ S2048x2048.size a := by
  unfold off0; split
  · exact k0_off3_inb d (sub f)
  · exact k0_off5_inb d (sub f)
theorem offR_inb (d : Dev nD) (k : Fin 7) (f : Fin 8) : ∀ a, offR d k f a + S64x1024.size a ≤ S2048x2048.size a := by
  unfold offR; split
  · exact k0_off10_inb d k (sub f)
  · exact k0_off11_inb d k (sub f)
theorem offG_inb (d : Dev nD) (k : Fin 7) (f : Fin 8) : ∀ a, offG d k f a + S64x1024.size a ≤ S2048x2048.size a := by
  unfold offG; split
  · exact k0_off12_inb d k (sub f)
  · exact k0_off13_inb d k (sub f)

/-- A tile of the result at an offset. -/
abbrev tileR (o : Fin 2 → ℕ) (ho : ∀ a, o a + S64x1024.size a ≤ S2048x2048.size a) : Rect S2048x2048 :=
  Rect.unit (s := S2048x2048) o S64x1024.size ho
/-- A block of the result at an offset. -/
abbrev blkR (o : Fin 2 → ℕ) (ho : ∀ a, o a + S256x1024.size a ≤ S2048x2048.size a) : Rect S2048x2048 :=
  Rect.unit (s := S2048x2048) o S256x1024.size ho

theorem packed_of {o o' : Fin 2 → ℕ} {s : Fin 2 → ℕ} {h : ∀ a, o a + s a ≤ S2048x2048.size a}
    {h' : ∀ a, o' a + s a ≤ S2048x2048.size a} (e : o' = o)
    (hp : (Rect.unit (s := S2048x2048) o s h).PackedRows (EltTy.packing .bf16)) :
    (Rect.unit (s := S2048x2048) o' s h').PackedRows (EltTy.packing .bf16) := by
  subst e; exact hp

theorem offR_packed (d : Dev nD) (k : Fin 7) (f : Fin 8) :
    (tileR (offR d k f) (offR_inb d k f)).PackedRows (EltTy.packing .bf16) := by
  by_cases h : f.val % 2 = 0
  · exact packed_of (by unfold offR; rw [if_pos h]) (k0_off10_packedbf16 d k (sub f))
  · exact packed_of (by unfold offR; rw [if_neg h]) (k0_off11_packedbf16 d k (sub f))
theorem offG_packed (d : Dev nD) (k : Fin 7) (f : Fin 8) :
    (tileR (offG d k f) (offG_inb d k f)).PackedRows (EltTy.packing .bf16) := by
  by_cases h : f.val % 2 = 0
  · exact packed_of (by unfold offG; rw [if_pos h]) (k0_off12_packedbf16 d k (sub f))
  · exact packed_of (by unfold offG; rw [if_neg h]) (k0_off13_packedbf16 d k (sub f))

/-! ## The steps -/

theorem half_inb (w : Fin 2) : ∀ a, (![0, 1024 * w.val] : Fin 2 → ℕ) a + S1024x1024.size a ≤ S1024x2048.size a := by
  revert w; decide +kernel

/-- The value of one product of blocks. -/
def mmV (a : Vec F S256x1024 .bf16) (b : Vec F S1024x1024 .bf16) : FVec F S256x1024 .bf16 :=
  truncf .bf16 (matmul dot_S256x1024_S1024x1024_S256x1024_1_0_0_1_n_n none
    (shapeCast S256x1024 a shapeCasts_S256x1024_S256x1024 : FVec F S256x1024 .bf16)
    (shapeCast S1024x1024 b shapeCasts_S1024x1024_S1024x1024 : FVec F S1024x1024 .bf16)
    (constant S256x1024 .f32 0x00000000#32)) bitsLt_bf16_f32

/-- One product of blocks: rows of the left argument at `oa`, half `w` of the right one's columns, to the result
    at `o`. -/
def mmP (oa : Fin 2 → ℕ) (ha : ∀ a, oa a + S256x1024.size a ≤ S2048x1024.size a) (w : Fin 2)
    (o : Fin 2 → ℕ) (ho : ∀ a, o a + S256x1024.size a ≤ S2048x2048.size a)
    (hp : (blkR o ho).PackedRows (EltTy.packing .bf16)) : PR F := do
  let a : Vec F S256x1024 .bf16 ← Prog.lift (.load aM (Rect.unit (s := S2048x1024) oa S256x1024.size ha).toLoadRect (View.loadsAt_vmem h_S256x1024))
  let b : Vec F S1024x1024 .bf16 ← Prog.lift (.load bM (Rect.unit (s := S1024x2048) ![0, 1024 * w.val] S1024x1024.size (half_inb w)).toLoadRect (View.loadsAt_vmem h_S1024x1024))
  let _v : Vec F S256x1024 .bf16 ← Prog.lift (.load oM (blkR o ho).toLoadRect (View.loadsAt_vmem h_S256x1024))
  Prog.lift (.store oM (blkR o ho) (mmV a b) Finset.univ (View.stores_vmem h_S256x1024 ((Memref.isWhole_whole _).storeExact_slice rfl _ hp) (fun _ => rfl)) (.inl rfl))

/-- Send hop `h` of the flow. -/
def startP (d : Dev nD) (f : Fin 8) (h : ℕ) : PR F :=
  Prog.lift (.enqueueDma (srcM f h) (.remote (Dev.tc (toD f d)) (dstM f h) (.dma (sS f h))) (.dma (rS f h))
    (slotM_words _ (srcBuf_whole f h) _) (slotM_words _ (cM_whole f) _) ⟨⟨rfl, Or.inl rfl⟩, trivial⟩)

/-- Wait until hop `h` of the flow has arrived. -/
def recvP (f : Fin 8) (h : ℕ) : PR F :=
  Prog.lift (.waitDma2 (rS f h) (srcM f h) (dstM f h)
    (slotM_words _ (srcBuf_whole f h) _) (slotM_words _ (cM_whole f) _))

/-- Wait until hop `h` of the flow has left. -/
def sentP (f : Fin 8) (h : ℕ) : PR F :=
  Prog.lift (.waitDma2 (sS f h) (dstM f h) (srcM f h)
    (slotM_words _ (cM_whole f) _) (slotM_words _ (srcBuf_whole f h) _))

/-- Write a tile into a slot of the sums' buffer. -/
def putP (f : Fin 8) (h : ℕ) (v : FVec F S64x1024 .bf16) : PR F := do
  let _v : Vec F S1x64x1024 .bf16 ← Prog.lift (.load (gM f) (slotR h).toLoadRect (View.loadsAt_vmem h_S1x64x1024))
  Prog.lift (.store (gM f) (slotR h) (shapeCast S1x64x1024 v shapeCasts_S64x1024_S1x64x1024 : FVec F S1x64x1024 .bf16) Finset.univ (View.stores_vmem h_S1x64x1024 ((gM_whole f).storeExact_slice rfl _ (slot_packed h)) (fun _ => rfl)) (.inl rfl))

/-- Write a tile of the result. -/
def outP (o : Fin 2 → ℕ) (ho : ∀ a, o a + S64x1024.size a ≤ S2048x2048.size a)
    (hp : (tileR o ho).PackedRows (EltTy.packing .bf16)) (v : FVec F S64x1024 .bf16) : PR F := do
  let _v : Vec F S64x1024 .bf16 ← Prog.lift (.load oM (tileR o ho).toLoadRect (View.loadsAt_vmem h_S64x1024))
  Prog.lift (.store oM (tileR o ho) v Finset.univ (View.stores_vmem h_S64x1024 ((Memref.isWhole_whole _).storeExact_slice rfl _ hp) (fun _ => rfl)) (.inl rfl))

/-- The start of a flow: its own tile, from the result to the sums' buffer, and the first hop. -/
def initP (d : Dev nD) (f : Fin 8) : PR F := do
  let t : Vec F S64x1024 .bf16 ← Prog.lift (.load oM (tileR (off0 d f) (off0_inb d f)).toLoadRect (View.loadsAt_vmem h_S64x1024))
  putP f 0 (shapeCast S64x1024 t shapeCasts_S64x1024_S64x1024 : FVec F S64x1024 .bf16)
  startP d f 0

/-- One addition of the reduction. -/
def addV (t : Vec F S64x1024 .bf16) (l : Vec F S1x64x1024 .bf16) : FVec F S64x1024 .f32 :=
  addf (extf .f32 (shapeCast S64x1024 t shapeCasts_S64x1024_S64x1024 : FVec F S64x1024 .bf16) bitsLt_bf16_f32)
    (extf .f32 (shapeCast S64x1024 l shapeCasts_S1x64x1024_S64x1024 : FVec F S64x1024 .bf16) bitsLt_bf16_f32)

/-- What hop `k` of the reduction sends on: the sum, clipped at zero when it is complete. -/
def redV (k : ℕ) (t : Vec F S64x1024 .bf16) (l : Vec F S1x64x1024 .bf16) : FVec F S64x1024 .bf16 :=
  if k = 6 then truncf .bf16 (maximumf (addV t l) (broadcast S64x1024 (Scalar.ofBits .f32 0x00000000#32))) bitsLt_bf16_f32
  else truncf .bf16 (addV t l) bitsLt_bf16_f32

/-- A step that some hops take. -/
def optP (b : Prop) [Decidable b] (p : PR F) : PR F := if b then p else pure ⟨⟩

/-- One hop of the reduction, once its tile has arrived. -/
def redP (d : Dev nD) (k : Fin 7) (f : Fin 8) : PR F := do
  optP (3 ≤ k.val) (sentP f (k.val - 3))
  let t : Vec F S64x1024 .bf16 ← Prog.lift (.load oM (tileR (offR d k f) (offR_inb d k f)).toLoadRect (View.loadsAt_vmem h_S64x1024))
  let l : Vec F S1x64x1024 .bf16 ← Prog.lift (.load (cM f) (slotR k.val).toLoadRect (View.loadsAt_vmem h_S1x64x1024))
  optP (k.val = 6) (outP (offR d k f) (offR_inb d k f) (offR_packed d k f) (redV k.val t l))
  putP f (k.val + 1) (redV k.val t l)
  optP (3 ≤ k.val) (semWaitWord (cS f) 1#32)
  startP d f (k.val + 1)
  semSignalWord (frD f d) (cS f) 1#32

/-- Copy an arrived tile into the result. -/
def copyP (d : Dev nD) (s : Fin 7) (f : Fin 8) : PR F := do
  let l : Vec F S1x64x1024 .bf16 ← Prog.lift (.load (cM f) (slotR (7 + s.val)).toLoadRect (View.loadsAt_vmem h_S1x64x1024))
  outP (offG d s f) (offG_inb d s f) (offG_packed d s f) (shapeCast S64x1024 l shapeCasts_S1x64x1024_S64x1024 : FVec F S64x1024 .bf16)

/-- Send an arrived tile on. -/
def nextP (d : Dev nD) (f : Fin 8) (h : ℕ) : PR F := do
  semWaitWord (cS f) 1#32
  startP d f h

/-- A hop has left: its slot is handed back. -/
def backP (d : Dev nD) (f : Fin 8) (h : ℕ) : PR F := do
  sentP f h
  semSignalWord (frD f d) (cS f) 1#32

/-- One hop of the spreading, once its tile has arrived. -/
def sprP (d : Dev nD) (s : Fin 7) (f : Fin 8) : PR F := do
  optP (s.val ≤ 3) (sentP f (4 + s.val))
  optP (s.val ≤ 5) (nextP d f (8 + s.val))
  copyP d s f
  optP (2 ≤ s.val) (backP d f (6 + s.val))

/-- A step for each flow of a list, in order. -/
def eachP (p : Fin 8 → PR F) : List (Fin 8) → PR F
  | [] => pure ⟨⟩
  | f :: fs => do p f; eachP p fs

/-- Two flows at a time: both tiles arrive, then each is dealt with. -/
def pairP (h : ℕ) (p : Fin 8 → PR F) (f g : Fin 8) : PR F := do
  recvP f h
  recvP g h
  p f
  p g

def pairsP (h : ℕ) (p : Fin 8 → PR F) : PR F := do
  pairP h p 0 1
  pairP h p 2 3
  pairP h p 4 5
  pairP h p 6 7

/-- One hop of the reduction, over all the flows. -/
def redHop (d : Dev nD) (k : Fin 7) : PR F := do
  mmP (k0_off6 d (BitVec.ofNat 32 k.val)) (k0_off6_inb d k) 0 (k0_off7 d (BitVec.ofNat 32 k.val)) (k0_off7_inb d k) (k0_off7_packedbf16 d k)
  mmP (k0_off8 d (BitVec.ofNat 32 k.val)) (k0_off8_inb d k) 1 (k0_off9 d (BitVec.ofNat 32 k.val)) (k0_off9_inb d k) (k0_off9_packedbf16 d k)
  pairsP k.val (redP d k)

/-- One hop of the spreading, over all the flows. -/
def sprHop (d : Dev nD) (s : Fin 7) : PR F := pairsP (7 + s.val) (sprP d s)

/-- The last of a flow: its last hop has left, and the two credits that no hop returned. -/
def endP (d : Dev nD) (f : Fin 8) : PR F := do
  sentP f 13
  semSignalWord (frD f d) (cS f) 2#32

/-- The start: the neighbours are there. -/
def meetP (d : Dev nD) : PR F := do
  semSignalWord (lftD d) barS 1#32
  semSignalWord (rgtD d) barS 1#32
  semWaitWord barS 2#32

def startsP (d : Dev nD) : PR F := do
  mmP (k0_off1 d) (k0_off1_inb d) 0 (k0_off2 d) (k0_off2_inb d) (k0_off2_packedbf16 d)
  eachP (initP d) [0, 2, 4, 6]
  mmP (k0_off1 d) (k0_off1_inb d) 1 (k0_off4 d) (k0_off4_inb d) (k0_off4_packedbf16 d)
  eachP (initP d) [1, 3, 5, 7]

def hopsP (p : Fin 7 → PR F) : PR F := do
  p 0; p 1; p 2; p 3; p 4; p 5; p 6

def endsP (d : Dev nD) : PR F := do
  eachP (endP d) [0, 1, 2, 3, 4, 5, 6, 7]
  eachP (fun f => semWaitWord (cS f) 4#32) [0, 1, 2, 3, 4, 5, 6, 7]

/-- The body on one device. -/
def coreP (d : Dev nD) : PR F := do
  meetP d
  startsP d
  hopsP (redHop d)
  hopsP (sprHop d)
  endsP d

def bodyP : PR F := do
  let d : Dev nD ← Prog.lift .deviceId
  coreP d

/-- The body the pipeline runs is this one. -/
theorem body_eq (t : Fin cfg0.N) : bodyAt0 (F := F) t = bodyP := by chain_rfl

end Cert.Proof.Ring

end
-- ==== Proof.Arith.lean ====
/- The ring's arithmetic: a device's position, the chunk a flow carries at each hop, and the kernel's offsets and
   semaphores in closed form. -/
module

public import proofs.«01_k».proof.Proof.Prog

@[expose] public section

noncomputable section

namespace Cert.Proof.Ring

open Cert.KernelIdeal Cert.KernelIdeal.Gen
open Idealize.ShloMosaic Idealize.SL.Sem

/-- A device's place on the ring. -/
def pos (d : Dev nD) : ℕ := if d.val < 4 then d.val else 11 - d.val

/-- The chunk of rows a flow carries into its hop `h` from device `d`: one place back per hop on the even flows,
    one forward on the odd ones. -/
def ch (d : Dev nD) (f : Fin 8) (h : ℕ) : Fin 8 :=
  if f.val % 2 = 0 then ⟨(pos d + 7 * h) % 8, Nat.mod_lt _ (by decide)⟩ else ⟨(pos d + h) % 8, Nat.mod_lt _ (by decide)⟩

/-- Where the tile of chunk `j` that flow `f` carries lies in the result. -/
def tOff (j f : Fin 8) : Fin 2 → ℕ := ![256 * j.val + 64 * (f.val / 2), 1024 * (f.val % 2)]
/-- Where chunk `j`'s block lies in the result, half `w`. -/
def bOff (j : Fin 8) (w : Fin 2) : Fin 2 → ℕ := ![256 * j.val, 1024 * w.val]
/-- Where chunk `j`'s rows lie in the left argument. -/
def aOff (j : Fin 8) : Fin 2 → ℕ := ![256 * j.val, 0]

theorem off0_eq : ∀ (d : Dev nD) (f : Fin 8), off0 d f = tOff (ch d f 0) f := by decide +kernel
theorem offR_eq : ∀ (d : Dev nD) (k : Fin 7) (f : Fin 8), offR d k f = tOff (ch d f (k.val + 1)) f := by decide +kernel
theorem offG_eq : ∀ (d : Dev nD) (s : Fin 7) (f : Fin 8), offG d s f = tOff (ch d f (8 + s.val)) f := by decide +kernel
theorem off1_eq : ∀ d : Dev nD, k0_off1 d = aOff (ch d 0 0) := by decide +kernel
theorem off1_eq' : ∀ d : Dev nD, k0_off1 d = aOff (ch d 1 0) := by decide +kernel
theorem off2_eq : ∀ d : Dev nD, k0_off2 d = bOff (ch d 0 0) 0 := by decide +kernel
theorem off4_eq : ∀ d : Dev nD, k0_off4 d = bOff (ch d 1 0) 1 := by decide +kernel
theorem off6_eq : ∀ (d : Dev nD) (k : Fin 7), k0_off6 d (BitVec.ofNat 32 k.val) = aOff (ch d 0 (k.val + 1)) := by decide +kernel
theorem off7_eq : ∀ (d : Dev nD) (k : Fin 7), k0_off7 d (BitVec.ofNat 32 k.val) = bOff (ch d 0 (k.val + 1)) 0 := by decide +kernel
theorem off8_eq : ∀ (d : Dev nD) (k : Fin 7), k0_off8 d (BitVec.ofNat 32 k.val) = aOff (ch d 1 (k.val + 1)) := by decide +kernel
theorem off9_eq : ∀ (d : Dev nD) (k : Fin 7), k0_off9 d (BitVec.ofNat 32 k.val) = bOff (ch d 1 (k.val + 1)) 1 := by decide +kernel

/-- The chunk depends on the flow's parity alone. -/
theorem ch_par {d : Dev nD} {f g : Fin 8} (h : ℕ) (e : f.val % 2 = g.val % 2) : ch d f h = ch d g h := by
  unfold ch; rw [e]

/-- Sending and being sent to undo each other. -/
theorem toD_frD : ∀ (f : Fin 8) (d : Dev nD), toD f (frD f d) = d := by decide +kernel
theorem frD_toD : ∀ (f : Fin 8) (d : Dev nD), frD f (toD f d) = d := by decide +kernel
theorem lftD_rgtD : ∀ d : Dev nD, lftD (rgtD d) = d := by decide +kernel
theorem rgtD_lftD : ∀ d : Dev nD, rgtD (lftD d) = d := by decide +kernel

/-- What a device is sent is the chunk it carries next. -/
theorem ch_fr : ∀ (f : Fin 8) (d : Dev nD) (h : Fin 14), ch (frD f d) f h.val = ch d f (h.val + 1) := by decide +kernel

/-- A round of the ring meets every chunk once. -/
theorem ch_inj : ∀ (f : Fin 8) (d : Dev nD) (h h' : Fin 8), ch d f h.val = ch d f h'.val → h = h' := by decide +kernel

theorem ch_inj7 : ∀ (f : Fin 8) (d : Dev nD) (h h' : Fin 15), 7 ≤ h.val → 7 ≤ h'.val → ch d f h.val = ch d f h'.val → h.val = h'.val := by
  decide +kernel

/-! ## Semaphores -/

theorem sS_eq : ∀ (f : Fin 8) (s : Fin 4), (sS f s.val).val = 3 + 4 * f.val + s.val := by decide +kernel
theorem rS_eq : ∀ (f : Fin 8) (s : Fin 4), (rS f s.val).val = 35 + 4 * f.val + s.val := by decide +kernel
theorem cS_eq : ∀ (f : Fin 8), (cS f).val = f.val := by decide +kernel
theorem barS_eq : (barS : Sem sig).val = 8 := by decide +kernel

end Cert.Proof.Ring

end
-- ==== Proof.Ghost.lean ====
/- The protocol: who waits on each semaphore, who raises it, by how much, and what each landing hands over.

   Flow `f` runs round the ring. Hop `h` of it leaves device `c` for `toD f c`, into slot `h % 4` of that device's
   landing buffer, and is waited for there on the receive cell of the slot, whose round `h / 4` it is; the sender waits
   for the departure on its own send cell of the slot, in the same round. A landing hands over its slot, holding what
   was sent; a departure hands back what the hop was sent from.

   A slot of a landing buffer is used for hops `h`, `h + 4`, …. Its reader hands it back through an invariant
   that keeps count of the releases; the fact that it has been released travels to the writer: for the first four hops
   with the barrier, and afterwards with the flow's credits, unit `j` of which says that the slots of hops
   `4, …, j + 4` are free. -/
module

public import proofs.«01_k».proof.Proof.Arith
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.MemrefSat
public import Idealize.ShloMosaic.Lib.Tactic

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Values -/

/-- A tile of the result. -/
abbrev Tile (F : FTy → Type) [FloatOps F] := Vec F S64x1024 .bf16

theorem a_inb (j : Fin 8) : ∀ a, aOff j a + S256x1024.size a ≤ S2048x1024.size a := by
  revert j; decide +kernel
theorem b_inb (j : Fin 8) (w : Fin 2) : ∀ a, bOff j w a + S256x1024.size a ≤ S2048x2048.size a := by
  revert j w; decide +kernel
theorem t_inb (j f : Fin 8) : ∀ a, tOff j f a + S64x1024.size a ≤ S2048x2048.size a := by
  revert j f; decide +kernel
theorem quarter_inb (f : Fin 8) : ∀ a, (![64 * (f.val / 2), 0] : Fin 2 → ℕ) a + S64x1024.size a ≤ S256x1024.size a := by
  revert f; decide +kernel

/-- The quarter of a block's rows that a flow carries. -/
def quarter (f : Fin 8) (v : Vec F S256x1024 .bf16) : Tile F :=
  fun i => v ((Rect.unit (s := S256x1024) ![64 * (f.val / 2), 0] S64x1024.size (quarter_inb f)).emb i)

/-- The half of the columns that a flow carries. -/
abbrev par (f : Fin 8) : Fin 2 := ⟨f.val % 2, Nat.mod_lt _ (by decide)⟩

/-- Chunk `j` of the rows of `a`. -/
def rowsA (a : Vec F S2048x1024 .bf16) (j : Fin 8) : Vec F S256x1024 .bf16 :=
  fun i => a ((Rect.unit (s := S2048x1024) (aOff j) S256x1024.size (a_inb j)).emb i)
/-- Half `w` of the columns of `b`. -/
def colsB (b : Vec F S1024x2048 .bf16) (w : Fin 2) : Vec F S1024x1024 .bf16 :=
  fun i => b ((Rect.unit (s := S1024x2048) ![0, 1024 * w.val] S1024x1024.size (half_inb w)).emb i)

/-- The two arguments' blocks, by device. -/
structure Args (F : FTy → Type) [FloatOps F] where
  A : Dev nD → Vec F S2048x1024 .bf16
  B : Dev nD → Vec F S1024x2048 .bf16

/-- A device's own product: chunk `j` of the rows, half `w` of the columns. -/
def block (V : Args F) (c : Dev nD) (j : Fin 8) (w : Fin 2) : Vec F S256x1024 .bf16 := mmV (rowsA (V.A c) j) (colsB (V.B c) w)
/-- A device's own tile of chunk `j` for flow `f`. -/
def tile (V : Args F) (c : Dev nD) (j f : Fin 8) : Tile F := quarter f (block V c j (par f))

/-- A tile as a slot of a buffer holds it. -/
def up (v : Tile F) : Vec F S1x64x1024 .bf16 := shapeCast S1x64x1024 v shapeCasts_S64x1024_S1x64x1024

/-- What device `c` sends on hop `h` of flow `f`: its own tile on the first, on the next seven the sum of its own tile
    and what it was sent, clipped at the last of them, and from then on what it was sent. -/
def sent (V : Args F) : Dev nD → Fin 8 → ℕ → Tile F
  | c, f, 0 => shapeCast S64x1024 (tile V c (ch c f 0) f) shapeCasts_S64x1024_S64x1024
  | c, f, h + 1 => if h < 7 then redV h (tile V c (ch c f (h + 1)) f) (up (sent V (frD f c) f h)) else sent V (frD f c) f h

/-- What lands on device `c` with hop `h` of flow `f`. -/
def land (V : Args F) (c : Dev nD) (f : Fin 8) (h : ℕ) : Tile F := sent V (frD f c) f h

theorem sent_red (V : Args F) (c : Dev nD) (f : Fin 8) {k : ℕ} (h : k < 7) :
    sent V c f (k + 1) = redV k (tile V c (ch c f (k + 1)) f) (up (land V c f k)) := by
  rw [sent, if_pos h]; rfl
theorem sent_spr (V : Args F) (c : Dev nD) (f : Fin 8) {h : ℕ} (hh : 7 ≤ h) : sent V c f (h + 1) = land V c f h := by
  rw [sent, if_neg (Nat.not_lt.mpr hh)]; rfl

/-! ## The resource algebra -/

/-- A slot of a landing buffer: its device, its flow, its number. -/
abbrev Key := Dev nD × Fin 8 × Fin 4
abbrev UB : Type := URounds (GSem nD τ sig) ℕ
abbrev US : Type := USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
/-- The rounds, -/
def EB : Emb UB (MT nD τ sig ℕ (Elt F) ℕ UU ℕ) := (Emb.inl : Emb UB (UB × US)).trans embR
/-- and the releases of the slots. -/
def ES : Emb US (MT nD τ sig ℕ (Elt F) ℕ UU ℕ) := (Emb.inr : Emb US (UB × US)).trans embR

instance EB_landsIn : (EB : Emb UB 𝕄).LandsIn (upEmb : UEmb _ 𝕄) := by unfold EB; infer_instance
instance ES_landsIn : (ES : Emb US 𝕄).LandsIn (upEmb : UEmb _ 𝕄) := by unfold ES; infer_instance

/-! ## Cells -/

/-- The slot of a hop. -/
def sl (h : ℕ) : Fin 4 := ⟨h % 4, Nat.mod_lt _ (by decide)⟩

def sCell (c : Dev nD) (f : Fin 8) (s : Fin 4) : GSem nD τ sig := ((c : Thread nD τ), .dma (sS f s.val))
def rCell (c : Dev nD) (f : Fin 8) (s : Fin 4) : GSem nD τ sig := ((c : Thread nD τ), .dma (rS f s.val))
def cCell (c : Dev nD) (f : Fin 8) : GSem nD τ sig := ((c : Thread nD τ), .reg (cS f))
def bCell (c : Dev nD) : GSem nD τ sig := ((c : Thread nD τ), .reg barS)

theorem semAt_mod (A : DmaSems sig S4) (h : ℕ) : semAt A h = semAt A (h % 4) := by
  have key : ∀ r r' : ℕ, ∀ hr hr', r = r' →
      ((A.slice (Rect.unit (s := S4) ![r] S1.size hr)).squeeze S_ squeezes_S1_S_).sem
        = ((A.slice (Rect.unit (s := S4) ![r'] S1.size hr')).squeeze S_ squeezes_S1_S_).sem := by
    intro r r' hr hr' e; subst e; rfl
  exact key _ _ _ _ (Nat.mod_mod h 4).symm
theorem slotM_mod (M : Memref sig .tc .vmem S4x64x1024 .bf16) (h : ℕ) : slotM M h = slotM M (h % 4) := by
  have key : ∀ r r' : ℕ, ∀ hr hr', r = r' →
      ((M.slice (Rect.unit (s := S4x64x1024) ![r, 0, 0] S1x64x1024.size hr) (fun _ => rfl)).squeeze S64x1024 squeezes_S1x64x1024_S64x1024)
        = ((M.slice (Rect.unit (s := S4x64x1024) ![r', 0, 0] S1x64x1024.size hr') (fun _ => rfl)).squeeze S64x1024 squeezes_S1x64x1024_S64x1024) := by
    intro r r' hr hr' e; subst e; rfl
  exact key _ _ _ _ (Nat.mod_mod h 4).symm
theorem sS_mod (f : Fin 8) (h : ℕ) : sS f h = sS f (sl h).val := semAt_mod _ _
theorem rS_mod (f : Fin 8) (h : ℕ) : rS f h = rS f (sl h).val := semAt_mod _ _
theorem slotM_sl (M : Memref sig .tc .vmem S4x64x1024 .bf16) (h : ℕ) : slotM M h = slotM M (sl h).val := slotM_mod _ _

/-- What a semaphore is for. -/
inductive Role
  | none | send (f : Fin 8) (s : Fin 4) | recv (f : Fin 8) (s : Fin 4) | cred (f : Fin 8) | bar
  deriving DecidableEq

/-- A semaphore's use, read off its number. -/
def role : SemLoc sig → Role
  | .dma i => if i.val < 3 then .none
      else if i.val < 35 then .send ⟨(i.val - 3) / 4 % 8, Nat.mod_lt _ (by decide)⟩ ⟨(i.val - 3) % 4, Nat.mod_lt _ (by decide)⟩
      else .recv ⟨(i.val - 35) / 4 % 8, Nat.mod_lt _ (by decide)⟩ ⟨(i.val - 35) % 4, Nat.mod_lt _ (by decide)⟩
  | .reg i => if h : i.val < 8 then .cred ⟨i.val, h⟩ else .bar

theorem role_s : ∀ (f : Fin 8) (s : Fin 4), role (.dma (sS f s.val)) = .send f s := by decide +kernel
theorem role_r : ∀ (f : Fin 8) (s : Fin 4), role (.dma (rS f s.val)) = .recv f s := by decide +kernel
theorem role_c : ∀ f : Fin 8, role (.reg (cS f)) = .cred f := by decide +kernel
theorem role_b : role (.reg barS) = .bar := by decide +kernel

/-- What a transfer of a slot raises a semaphore by. -/
def N : ℕ := (dstM 0 0).view.amount (.dma (rS 0 0))

theorem amount_eq (f : Fin 8) (h : ℕ) (sem : DmaSem sig) : (dstM f h).view.amount (.dma sem) = N := rfl
theorem N_pos : 0 < N := by decide +kernel

/-! ## The schedule -/

/-- That hop `h` of flow `f` may leave device `c`: the slot it goes to has been released for it, and its reader has
    read the hop that was there. -/
def perm (c : Dev nD) (f : Fin 8) (h : ℕ) : sProp 𝕄 :=
  iprop(released ES ((toD f c, f, sl h) : Key) (h / 4 + 1) ∗ reached EB (rCell (toD f c) f (sl h)) (h / 4))

instance perm_persistent (c : Dev nD) (f : Fin 8) (h : ℕ) : BI.Persistent (perm (F := F) c f h) := by unfold perm; infer_instance
instance perm_storable (c : Dev nD) (f : Fin 8) (h : ℕ) : BI.Storable (upEmb : UEmb _ 𝕄) (perm (F := F) c f h) := by
  unfold perm; infer_instance

/-- How many credits say something. -/
def items (j : ℕ) : ℕ := min j 10

/-- What `j` of the credits of flow `f` say on device `c`. -/
def perms (c : Dev nD) (f : Fin 8) (j : ℕ) : sProp 𝕄 := bigSep (Finset.range (items j)) fun i => perm c f (i + 4)

/-- What a neighbour's barrier signal says: the slots it will receive in are free. -/
def barPay (c : Dev nD) (d : ℕ) : sProp 𝕄 :=
  bigSep (Finset.univ.filter fun f : Fin 8 => f.val % 2 = d) fun f => bigSep Finset.univ fun s : Fin 4 => released ES ((toD f c, f, s) : Key) 1

/-- Slot `s` of a buffer, at some contents, -/
abbrev anySlot (c : Dev nD) (M : Memref sig .tc .vmem S4x64x1024 .bf16) (s : ℕ) (q : PosShare TreeShare) : sProp 𝕄 :=
  ownsSat (c : Thread nD τ) (slotM M s) q (fun _ => True)
/-- or holding a tile. -/
abbrev slotAt (c : Dev nD) (M : Memref sig .tc .vmem S4x64x1024 .bf16) (s : ℕ) (q : PosShare TreeShare) (X : Tile F) : sProp 𝕄 :=
  ownsSat (c : Thread nD τ) (slotM M s) q (· = X)

variable (V : Args F)

/-- What the cell's owner is handed. -/
def pay (c : Dev nD) (r : ℕ) (d : ℕ) : Role → sProp 𝕄
  | .none => iprop(emp)
  | .send f s => if 4 * r + s.val < 8 then anySlot c (gM f) s.val fullShare else anySlot c (cM f) (s.val + 3) fullShare.right
  | .recv f s => slotAt c (cM f) s.val fullShare (land V c f (4 * r + s.val))
  | .cred f => perms c f (d + 1)
  | .bar => barPay c d

/-- The duties of a round of a cell. -/
def duty (r : ℕ) : Role → Finset ℕ
  | .none => ∅
  | .send _ s | .recv _ s => if 4 * r + s.val < 14 then {0} else ∅
  | .cred _ => if r = 0 then Finset.range 14 else ∅
  | .bar => if r = 0 then Finset.range 2 else ∅

def units : Role → ℕ
  | .send _ _ | .recv _ _ => N
  | _ => 1

def Rd : Schedule (GSem nD τ sig) ℕ 𝕄 where
  duties g r := if g.1.2 = .tc then duty r (role g.2) else ∅
  amount g _ _ := units (role g.2)
  payload g r d := pay V g.1.1 r d (role g.2)
  amount_pos g r d _ := by
    cases role g.2 <;> first | exact N_pos | exact Nat.one_pos

instance perms_storable (c : Dev nD) (f : Fin 8) (j : ℕ) : BI.Storable (upEmb : UEmb _ 𝕄) (perms (F := F) c f j) := by
  unfold perms; infer_instance
instance perms_persistent (c : Dev nD) (f : Fin 8) (j : ℕ) : BI.Persistent (perms (F := F) c f j) := by
  unfold perms; infer_instance
instance barPay_storable (c : Dev nD) (d : ℕ) : BI.Storable (upEmb : UEmb _ 𝕄) (barPay (F := F) c d) := by
  unfold barPay; infer_instance
instance barPay_persistent (c : Dev nD) (d : ℕ) : BI.Persistent (barPay (F := F) c d) := by
  unfold barPay; infer_instance

instance pay_storable (c : Dev nD) (r d : ℕ) (ρ : Role) : BI.Storable (upEmb : UEmb _ 𝕄) (pay V c r d ρ) := by
  match ρ with
  | .none => unfold pay; infer_instance
  | .send f s =>
    show BI.Storable _ (if 4 * r + s.val < 8 then anySlot c (gM f) s.val fullShare else anySlot c (cM f) (s.val + 3) fullShare.right)
    split <;> infer_instance
  | .recv f s => unfold pay; infer_instance
  | .cred f => unfold pay; infer_instance
  | .bar => unfold pay; infer_instance
instance Rd_storable (g : GSem nD τ sig) (r d : ℕ) : BI.Storable (upEmb : UEmb _ 𝕄) ((Rd V).payload g r d) := by
  show BI.Storable _ (pay V g.1.1 r d (role g.2)); infer_instance

/-! ## Levels -/

/-- The hop after which a credit is given. -/
def hg (j : ℕ) : ℕ := if j ≤ 6 then j else if j ≤ 11 then j + 2 else 14

def L (g : GSem nD τ sig) : Finset ℕ := if g.1.2 = .tc then Finset.range 14 else ∅
def lv (g : GSem nD τ sig) (u : ℕ) : ℕ := match role g.2 with
  | .none | .send _ _ => 0
  | .recv _ _ => 2 * u + 2
  | .cred _ => 2 * hg u + 3
  | .bar => 1

end Cert.Proof.Ring

end
-- ==== Proof.Rules.lean ====
/- The steps that touch one slot, one tile or one cell. -/
module

public import proofs.«01_k».proof.Proof.Ghost
public import Idealize.ShloMosaic.Lib.Pipeline.Value

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- A stretch of the body's weakest precondition, its post not depending on a result. -/
abbrev Wp (c : Dev nD) (p : PR F) (Q : sProp 𝕄) : sProp 𝕄 :=
  wp frame (wpE (defs₀ (F := F)) 𝒱₀ (c : Thread nD τ) none) Set.univ p (fun _ => Q)

/-! ## The schedule at the cells -/

variable (V : Args F)

theorem rCell_sl (c : Dev nD) (f : Fin 8) (h : ℕ) : rCell c f (sl h) = ((c : Thread nD τ), .dma (rS f h)) := by
  rw [rS_mod f h]; rfl
theorem sCell_sl (c : Dev nD) (f : Fin 8) (h : ℕ) : sCell c f (sl h) = ((c : Thread nD τ), .dma (sS f h)) := by
  rw [sS_mod f h]; rfl

theorem hop_eq (h : ℕ) : 4 * (h / 4) + (sl h).val = h := Nat.div_add_mod h 4

theorem duties_r (c : Dev nD) (f : Fin 8) (s : Fin 4) (r : ℕ) :
    (Rd V).duties (rCell c f s) r = if 4 * r + s.val < 14 then {0} else ∅ := by
  show (if (c : Thread nD τ).2 = .tc then duty r (role (.dma (rS f s.val))) else ∅) = _
  rw [role_r]; rfl
theorem duties_s (c : Dev nD) (f : Fin 8) (s : Fin 4) (r : ℕ) :
    (Rd V).duties (sCell c f s) r = if 4 * r + s.val < 14 then {0} else ∅ := by
  show (if (c : Thread nD τ).2 = .tc then duty r (role (.dma (sS f s.val))) else ∅) = _
  rw [role_s]; rfl
theorem duties_c (c : Dev nD) (f : Fin 8) (r : ℕ) : (Rd V).duties (cCell c f) r = if r = 0 then Finset.range 14 else ∅ := by
  show (if (c : Thread nD τ).2 = .tc then duty r (role (.reg (cS f))) else ∅) = _
  rw [role_c]; rfl
theorem duties_b (c : Dev nD) (r : ℕ) : (Rd V).duties (bCell c) r = if r = 0 then Finset.range 2 else ∅ := by
  show (if (c : Thread nD τ).2 = .tc then duty r (role (.reg barS)) else ∅) = _
  rw [role_b]; rfl

theorem duties_rh (c : Dev nD) (f : Fin 8) {h : ℕ} (hh : h < 14) : (Rd V).duties (rCell c f (sl h)) (h / 4) = {0} := by
  rw [duties_r, hop_eq, if_pos hh]
theorem duties_sh (c : Dev nD) (f : Fin 8) {h : ℕ} (hh : h < 14) : (Rd V).duties (sCell c f (sl h)) (h / 4) = {0} := by
  rw [duties_s, hop_eq, if_pos hh]

theorem amount_r (c : Dev nD) (f : Fin 8) (s : Fin 4) (r d : ℕ) : (Rd V).amount (rCell c f s) r d = N := by
  show units (role (.dma (rS f s.val))) = _; rw [role_r]; rfl
theorem amount_s (c : Dev nD) (f : Fin 8) (s : Fin 4) (r d : ℕ) : (Rd V).amount (sCell c f s) r d = N := by
  show units (role (.dma (sS f s.val))) = _; rw [role_s]; rfl
theorem amount_c (c : Dev nD) (f : Fin 8) (r d : ℕ) : (Rd V).amount (cCell c f) r d = 1 := by
  show units (role (.reg (cS f))) = _; rw [role_c]; rfl
theorem amount_b (c : Dev nD) (r d : ℕ) : (Rd V).amount (bCell c) r d = 1 := by
  show units (role (.reg barS)) = _; rw [role_b]; rfl

theorem pay_r (c : Dev nD) (f : Fin 8) (h : ℕ) :
    (Rd V).payload (rCell c f (sl h)) (h / 4) 0 = slotAt c (cM f) (sl h).val fullShare (land V c f h) := by
  show pay V c (h / 4) 0 (role (.dma (rS f (sl h).val))) = _
  rw [role_r]; show slotAt c (cM f) (sl h).val fullShare (land V c f (4 * (h / 4) + (sl h).val)) = _; rw [hop_eq]
theorem pay_s (c : Dev nD) (f : Fin 8) (h : ℕ) :
    (Rd V).payload (sCell c f (sl h)) (h / 4) 0
      = if h < 8 then anySlot c (gM f) (sl h).val fullShare else anySlot c (cM f) ((sl h).val + 3) fullShare.right := by
  show pay V c (h / 4) 0 (role (.dma (sS f (sl h).val))) = _
  rw [role_s]
  show (if 4 * (h / 4) + (sl h).val < 8 then anySlot c (gM f) (sl h).val fullShare
    else anySlot c (cM f) ((sl h).val + 3) fullShare.right) = _
  rw [hop_eq]
theorem pay_c (c : Dev nD) (f : Fin 8) (r d : ℕ) : (Rd V).payload (cCell c f) r d = perms c f (d + 1) := by
  show pay V c r d (role (.reg (cS f))) = _; rw [role_c]; rfl
theorem pay_b (c : Dev nD) (r d : ℕ) : (Rd V).payload (bCell c) r d = barPay c d := by
  show pay V c r d (role (.reg barS)) = _; rw [role_b]; rfl

theorem expect_rh (c : Dev nD) (f : Fin 8) {h : ℕ} (hh : h < 14) : (Rd V).expect (rCell c f (sl h)) (h / 4) = N := by
  unfold Schedule.expect; unfold Schedule.amountOf; rw [duties_rh V c f hh, Finset.sum_singleton, amount_r]
theorem expect_sh (c : Dev nD) (f : Fin 8) {h : ℕ} (hh : h < 14) : (Rd V).expect (sCell c f (sl h)) (h / 4) = N := by
  unfold Schedule.expect; unfold Schedule.amountOf; rw [duties_sh V c f hh, Finset.sum_singleton, amount_s]
theorem expect_c (c : Dev nD) (f : Fin 8) : (Rd V).expect (cCell c f) 0 = 14 := by
  unfold Schedule.expect Schedule.amountOf; rw [duties_c, if_pos rfl, Finset.sum_congr rfl fun d _ => amount_c V c f 0 d]; rfl
theorem expect_b (c : Dev nD) : (Rd V).expect (bCell c) 0 = 2 := by
  unfold Schedule.expect Schedule.amountOf; rw [duties_b, if_pos rfl, Finset.sum_congr rfl fun d _ => amount_b V c 0 d]; rfl

/-! ## Levels -/

/-- What is owed lies at levels from `n` on. -/
def Above (n : ℕ) (O : CellTallies nD τ sig ℕ) : Prop := ∀ g u, 0 < O g u → u ∈ L g ∧ n ≤ lv g u

theorem Above.add {n : ℕ} {O O' : CellTallies nD τ sig ℕ} (h : Above n O) (h' : Above n O') : Above n (O + O') := by
  intro g u hp
  rw [Pi.add_apply, Finsupp.add_apply] at hp
  rcases Nat.eq_zero_or_pos (O g u) with h0 | h0
  · exact h' g u (by omega)
  · exact h g u h0
theorem Above.zero (n : ℕ) : Above n 0 := fun _ _ h => absurd h (Nat.lt_irrefl 0)
theorem Above.sum {n : ℕ} {ι : Type} (s : Finset ι) {O : ι → CellTallies nD τ sig ℕ} (h : ∀ i ∈ s, Above n (O i)) :
    Above n (∑ i ∈ s, O i) := by
  classical
  induction s using Finset.induction_on with
  | empty => rw [Finset.sum_empty]; exact Above.zero n
  | insert a s ha ih =>
    rw [Finset.sum_insert ha]
    exact (h a (Finset.mem_insert_self a s)).add (ih fun i hi => h i (Finset.mem_insert_of_mem hi))
theorem Above.at {n : ℕ} {g : GSem nD τ sig} {ι k : ℕ} (h : ι ∈ L g ∧ n ≤ lv g ι) : Above n (tallyAt g ι k) := by
  intro g' u hp
  rw [tallyAt_apply] at hp
  split at hp
  · rename_i e; rw [e.1, e.2]; exact h
  · exact absurd hp (Nat.lt_irrefl 0)
theorem Above.mono {n m : ℕ} {O : CellTallies nD τ sig ℕ} (h : Above n O) (hm : m ≤ n) : Above m O :=
  fun g u hp => ⟨(h g u hp).1, hm.trans (h g u hp).2⟩

/-- A wait at a level below all that is owed. -/
theorem mayOwe (c : Dev nD) {W : Waits sig ℕ} {O : CellTallies nD τ sig ℕ} {n : ℕ} (hO : Above (n + 1) O)
    (hW : ∀ p ∈ W, p.2 < 14 ∧ lv ((c : Thread nD τ), p.1) p.2 ≤ n) :
    (levAts L lv : sProp 𝕄) ⊢ MayOwe (c : Thread nD τ) W O :=
  MayOwe.of_cut n (fun p hp => Finset.mem_range.mpr (hW p hp).1) (fun g u h => (hO g u h).1)
    (fun p hp => (hW p hp).2) fun g u h => (hO g u h).2

/-! ## A signal that pays two duties -/

theorem wp_signal_two (c dst : Dev nD) (f : Fin 8) {κ : ℕ} {d d' ι : ℕ} (hd : d < 14) (hd' : d' < 14)
    {O₀ : CellTallies nD τ sig ℕ} (O : CellTallies nD τ sig ℕ) (hO : O₀ = O + tallyAt (cCell dst f) ι 2) {W : Waits sig ℕ}
    {k : PUnit → PR F} {Q : PUnit → sProp 𝕄} :
    iprop(cellInv EB (Rd V) κ (cCell dst f) ∗ owes (c : Thread nD τ) O₀ W ∗ (dutyTok EB (cCell dst f) 0 d ∗ (Rd V).payload (cCell dst f) 0 d)
        ∗ (dutyTok EB (cCell dst f) 0 d' ∗ (Rd V).payload (cCell dst f) 0 d') ∗ reached EB (cCell dst f) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dst : Thread nD τ) (cS f) 2) k) Q) := by
  have hm : d ∈ (Rd V).duties (cCell dst f) 0 := by rw [duties_c, if_pos rfl]; exact Finset.mem_range.mpr hd
  have hm' : d' ∈ (Rd V).duties (cCell dst f) 0 := by rw [duties_c, if_pos rfl]; exact Finset.mem_range.mpr hd'
  iintro ⟨Hg, HL, ⟨Ht, Hp⟩, ⟨Ht', Hp'⟩, #Hr⟩ Hk
  iapply (wp_semSignal 𝒱₀ (c : Thread nD τ) none Set.univ ι O hO) $$ HL [Hg Ht Hp Ht' Hp']
  · rw [landingUpdate_def]
    iintro -
    iapply (raise_roundState EB (Rd V) (k := 2)
      (X := iprop((dutyTok EB (cCell dst f) 0 d ∗ (Rd V).payload (cCell dst f) 0 d)
        ∗ (dutyTok EB (cCell dst f) 0 d' ∗ (Rd V).payload (cCell dst f) 0 d') ∗ reached EB (cCell dst f) 0)) ?_ ?_ ?_)
    · iintro ⟨Hcl, ⟨Ht, -⟩, -, Hr⟩
      iapply (closed_dutyTok_false EB (Rd V) hm)
      isplitl [Hcl]; · iexact Hcl
      isplitl [Ht] <;> iassumption
    · iintro ⟨Hdm, -, -, Hr⟩
      iapply (dormant_reached_false EB (Rd V) (g := cCell dst f) (r := 0))
      isplitl [Hdm]; · iexact Hdm
      iexact Hr
    · intro v
      iintro ⟨Hst, ⟨Ht, Hp⟩, ⟨Ht', Hp'⟩, #Hr⟩
      imod (roundState_land EB (Rd V) hm) $$ [Hst Ht Hp] with Hst
      · isplitl [Hst]; · iexact Hst
        isplitl [Ht]; · iexact Ht
        isplitl [Hp]; · iexact Hp
        iexact Hr
      imod (roundState_land EB (Rd V) hm') $$ [Hst Ht' Hp'] with Hst
      · isplitl [Hst]; · iexact Hst
        isplitl [Ht']; · iexact Ht'
        isplitl [Hp']; · iexact Hp'
        iexact Hr
      rw [amount_c, amount_c]
      imodintro
      isplitl [Hst]; · iexact Hst
      iempintro
    · isplitl [Hg]; · iexact Hg
      isplitl [Ht Hp]; · isplitl [Ht] <;> iassumption
      isplitl [Ht' Hp']; · isplitl [Ht'] <;> iassumption
      iexact Hr
  · iexact Hk

/-! ## Slots -/

theorem slotAt_sl (c : Dev nD) (M : Memref sig .tc .vmem S4x64x1024 .bf16) (h : ℕ) (q : PosShare TreeShare) (X : Tile F) :
    slotAt c M (sl h).val q X = slotAt c M h q X := by
  unfold slotAt; rw [← slotM_sl]
theorem anySlot_sl (c : Dev nD) (M : Memref sig .tc .vmem S4x64x1024 .bf16) (h : ℕ) (q : PosShare TreeShare) :
    anySlot (F := F) c M (sl h).val q = anySlot c M h q := by
  unfold anySlot; rw [← slotM_sl]

theorem slot_set (M : Memref sig .tc .vmem S4x64x1024 .bf16) (h : ℕ) : (slotM M h).view.set = (M.access (slotR h)).set :=
  View.set_reshape _ _

theorem read_unreshape {sp : Space} {s s' : Shape} {e : EltTy} (v : View sig .tc sp s e) (h : s'.numel = s.numel) (h' : s.numel = s'.numel)
    (f : v.ty.Contents (Elt F)) : v.read (Elt F) f = fun i => (v.reshape s' h).read (Elt F) f (Shape.reshapeEquiv h' i) := by
  funext i
  show _ = v.read (Elt F) f (Shape.reshapeEquiv h (Shape.reshapeEquiv h' i))
  rw [Shape.reshapeEquiv_reshapeEquiv, Shape.reshapeEquiv_self]

theorem slot_read (M : Memref sig .tc .vmem S4x64x1024 .bf16) (h : ℕ) (f : M.view.ty.Contents (Elt F)) :
    (M.access (slotR h)).read (Elt F) f = up ((slotM M h).view.read (Elt F) f) :=
  read_unreshape (M.access (slotR h)) _ _ f

theorem down_up (v : Tile F) : shapeCast S64x1024 (up v) shapeCasts_S1x64x1024_S64x1024 = v := shapeCast_shapeCast v _ _

theorem slot_write (M : Memref sig .tc .vmem S4x64x1024 .bf16) (h : ℕ) (f : M.view.ty.Contents (Elt F)) (v : Tile F) :
    (slotM M h).view.read (Elt F) ((M.access (slotR h)).write (Elt F) f (up v) Finset.univ) = v := by
  have e := slot_read M h ((M.access (slotR h)).write (Elt F) f (up v) Finset.univ)
  rw [View.read_write_univ] at e
  rw [← down_up ((slotM M h).view.read (Elt F) _), ← e, down_up]

/-- Reading a slot that holds a tile. -/
theorem wp_slot {α : Type} (c : Dev nD) (M : Memref sig .tc .vmem S4x64x1024 .bf16) (h : ℕ) (q : PosShare TreeShare) (X : Tile F)
    {hl : M.view.LoadsAt (slotR h)} {k : Vec F S1x64x1024 .bf16 → Prog (TpuEff nD τ sig (Elt F) Λ₀ .tc) α} {Q : α → sProp 𝕄} :
    slotAt c M h q X ⊢ iprop((slotAt c M h q X -∗ wp frame (wpE (defs₀ (F := F)) 𝒱₀ (c : Thread nD τ) none) Set.univ (k (up X)) Q)
      -∗ wp frame (wpE (defs₀ (F := F)) 𝒱₀ (c : Thread nD τ) none) Set.univ (.op (.load M (slotR h).toLoadRect hl) k) Q) := by
  unfold slotAt ownsSat
  iintro ⟨%f, %hf, H⟩ Hk
  subst hf
  rw [← slot_read]
  iapply (wp_load_rect 𝒱₀ (c : Thread nD τ) none Set.univ (m := M) (r := slotR h) (subset_of_eq (slot_set M h).symm)) $$ H
  iintro H
  iapply Hk
  iexists f
  isplitr
  · ipureintro; rfl
  iexact H

/-- Writing a tile into a slot. -/
theorem wp_put (c : Dev nD) (f : Fin 8) (h : ℕ) (v : Tile F) :
    anySlot c (gM f) h fullShare ⊢ Wp c (putP f h v) (slotAt c (gM f) h fullShare v) := by
  unfold anySlot slotAt ownsSat Wp putP
  simp only [Prog.lift, Prog.bind_op, Prog.bind_ret, Prog.pure_eq_ret]
  iintro ⟨%g, -, H⟩
  iapply (wp_load_rect 𝒱₀ (c : Thread nD τ) none Set.univ (m := gM f) (r := slotR h) (subset_of_eq (slot_set (gM f) h).symm)) $$ H
  iintro H
  iapply (wp_store 𝒱₀ (c : Thread nD τ) none Set.univ (m := gM f) (r := slotR h) (subset_of_eq (slot_set (gM f) h).symm)) $$ H
  iintro H
  rw [wp_ret]
  imodintro
  iexists _
  isplitr
  · ipureintro; exact slot_write (gM f) h g v
  iexact H

/-- A slot is one thing. -/
theorem slot_slot_false (c : Dev nD) (M : Memref sig .tc .vmem S4x64x1024 .bf16) (h : ℕ) :
    iprop(anySlot (F := F) c M h fullShare ∗ anySlot c M h fullShare) ⊢ (False : sProp 𝕄) := by
  have hi : (slotM M h).view.emb (fun a => ⟨0, by fin_cases a <;> decide⟩) ∈ (slotM M h).view.set :=
    Finset.mem_map_of_mem _ (Finset.mem_univ _)
  unfold anySlot ownsSat
  iintro ⟨⟨%f, -, H⟩, ⟨%g, -, H'⟩⟩
  iapply (pointsTo_full_full_false (ℓ := (slotM M h).view.loc (c : Thread nD τ)) (f := f) (g := g) hi hi)
  isplitl [H] <;> iassumption

end Cert.Proof.Ring

end
-- ==== Proof.State.lean ====
/- What a device holds of one flow between two steps, and what each step does to it. -/
module

public import proofs.«01_k».proof.Proof.Rules

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## What every device knows -/

/-- A device's cells: a send and a receive cell per slot, a credit cell per flow, the barrier's. -/
abbrev CK := (Fin 8 × Fin 4) ⊕ (Fin 8 × Fin 4) ⊕ Fin 8 ⊕ Unit

def kcell : Dev nD × CK → GSem nD τ sig
  | (c, .inl (f, s)) => sCell c f s
  | (c, .inr (.inl (f, s))) => rCell c f s
  | (c, .inr (.inr (.inl f))) => cCell c f
  | (c, .inr (.inr (.inr _))) => bCell c

variable (V : Args F) (κ : Dev nD × CK → ℕ) (ι : Key → ℕ)

def Rec : sProp 𝕄 :=
  iprop(bigSep Finset.univ (fun x => iprop(cellInv EB (Rd V) (κ x) (kcell x) ∗ reached EB (kcell x) 0))
    ∗ bigSep Finset.univ (fun k : Key => slotInv ES (ι k) k (anySlot k.1 (cM k.2.1) k.2.2.val fullShare)) ∗ levAts L lv)

instance Rec_persistent : BI.Persistent (Rec V κ ι) := by unfold Rec; infer_instance

theorem rec_cell (x : Dev nD × CK) : Rec V κ ι ⊢ iprop(cellInv EB (Rd V) (κ x) (kcell x) ∗ reached EB (kcell x) 0) := by
  unfold Rec
  iintro ⟨H, -⟩
  iapply (show _ ⊢ _ from BI.bigSep_elim (Φ := fun x => iprop(cellInv EB (Rd V) (κ x) (kcell x) ∗ reached EB (kcell x) 0)) (Finset.mem_univ x)) $$ H
theorem rec_slot (k : Key) : Rec V κ ι ⊢ slotInv ES (ι k) k (anySlot k.1 (cM k.2.1) k.2.2.val fullShare) := by
  unfold Rec
  iintro ⟨-, H, -⟩
  iapply (show _ ⊢ _ from BI.bigSep_elim (Φ := fun k : Key => slotInv ES (ι k) k (anySlot (F := F) k.1 (cM k.2.1) k.2.2.val fullShare)) (Finset.mem_univ k)) $$ H
theorem rec_levs : Rec V κ ι ⊢ levAts L lv := by
  unfold Rec
  iintro ⟨-, -, H⟩
  iexact H

/-! ## The state of a flow -/

inductive Stg | gone | junk | has (h : ℕ)
  deriving DecidableEq
inductive Com | gone | full (h : ℕ) | half (h : ℕ)
  deriving DecidableEq

/-- How far a flow is on a device: how many hops have been started and received, how many credits given, taken, and made
    up; per slot how many departures were awaited and whether one is awaited now; what is in the slots of the two
    buffers; and how many times each landing slot was handed back. -/
structure X where
  i : ℕ
  r : ℕ
  g : ℕ
  q : ℕ
  d : ℕ
  sp : Fin 4 → ℕ
  out : Fin 4 → Bool
  st : Fin 4 → Stg
  cm : Fin 4 → Com
  ra : Fin 4 → ℕ
  deriving DecidableEq

/-- The round of a receive cell once `r` hops have been received. -/
def rp (r : ℕ) (s : Fin 4) : ℕ := (r + 3 - s.val) / 4
/-- The index a credit is accounted at. -/
def cix (j : ℕ) : ℕ := min j 12

def stgSt (c : Dev nD) (f : Fin 8) (s : Fin 4) : Stg → sProp 𝕄
  | .gone => iprop(emp)
  | .junk => anySlot c (gM f) s.val fullShare
  | .has h => slotAt c (gM f) s.val fullShare (sent V c f h)
def comSt (c : Dev nD) (f : Fin 8) (s : Fin 4) : Com → sProp 𝕄
  | .gone => iprop(emp)
  | .full h => slotAt c (cM f) s.val fullShare (land V c f h)
  | .half h => slotAt c (cM f) s.val fullShare.left (land V c f h)

/-- The tokens that hop `h` takes. -/
def hopTok (c : Dev nD) (f : Fin 8) (h : ℕ) : sProp 𝕄 :=
  iprop(dutyTok EB (sCell c f (sl h)) (h / 4) 0 ∗ dutyTok EB (rCell (toD f c) f (sl h)) (h / 4) 0
    ∗ writeTok ES ((toD f c, f, sl h) : Key) (h / 4 + 1))

def credPos (c : Dev nD) (f : Fin 8) (q : ℕ) : sProp 𝕄 :=
  iprop(∃ T : Finset ℕ, ⌜T ⊆ Finset.range 14 ∧ q ≤ T.card⌝ ∗ atPos EB (cCell c f) 0 T q ∗ bigSep T fun d => perms c f (d + 1))

def Flow (c : Dev nD) (f : Fin 8) (x : X) : sProp 𝕄 :=
  iprop(bigSep Finset.univ (fun s => iprop(atPos EB (rCell c f s) (rp x.r s) ∅ 0 ∗ reached EB (rCell c f s) (rp x.r s)))
    ∗ bigSep Finset.univ (fun s => iprop(atPos EB (sCell c f s) (x.sp s) ∅ 0 ∗ reached EB (sCell c f s) (x.sp s)))
    ∗ credPos c f x.q
    ∗ bigSep (Finset.Ico x.r 14) (fun h => (cred (tallyAt (rCell c f (sl h)) h N) : sProp 𝕄))
    ∗ bigSep Finset.univ (fun s => if x.out s then (cred (tallyAt (sCell c f s) 0 N) : sProp 𝕄) else iprop(emp))
    ∗ bigSep (Finset.Ico x.q 14) (fun j => (cred (tallyAt (cCell c f) (cix j) 1) : sProp 𝕄))
    ∗ bigSep (Finset.Ico x.i 14) (hopTok c f)
    ∗ bigSep (Finset.Ico x.g 14) (fun j => dutyTok EB (cCell (frD f c) f) 0 j)
    ∗ bigSep Finset.univ (fun s => stgSt V c f s (x.st s))
    ∗ bigSep Finset.univ (fun s => comSt V c f s (x.cm s))
    ∗ bigSep Finset.univ (fun s => readerAt ES ((c, f, s) : Key) (x.ra s))
    ∗ bigSep (Finset.range (x.q + 4)) (perm c f)
    ∗ bigSep (Finset.range x.d) (fun j => perm (frD f c) f (j + 4)))

/-- What a device still owes for a flow. -/
def owed (c : Dev nD) (f : Fin 8) (x : X) : CellTallies nD τ sig ℕ :=
  ∑ h ∈ Finset.Ico x.i 14, tallyAt (rCell (toD f c) f (sl h)) h N
    + ∑ j ∈ Finset.Ico x.g 14, tallyAt (cCell (frD f c) f) (cix j) 1

def Ow (c : Dev nD) (O : CellTallies nD τ sig ℕ) : sProp 𝕄 := iprop(∃ W, owes (c : Thread nD τ) O W)

theorem lv_r (c : Dev nD) (f : Fin 8) (s : Fin 4) (u : ℕ) : lv (rCell c f s) u = 2 * u + 2 := by
  unfold lv; rw [show role (rCell c f s).2 = .recv f s from role_r f s]
theorem lv_s (c : Dev nD) (f : Fin 8) (s : Fin 4) (u : ℕ) : lv (sCell c f s) u = 0 := by
  unfold lv; rw [show role (sCell c f s).2 = .send f s from role_s f s]
theorem lv_c (c : Dev nD) (f : Fin 8) (u : ℕ) : lv (cCell c f) u = 2 * hg u + 3 := by
  unfold lv; rw [show role (cCell c f).2 = .cred f from role_c f]
theorem lv_b (c : Dev nD) (u : ℕ) : lv (bCell c) u = 1 := by
  unfold lv; rw [show role (bCell c).2 = .bar from role_b]

theorem hg_mono {j j' : ℕ} (h : j ≤ j') : hg j ≤ hg j' := by unfold hg; split_ifs <;> omega

/-- What is owed lies above a level when the next hop and the next credit do. -/
theorem owed_above (c : Dev nD) (f : Fin 8) {x : X} {n : ℕ} (hi : n ≤ 2 * x.i + 2) (hj : n ≤ 2 * hg x.g + 3) :
    Above n (owed c f x) := by
  refine (Above.sum _ fun h hh => Above.at ⟨?_, ?_⟩).add (Above.sum _ fun j hj' => Above.at ⟨?_, ?_⟩)
  · exact Finset.mem_range.mpr (Finset.mem_Ico.mp hh).2
  · rw [lv_r]; have := (Finset.mem_Ico.mp hh).1; omega
  · exact Finset.mem_range.mpr (by unfold cix; omega)
  · rw [lv_c]
    have h1 := (Finset.mem_Ico.mp hj').1
    have : hg x.g ≤ hg (cix j) := by unfold hg cix; split_ifs <;> omega
    omega

/-! ## Taking one of many -/

theorem take_put {I : Type} [Fintype I] [DecidableEq I] (Φ Ψ : I → sProp 𝕄) (i : I) (h : ∀ j, j ≠ i → Φ j = Ψ j) :
    bigSep Finset.univ Φ ⊢ iprop(Φ i ∗ (Ψ i -∗ bigSep Finset.univ Ψ)) := by
  rw [BI.bigSep_univ_split i (Φ := Φ), BI.bigSep_univ_split i (Φ := Ψ),
    BI.bigSep_congr (s := Finset.univ.erase i) (Φ := Φ) (Ψ := Ψ) fun j hj => h j (Finset.ne_of_mem_erase hj)]
  show iprop(Φ i ∗ bigSep (Finset.univ.erase i) Ψ) ⊢ iprop(Φ i ∗ (Ψ i -∗ (Ψ i ∗ bigSep (Finset.univ.erase i) Ψ)))
  iintro ⟨H, Hr⟩
  isplitl [H]; · iexact H
  iintro H
  isplitl [H] <;> iassumption

theorem pop {i n : ℕ} (h : i < n) (Φ : ℕ → sProp 𝕄) :
    bigSep (Finset.Ico i n) Φ ⊢ iprop(Φ i ∗ bigSep (Finset.Ico (i + 1) n) Φ) := by
  rw [show Finset.Ico i n = insert i (Finset.Ico (i + 1) n) by ext x; simp only [Finset.mem_Ico, Finset.mem_insert]; omega,
    BI.bigSep_insert (by simp)]
  exact .rfl

theorem pushR (n : ℕ) (Φ : ℕ → sProp 𝕄) : iprop(Φ n ∗ bigSep (Finset.range n) Φ) ⊢ bigSep (Finset.range (n + 1)) Φ := by
  rw [Finset.range_add_one, BI.bigSep_insert Finset.notMem_range_self]
  exact .rfl

/-! ## Steps -/

/-- A hop has been received. -/
def recvX (h : ℕ) (x : X) : X := { x with r := h + 1, cm := Function.update x.cm (sl h) (.full h) }

theorem rp_at (h : ℕ) : rp h (sl h) = h / 4 := by unfold rp sl; dsimp only; omega
theorem rp_succ (h : ℕ) : rp (h + 1) (sl h) = h / 4 + 1 := by unfold rp sl; dsimp only; omega
theorem rp_ne {h : ℕ} {s : Fin 4} (hs : s ≠ sl h) : rp h s = rp (h + 1) s := by
  have : s.val ≠ h % 4 := fun e => hs (Fin.ext e)
  unfold rp; omega

theorem op_recv (c : Dev nD) (f : Fin 8) {x : X} {h : ℕ} (h0 : x.r = h) (hh : h < 14) (hc : x.cm (sl h) = .gone)
    {O : CellTallies nD τ sig ℕ} (hO : Above (2 * h + 3) O) :
    iprop(Rec V κ ι ∗ Flow V c f x ∗ Ow c O) ⊢ Wp c (recvP f h) iprop(Flow V c f (recvX h x) ∗ Ow c O) := by
  subst h0
  unfold Wp recvP Ow
  simp only [Prog.lift, Prog.bind_op, Prog.bind_ret, Prog.pure_eq_ret]
  iintro ⟨#HR, HF, ⟨%W, HO⟩⟩
  unfold Flow
  icases HF with ⟨HA, HS, HC, Hrc, Hsc, Hcc, Htk, Hgt, Hst, Hcm, Hra, Hpm, Hdp⟩
  ihave HA := (take_put _ (fun s => iprop(atPos EB (rCell c f s) (rp (x.r + 1) s) ∅ 0 ∗ reached EB (rCell c f s) (rp (x.r + 1) s))) (sl x.r)
    (fun s hs => by rw [rp_ne hs])) $$ HA
  icases HA with ⟨⟨Hat, -⟩, HA⟩
  ihave Hrc := (pop hh _) $$ Hrc
  icases Hrc with ⟨Hcr, Hrc⟩
  ihave Hcm := (take_put _ (fun s => comSt V c f s ((recvX x.r x).cm s)) (sl x.r)
    (fun s hs => by rw [show (recvX x.r x).cm s = x.cm s from Function.update_of_ne hs _ _])) $$ Hcm
  icases Hcm with ⟨-, Hcm⟩
  ihave #Hi := (rec_cell V κ ι (c, .inr (.inl (f, sl x.r)))) $$ HR
  icases Hi with ⟨Hi, -⟩
  have hk := expect_rh V c f hh
  have hd := duties_rh V c f hh
  have hp := pay_r V c f x.r
  rw [rp_at, rp_succ]
  unfold kcell
  have e := rCell_sl c f x.r
  iapply (wp_wait_rest_token 𝒱₀ EB (Rd V) (c : Thread nD τ) none (κ := κ (c, .inr (.inl (f, sl x.r))))
    (wpE_waitDma2_eq 𝒱₀ (c : Thread nD τ) none Set.univ) (Set.mem_univ _) x.r (O := O) (W := W) (R := x.r / 4) (m := 0) (T := ∅)
    (by rw [Nat.zero_add, ← e, hk]; rfl)) $$ [Hcr HO Hat]
  · rw [← e]
    isplitr; · iexact Hi
    isplitl [Hcr]; · iexact Hcr
    isplitl [HO]; · iexact HO
    isplitr
    · iapply (mayOwe c hO (fun p hp => by rw [Finset.mem_singleton.mp hp]; exact ⟨hh, by rw [← e, lv_r]⟩))
      iapply (rec_levs V κ ι) $$ HR
    iexact Hat
  rw [← e, hd, Finset.sdiff_empty, BI.bigSep_singleton, hp]
  iintro ⟨HO, Hat, #Hre, Hpay⟩
  rw [wp_ret]
  imodintro
  isplitr [HO]
  · isplitl [Hat HA]
    · iapply HA
      isplitl [Hat]; · iexact Hat
      iexact Hre
    isplitl [HS]; · iexact HS
    isplitl [HC]; · iexact HC
    isplitl [Hrc]; · iexact Hrc
    isplitl [Hsc]; · iexact Hsc
    isplitl [Hcc]; · iexact Hcc
    isplitl [Htk]; · iexact Htk
    isplitl [Hgt]; · iexact Hgt
    isplitl [Hst]; · iexact Hst
    isplitl [Hpay Hcm]
    · iapply Hcm
      rw [show (recvX x.r x).cm (sl x.r) = .full x.r from Function.update_self _ _ _]
      unfold comSt
      iexact Hpay
    isplitl [Hra]; · iexact Hra
    isplitl [Hpm]; · iexact Hpm
    iexact Hdp
  · iexists _; iexact HO

/-- What a hop is sent from, at what share. -/
def qs (h : ℕ) : PosShare TreeShare := if h < 8 then fullShare else fullShare.right

theorem pay_src (c : Dev nD) (f : Fin 8) (h : ℕ) :
    (Rd V).payload (sCell c f (sl h)) (h / 4) 0 = anySlot c (srcBuf f h) (srcIx h) (qs h) := by
  rw [pay_s]
  unfold srcBuf srcIx qs
  split
  · rw [anySlot_sl]
  · rename_i hh
    unfold anySlot
    rw [slotM_mod _ ((sl h).val + 3), slotM_mod _ (h - 1), show ((sl h).val + 3) % 4 = (h - 1) % 4 by unfold sl; dsimp only; omega]

/-- The slot that hop `h` is sent from, before and after. -/
def srcReady (h : ℕ) (x : X) : Prop := if h < 8 then x.st (sl h) = .has h else x.cm (sl (h - 1)) = .full (h - 1)
def srcAway (h : ℕ) (x : X) : Prop := if h < 8 then x.st (sl h) = .gone else x.cm (sl (h - 1)) = .half (h - 1)
instance (h : ℕ) (x : X) : Decidable (srcReady h x) := by unfold srcReady; infer_instance
instance (h : ℕ) (x : X) : Decidable (srcAway h x) := by unfold srcAway; infer_instance

/-- A hop has left. -/
def sentX (h : ℕ) (x : X) : X := { x with
  sp := Function.update x.sp (sl h) (h / 4 + 1)
  out := Function.update x.out (sl h) false
  st := if h < 8 then Function.update x.st (sl h) .junk else x.st
  cm := if h < 8 then x.cm else Function.update x.cm (sl (h - 1)) (.full (h - 1)) }

/-- A hop has been started. -/
def startX (h : ℕ) (x : X) : X := { x with
  i := h + 1
  out := Function.update x.out (sl h) true
  st := if h < 8 then Function.update x.st (sl h) .gone else x.st
  cm := if h < 8 then x.cm else Function.update x.cm (sl (h - 1)) (.half (h - 1)) }

/-- The two buffers of a flow. -/
def slots (c : Dev nD) (f : Fin 8) (x : X) : sProp 𝕄 :=
  iprop(bigSep Finset.univ (fun s => stgSt V c f s (x.st s)) ∗ bigSep Finset.univ (fun s => comSt V c f s (x.cm s)))

theorem slot_halves (c : Dev nD) (M : Memref sig .tc .vmem S4x64x1024 .bf16) (s : ℕ) (Y : Tile F) :
    slotAt c M s fullShare Y ⊢ iprop(slotAt c M s fullShare.left Y ∗ slotAt c M s fullShare.right Y) :=
  (owns_halves (c : Thread nD τ) (slotM M s) fullShare Y).1
theorem slot_rejoin (c : Dev nD) (M : Memref sig .tc .vmem S4x64x1024 .bf16) (s : ℕ) (Y : Tile F) :
    iprop(slotAt c M s fullShare.left Y ∗ anySlot c M s fullShare.right) ⊢ slotAt c M s fullShare Y :=
  owns_rejoin (c : Thread nD τ) (slotM M s) fullShare Y

theorem slots_back (c : Dev nD) (f : Fin 8) {x : X} {h : ℕ} (hx : srcAway h x) :
    iprop(slots V c f x ∗ anySlot c (srcBuf f h) (srcIx h) (qs h)) ⊢ slots V c f (sentX h x) := by
  unfold slots
  by_cases h8 : h < 8
  · unfold srcAway at hx; rw [if_pos h8] at hx
    rw [show srcBuf f h = gM f from if_pos h8, show srcIx h = h from if_pos h8, show qs h = fullShare from if_pos h8,
      show (sentX h x).cm = x.cm from if_pos h8, show (sentX h x).st = Function.update x.st (sl h) .junk from if_pos h8, ← anySlot_sl]
    iintro ⟨⟨Hst, Hcm⟩, H⟩
    isplitl [Hst H]
    · ihave Hst := (take_put _ (fun s => stgSt V c f s (Function.update x.st (sl h) .junk s)) (sl h)
        (fun s hs => by rw [Function.update_of_ne hs])) $$ Hst
      icases Hst with ⟨-, Hst⟩
      iapply Hst
      rw [Function.update_self]
      unfold stgSt
      iexact H
    · iexact Hcm
  · unfold srcAway at hx; rw [if_neg h8] at hx
    rw [show srcBuf f h = cM f from if_neg h8, show srcIx h = h - 1 from if_neg h8, show qs h = fullShare.right from if_neg h8,
      show (sentX h x).cm = Function.update x.cm (sl (h - 1)) (.full (h - 1)) from if_neg h8, show (sentX h x).st = x.st from if_neg h8, ← anySlot_sl]
    iintro ⟨⟨Hst, Hcm⟩, H⟩
    isplitl [Hst]; · iexact Hst
    ihave Hcm := (take_put _ (fun s => comSt V c f s (Function.update x.cm (sl (h - 1)) (.full (h - 1)) s)) (sl (h - 1))
      (fun s hs => by rw [Function.update_of_ne hs])) $$ Hcm
    icases Hcm with ⟨Hl, Hcm⟩
    iapply Hcm
    rw [Function.update_self, hx]
    ihave Hl := (show comSt V c f (sl (h - 1)) (.half (h - 1)) ⊢ slotAt c (cM f) (sl (h - 1)).val fullShare.left (land V c f (h - 1)) from .rfl) $$ Hl
    iapply (show slotAt c (cM f) (sl (h - 1)).val fullShare (land V c f (h - 1)) ⊢ comSt V c f (sl (h - 1)) (.full (h - 1)) from .rfl)
    iapply (slot_rejoin c (cM f) (sl (h - 1)).val (land V c f (h - 1)))
    isplitl [Hl]; · iexact Hl
    iexact H

theorem slots_lend (c : Dev nD) (f : Fin 8) {x : X} {h : ℕ} (hx : srcReady h x) :
    slots V c f x ⊢ iprop(slots V c f (startX h x) ∗ slotAt c (srcBuf f h) (srcIx h) (qs h) (sent V c f h)) := by
  unfold slots
  by_cases h8 : h < 8
  · unfold srcReady at hx; rw [if_pos h8] at hx
    rw [show srcBuf f h = gM f from if_pos h8, show srcIx h = h from if_pos h8, show qs h = fullShare from if_pos h8,
      show (startX h x).cm = x.cm from if_pos h8, show (startX h x).st = Function.update x.st (sl h) .gone from if_pos h8, ← slotAt_sl]
    iintro ⟨Hst, Hcm⟩
    ihave Hst := (take_put _ (fun s => stgSt V c f s (Function.update x.st (sl h) .gone s)) (sl h)
      (fun s hs => by rw [Function.update_of_ne hs])) $$ Hst
    rw [Function.update_self, hx]
    unfold stgSt
    icases Hst with ⟨H, Hst⟩
    isplitr [H]
    · isplitl [Hst]
      · iapply Hst; iempintro
      · iexact Hcm
    · iexact H
  · unfold srcReady at hx; rw [if_neg h8] at hx
    obtain ⟨k, rfl⟩ : ∃ k, h = k + 1 := ⟨h - 1, by omega⟩
    rw [Nat.add_sub_cancel] at hx
    rw [show srcBuf f (k + 1) = cM f from if_neg h8, show srcIx (k + 1) = k from if_neg h8, show qs (k + 1) = fullShare.right from if_neg h8,
      show (startX (k + 1) x).cm = Function.update x.cm (sl k) (.half k) from if_neg h8, show (startX (k + 1) x).st = x.st from if_neg h8,
      sent_spr V c f (h := k) (by omega), ← slotAt_sl]
    iintro ⟨Hst, Hcm⟩
    ihave Hcm := (take_put _ (fun s => comSt V c f s (Function.update x.cm (sl k) (.half k) s)) (sl k)
      (fun s hs => by rw [Function.update_of_ne hs])) $$ Hcm
    rw [Function.update_self, hx]
    icases Hcm with ⟨H, Hcm⟩
    ihave H := (show comSt V c f (sl k) (.full k) ⊢ slotAt c (cM f) (sl k).val fullShare (land V c f k) from .rfl) $$ H
    ihave H := slot_halves c (cM f) (sl k).val (land V c f k) $$ H
    icases H with ⟨Hl, Hr⟩
    isplitr [Hr]
    · isplitl [Hst]; · iexact Hst
      iapply Hcm
      iapply (show slotAt c (cM f) (sl k).val fullShare.left (land V c f k) ⊢ comSt V c f (sl k) (.half k) from .rfl)
      iexact Hl
    · iexact Hr

theorem ownsSat_open (c : Dev nD) (m : Memref sig .tc .vmem S64x1024 .bf16) (q : PosShare TreeShare) (Φ : Tile F → Prop) :
    ownsSat (c : Thread nD τ) m q Φ
      ⊢ (iprop(∃ f, ⌜Φ (m.view.read (Elt F) f)⌝ ∗ (m.view.loc (c : Thread nD τ) ↦[m.view.set]{q} f)) : sProp 𝕄) := .rfl

theorem op_sent (c : Dev nD) (f : Fin 8) {x : X} {h : ℕ} (hh : h < 14) (ho : x.out (sl h) = true) (hs : x.sp (sl h) = h / 4)
    (hx : srcAway h x) {O : CellTallies nD τ sig ℕ} (hO : Above 1 O) :
    iprop(Rec V κ ι ∗ Flow V c f x ∗ Ow c O) ⊢ Wp c (sentP f h) iprop(Flow V c f (sentX h x) ∗ Ow c O) := by
  unfold Wp sentP Ow
  simp only [Prog.lift, Prog.bind_op, Prog.bind_ret, Prog.pure_eq_ret]
  iintro ⟨#HR, HF, ⟨%W, HO⟩⟩
  unfold Flow
  icases HF with ⟨HA, HS, HC, Hrc, Hsc, Hcc, Htk, Hgt, Hst, Hcm, Hra, Hpm, Hdp⟩
  ihave HS := (take_put _ (fun s => iprop(atPos EB (sCell c f s) ((sentX h x).sp s) ∅ 0 ∗ reached EB (sCell c f s) ((sentX h x).sp s))) (sl h)
    (fun s hs => by rw [show (sentX h x).sp s = x.sp s from Function.update_of_ne hs _ _])) $$ HS
  icases HS with ⟨⟨Hat, -⟩, HS⟩
  ihave Hsc := (take_put _ (fun s => if (sentX h x).out s then (cred (tallyAt (sCell c f s) 0 N) : sProp 𝕄) else iprop(emp)) (sl h)
    (fun s hs => by rw [show (sentX h x).out s = x.out s from Function.update_of_ne hs _ _])) $$ Hsc
  icases Hsc with ⟨Hcr, Hsc⟩
  ihave #Hi := (rec_cell V κ ι (c, .inl (f, sl h))) $$ HR
  icases Hi with ⟨Hi, -⟩
  have hk := expect_sh V c f hh
  have hd := duties_sh V c f hh
  have hp := pay_src V c f h
  rw [hs, ho, show (sentX h x).sp (sl h) = h / 4 + 1 from Function.update_self _ _ _,
    show (sentX h x).out (sl h) = false from Function.update_self _ _ _]
  ihave Hcr := (Entails.of_eq (if_pos rfl)) $$ Hcr
  unfold kcell
  have e := sCell_sl c f h
  iapply (wp_wait_rest_token 𝒱₀ EB (Rd V) (c : Thread nD τ) none (κ := κ (c, .inl (f, sl h)))
    (wpE_waitDma2_eq 𝒱₀ (c : Thread nD τ) none Set.univ) (Set.mem_univ _) 0 (O := O) (W := W) (R := h / 4) (m := 0) (T := ∅)
    (by rw [Nat.zero_add, ← e, hk]; rfl)) $$ [Hcr HO Hat]
  · rw [← e]
    isplitr; · iexact Hi
    isplitl [Hcr]; · iexact Hcr
    isplitl [HO]; · iexact HO
    isplitr
    · iapply (mayOwe c hO (fun p hp => by rw [Finset.mem_singleton.mp hp]; exact ⟨Nat.succ_pos 13, by rw [← e, lv_s]⟩))
      iapply (rec_levs V κ ι) $$ HR
    iexact Hat
  rw [← e, hd, Finset.sdiff_empty, BI.bigSep_singleton, hp]
  iintro ⟨HO, Hat, #Hre, Hpay⟩
  ihave Hsl := (slots_back V c f hx) $$ [Hst Hcm Hpay]
  · unfold slots
    isplitr [Hpay]
    · isplitl [Hst] <;> iassumption
    · iexact Hpay
  unfold slots
  icases Hsl with ⟨Hst, Hcm⟩
  rw [wp_ret]
  imodintro
  isplitr [HO]
  · isplitl [HA]; · iexact HA
    isplitl [Hat HS]
    · iapply HS
      isplitl [Hat]; · iexact Hat
      iexact Hre
    isplitl [HC]; · iexact HC
    isplitl [Hrc]; · iexact Hrc
    isplitl [Hsc]
    · iapply Hsc
      rw [if_neg (by decide)]
      iempintro
    isplitl [Hcc]; · iexact Hcc
    isplitl [Htk]; · iexact Htk
    isplitl [Hgt]; · iexact Hgt
    isplitl [Hst]; · iexact Hst
    isplitl [Hcm]; · iexact Hcm
    isplitl [Hra]; · iexact Hra
    isplitl [Hpm]; · iexact Hpm
    iexact Hdp
  · iexists _; iexact HO

theorem owed_start (c : Dev nD) (f : Fin 8) (x : X) (hh : x.i < 14) :
    owed c f x = owed c f (startX x.i x) + tallyAt (rCell (toD f c) f (sl x.i)) x.i N := by
  unfold owed
  rw [show (startX x.i x).i = x.i + 1 from rfl, show (startX x.i x).g = x.g from rfl,
    show Finset.Ico x.i 14 = insert x.i (Finset.Ico (x.i + 1) 14) by ext; simp only [Finset.mem_Ico, Finset.mem_insert]; omega,
    Finset.sum_insert (by simp)]
  ac_rfl

theorem op_start (c : Dev nD) (f : Fin 8) {x : X} {h : ℕ} (h0 : x.i = h) (hh : h < 14) (hq : h < x.q + 4) (ho : x.out (sl h) = false)
    (hs : x.sp (sl h) = h / 4) (hx : srcReady h x) (O : CellTallies nD τ sig ℕ) :
    iprop(Rec V κ ι ∗ Flow V c f x ∗ Ow c (owed c f x + O))
      ⊢ Wp c (startP c f h) iprop(Flow V c f (startX h x) ∗ Ow c (owed c f (startX h x) + O)) := by
  subst h0
  unfold Wp startP Ow
  simp only [Prog.lift, Prog.bind_op, Prog.bind_ret, Prog.pure_eq_ret]
  rw [owed_start c f x hh, add_right_comm]
  iintro ⟨#HR, HF, ⟨%W, HO⟩⟩
  unfold Flow
  icases HF with ⟨HA, HS, HC, Hrc, Hsc, Hcc, Htk, Hgt, Hst, Hcm, Hra, #Hpm, Hdp⟩
  ihave HS := (take_put _ (fun s => iprop(atPos EB (sCell c f s) (x.sp s) ∅ 0 ∗ reached EB (sCell c f s) (x.sp s))) (sl x.i)
    (fun s _ => rfl)) $$ HS
  icases HS with ⟨⟨Hat, #HreS⟩, HS⟩
  ihave Hsc := (take_put _ (fun s => if (startX x.i x).out s then (cred (tallyAt (sCell c f s) 0 N) : sProp 𝕄) else iprop(emp)) (sl x.i)
    (fun s hs => by rw [show (startX x.i x).out s = x.out s from Function.update_of_ne hs _ _])) $$ Hsc
  icases Hsc with ⟨-, Hsc⟩
  ihave Htk := (pop hh _) $$ Htk
  unfold hopTok
  icases Htk with ⟨⟨HtS, HtR, HtW⟩, Htk⟩
  ihave #Hp := (show _ ⊢ _ from BI.bigSep_elim (Φ := perm (F := F) c f) (Finset.mem_range.mpr hq)) $$ Hpm
  unfold perm
  icases Hp with ⟨Hrel, HreR⟩
  ihave #Hi := (rec_cell V κ ι (c, .inl (f, sl x.i))) $$ HR
  icases Hi with ⟨HiS, -⟩
  ihave #Hi := (rec_cell V κ ι (toD f c, .inr (.inl (f, sl x.i)))) $$ HR
  icases Hi with ⟨HiR, -⟩
  ihave #HiW := (rec_slot V κ ι (toD f c, f, sl x.i)) $$ HR
  imod (slot_take ES (Set.mem_univ (ι (toD f c, f, sl x.i))) (x.i / 4 + 1)) $$ [HtW] with Hd
  · isplitr; · iexact HiW
    isplitr; · iexact Hrel
    iexact HtW
  ihave Hsl := (slots_lend V c f hx) $$ [Hst Hcm]
  · unfold slots
    isplitl [Hst] <;> iassumption
  unfold slots
  icases Hsl with ⟨⟨Hst, Hcm⟩, Hsrc⟩
  unfold kcell
  dsimp only
  ihave Hd := (Entails.of_eq (anySlot_sl (F := F) (toD f c) (cM f) x.i fullShare)) $$ Hd
  rw [show (startX x.i x).out (sl x.i) = true from Function.update_self _ _ _, if_pos rfl, hs]
  have eS := sCell_sl c f x.i
  have eR := rCell_sl (toD f c) f x.i
  have hdS := duties_sh V c f hh
  have hdR := duties_rh V (toD f c) f hh
  have haS := amount_s V c f (sl x.i) (x.i / 4) 0
  have haR := amount_r V (toD f c) f (sl x.i) (x.i / 4) 0
  have hpS := pay_src V c f x.i
  have hpR := pay_r V (toD f c) f x.i
  rw [slotAt_sl, show land V (toD f c) f x.i = sent V c f x.i by unfold land; rw [frD_toD]] at hpR
  rw [eS] at hdS haS hpS
  rw [eR] at hdR haR hpR
  ihave Hsrc := (ownsSat_open c (srcM f x.i) (qs x.i) (· = sent V c f x.i)) $$ Hsrc
  icases Hsrc with ⟨%fs, %hfs, Hsrc⟩
  ihave Hd := (ownsSat_open (F := F) (toD f c) (dstM f x.i) fullShare (fun _ => True)) $$ Hd
  icases Hd with ⟨%fd, -, Hd⟩
  rw [eS, eR]
  iapply (wp_send_pointsTo 𝒱₀ EB (Rd V) (c : Thread nD τ) none (κ₁ := κ (c, .inl (f, sl x.i))) (κ₂ := κ (toD f c, .inr (.inl (f, sl x.i))))
    (r₁ := x.i / 4) (r₂ := x.i / 4) (d₁ := 0) (d₂ := 0) (by rw [hdS]; exact Finset.mem_singleton_self 0)
    (by rw [hdR]; exact Finset.mem_singleton_self 0) x.i 0 N (amount_eq f x.i _) haS haR (owed c f (startX x.i x) + O) rfl
    (fs := fs) (fd := fd) (q := qs x.i)
    (by rw [hpS]; exact ownsSat_of (c : Thread nD τ) (srcM f x.i) (qs x.i) trivial)
    (by rw [hpR]; exact ownsSat_of ((toD f c : Dev nD) : Thread nD τ) (dstM f x.i) fullShare (by rw [View.read_write_univ]; exact hfs))) $$ [Hsrc Hd HO HtS HtR]
  · isplitr; · iexact HiS
    isplitr; · iexact HiR
    isplitl [Hsrc]; · iexact Hsrc
    isplitl [Hd]; · iexact Hd
    isplitl [HO]; · iexact HO
    isplitl [HtS]; · iexact HtS
    isplitr; · iexact HreS
    isplitl [HtR]; · iexact HtR
    iexact HreR
  iintro ⟨Hcr, HO⟩
  rw [wp_ret]
  imodintro
  isplitr [HO]
  · isplitl [HA]; · iexact HA
    isplitl [Hat HS]
    · iapply HS
      isplitl [Hat]; · iexact Hat
      iexact HreS
    isplitl [HC]; · iexact HC
    isplitl [Hrc]; · iexact Hrc
    isplitl [Hsc Hcr]
    · iapply Hsc
      iexact Hcr
    isplitl [Hcc]; · iexact Hcc
    isplitl [Htk]; · iexact Htk
    isplitl [Hgt]; · iexact Hgt
    isplitl [Hst]; · iexact Hst
    isplitl [Hcm]; · iexact Hcm
    isplitl [Hra]; · iexact Hra
    isplitr; · iexact Hpm
    iexact Hdp
  · iexists _; iexact HO

theorem slot_any (c : Dev nD) (M : Memref sig .tc .vmem S4x64x1024 .bf16) (s : ℕ) (q : PosShare TreeShare) (X : Tile F) :
    slotAt c M s q X ⊢ anySlot c M s q :=
  ownsSat_mono _ _ _ (fun _ _ => trivial)

/-- A step whose result is weakened. -/
theorem wp_then (c : Dev nD) {p : PR F} {Q Q' : sProp 𝕄} : iprop(Wp c p Q ∗ (Q -∗ Q')) ⊢ Wp c p Q' := by
  unfold Wp
  iintro ⟨H, Hk⟩
  iapply (wp_wand_r frame (wpE (defs₀ (F := F)) 𝒱₀ (c : Thread nD τ) none) Set.univ)
  isplitl [H]; · iexact H
  iintro %_
  iexact Hk

/-- A tile has been put into a slot of the sums' buffer. -/
def putX (h : ℕ) (x : X) : X := { x with st := Function.update x.st (sl h) (.has h) }

theorem stg_any (c : Dev nD) (f : Fin 8) (s : Fin 4) {t : Stg} (ht : t ≠ .gone) : stgSt V c f s t ⊢ anySlot c (gM f) s.val fullShare := by
  cases t with
  | gone => exact absurd rfl ht
  | junk => exact .rfl
  | has h => exact slot_any c (gM f) s.val fullShare _

theorem op_put (c : Dev nD) (f : Fin 8) {x : X} {h : ℕ} (hx : x.st (sl h) ≠ .gone) :
    Flow V c f x ⊢ Wp c (putP f h (sent V c f h)) (Flow V c f (putX h x)) := by
  iintro HF
  unfold Flow
  icases HF with ⟨HA, HS, HC, Hrc, Hsc, Hcc, Htk, Hgt, Hst, Hcm, Hra, Hpm, Hdp⟩
  ihave Hst := (take_put _ (fun s => stgSt V c f s ((putX h x).st s)) (sl h)
    (fun s hs => by rw [show (putX h x).st s = x.st s from Function.update_of_ne hs _ _])) $$ Hst
  icases Hst with ⟨H, Hst⟩
  ihave H := (stg_any V c f (sl h) hx) $$ H
  ihave H := (Entails.of_eq (anySlot_sl c (gM f) h fullShare)) $$ H
  iapply (wp_then c (Q := slotAt c (gM f) h fullShare (sent V c f h)))
  isplitl [H]
  · iapply (wp_put c f h (sent V c f h)) $$ H
  iintro H
  rw [show (putX h x).st (sl h) = .has h from Function.update_self _ _ _]
  isplitl [HA]; · iexact HA
  isplitl [HS]; · iexact HS
  isplitl [HC]; · iexact HC
  isplitl [Hrc]; · iexact Hrc
  isplitl [Hsc]; · iexact Hsc
  isplitl [Hcc]; · iexact Hcc
  isplitl [Htk]; · iexact Htk
  isplitl [Hgt]; · iexact Hgt
  isplitl [Hst H]
  · iapply Hst
    iapply (show slotAt c (gM f) (sl h).val fullShare (sent V c f h) ⊢ stgSt V c f (sl h) (.has h) from .rfl)
    iapply (Entails.of_eq (slotAt_sl c (gM f) h fullShare (sent V c f h)).symm) $$ H
  isplitl [Hcm]; · iexact Hcm
  isplitl [Hra]; · iexact Hra
  isplitl [Hpm]; · iexact Hpm
  iexact Hdp

/-- The slot of an arrived hop, to be read. -/
def arrived (h : ℕ) (x : X) : Prop := x.cm (sl h) = .full h ∨ x.cm (sl h) = .half h
instance (h : ℕ) (x : X) : Decidable (arrived h x) := by unfold arrived; infer_instance

theorem com_share (c : Dev nD) (f : Fin 8) {t : Com} {h : ℕ} (ht : t = .full h ∨ t = .half h) :
    ∃ q, comSt V c f (sl h) t = slotAt c (cM f) h q (land V c f h) := by
  rcases ht with rfl | rfl
  · exact ⟨fullShare, slotAt_sl c (cM f) h _ _⟩
  · exact ⟨fullShare.left, slotAt_sl c (cM f) h _ _⟩

theorem com_read (c : Dev nD) (f : Fin 8) {x : X} {h : ℕ} (hx : arrived h x) :
    ∃ q, Flow V c f x ⊢ iprop(slotAt c (cM f) h q (land V c f h) ∗ (slotAt c (cM f) h q (land V c f h) -∗ Flow V c f x)) := by
  obtain ⟨q, hq⟩ := com_share V c f hx
  refine ⟨q, ?_⟩
  iintro HF
  unfold Flow
  icases HF with ⟨HA, HS, HC, Hrc, Hsc, Hcc, Htk, Hgt, Hst, Hcm, Hra, Hpm, Hdp⟩
  ihave Hcm := (take_put _ (fun s => comSt V c f s (x.cm s)) (sl h) (fun s _ => rfl)) $$ Hcm
  icases Hcm with ⟨H, Hcm⟩
  ihave H := (Entails.of_eq hq) $$ H
  isplitl [H]; · iexact H
  iintro H
  isplitl [HA]; · iexact HA
  isplitl [HS]; · iexact HS
  isplitl [HC]; · iexact HC
  isplitl [Hrc]; · iexact Hrc
  isplitl [Hsc]; · iexact Hsc
  isplitl [Hcc]; · iexact Hcc
  isplitl [Htk]; · iexact Htk
  isplitl [Hgt]; · iexact Hgt
  isplitl [Hst]; · iexact Hst
  isplitl [Hcm H]
  · iapply Hcm
    iapply (Entails.of_eq hq.symm) $$ H
  isplitl [Hra]; · iexact Hra
  isplitl [Hpm]; · iexact Hpm
  iexact Hdp

/-- The slot of hop `j` has been handed back. -/
def relX (j : ℕ) (x : X) : X := { x with
  d := j + 1
  cm := Function.update x.cm (sl j) .gone
  ra := Function.update x.ra (sl j) (j / 4 + 2) }

theorem op_rel (c : Dev nD) (f : Fin 8) {x : X} {j : ℕ} (h0 : x.d = j) (hx : x.cm (sl j) = .full j) (ha : x.ra (sl j) = j / 4 + 1)
    (hr : rp x.r (sl j) = j / 4 + 1) :
    iprop(Rec V κ ι ∗ Flow V c f x) ⊢ |={Set.univ}=> Flow V c f (relX j x) := by
  subst h0
  iintro ⟨#HR, HF⟩
  unfold Flow
  icases HF with ⟨HA, HS, HC, Hrc, Hsc, Hcc, Htk, Hgt, Hst, Hcm, Hra, Hpm, Hdp⟩
  ihave HA := (take_put _ (fun s => iprop(atPos EB (rCell c f s) (rp x.r s) ∅ 0 ∗ reached EB (rCell c f s) (rp x.r s))) (sl x.d)
    (fun s _ => rfl)) $$ HA
  icases HA with ⟨⟨Hat, #Hre⟩, HA⟩
  ihave Hcm := (take_put _ (fun s => comSt V c f s ((relX x.d x).cm s)) (sl x.d)
    (fun s hs => by rw [show (relX x.d x).cm s = x.cm s from Function.update_of_ne hs _ _])) $$ Hcm
  icases Hcm with ⟨H, Hcm⟩
  ihave Hra := (take_put _ (fun s => readerAt ES ((c, f, s) : Key) ((relX x.d x).ra s)) (sl x.d)
    (fun s hs => by rw [show (relX x.d x).ra s = x.ra s from Function.update_of_ne hs _ _])) $$ Hra
  icases Hra with ⟨Hr, Hra⟩
  rw [hx, ha, hr, show (relX x.d x).cm (sl x.d) = .gone from Function.update_self _ _ _,
    show (relX x.d x).ra (sl x.d) = x.d / 4 + 2 from Function.update_self _ _ _]
  ihave H := (show comSt V c f (sl x.d) (.full x.d) ⊢ anySlot c (cM f) (sl x.d).val fullShare from
    slot_any c (cM f) (sl x.d).val fullShare _) $$ H
  ihave #Hi := (rec_slot V κ ι (c, f, sl x.d)) $$ HR
  imod (slot_release ES (Set.mem_univ (ι (c, f, sl x.d))) (slot_slot_false c (cM f) (sl x.d).val) (x.d / 4 + 1)) $$ [Hr H] with ⟨Hr, #Hrel⟩
  · isplitr; · iexact Hi
    isplitl [Hr]; · iexact Hr
    iexact H
  imodintro
  isplitl [Hat HA]
  · iapply HA
    isplitl [Hat]; · iexact Hat
    iexact Hre
  isplitl [HS]; · iexact HS
  isplitl [HC]; · iexact HC
  isplitl [Hrc]; · iexact Hrc
  isplitl [Hsc]; · iexact Hsc
  isplitl [Hcc]; · iexact Hcc
  isplitl [Htk]; · iexact Htk
  isplitl [Hgt]; · iexact Hgt
  isplitl [Hst]; · iexact Hst
  isplitl [Hcm]
  · iapply Hcm
    iapply (show iprop(emp) ⊢ comSt V c f (sl x.d) .gone from .rfl)
    iempintro
  isplitl [Hra Hr]
  · iapply Hra; iexact Hr
  isplitl [Hpm]; · iexact Hpm
  iapply (pushR x.d fun j => perm (frD f c) f (j + 4))
  isplitr
  · unfold perm
    rw [toD_frD, show sl (x.d + 4) = sl x.d from Fin.ext (Nat.add_mod_right _ _), show (x.d + 4) / 4 = x.d / 4 + 1 by omega]
    isplitr; · iexact Hrel
    iexact Hre
  · iexact Hdp

/-- A credit has been given. -/
def grantX (x : X) : X := { x with g := x.g + 1 }

theorem owed_grant (c : Dev nD) (f : Fin 8) (x : X) (hh : x.g < 14) :
    owed c f x = owed c f (grantX x) + tallyAt (cCell (frD f c) f) (cix x.g) 1 := by
  unfold owed
  rw [show (grantX x).g = x.g + 1 from rfl, show (grantX x).i = x.i from rfl,
    show Finset.Ico x.g 14 = insert x.g (Finset.Ico (x.g + 1) 14) by ext; simp only [Finset.mem_Ico, Finset.mem_insert]; omega,
    Finset.sum_insert (by simp)]
  ac_rfl

theorem mem_duties_c (c : Dev nD) (f : Fin 8) {j : ℕ} (hj : j < 14) : j ∈ (Rd V).duties (cCell c f) 0 := by
  rw [duties_c, if_pos rfl]; exact Finset.mem_range.mpr hj

theorem op_grant (c : Dev nD) (f : Fin 8) {x : X} {j : ℕ} (h0 : x.g = j) (hj : j < 14) (hd : x.d = items (j + 1)) (O : CellTallies nD τ sig ℕ) :
    iprop(Rec V κ ι ∗ Flow V c f x ∗ Ow c (owed c f x + O))
      ⊢ Wp c (semSignalWord (frD f c) (cS f) 1#32) iprop(Flow V c f (grantX x) ∗ Ow c (owed c f (grantX x) + O)) := by
  subst h0
  unfold Wp Ow
  simp only [semSignalWord]
  rw [owed_grant c f x hj, add_right_comm]
  iintro ⟨#HR, HF, ⟨%W, HO⟩⟩
  unfold Flow
  icases HF with ⟨HA, HS, HC, Hrc, Hsc, Hcc, Htk, Hgt, Hst, Hcm, Hra, Hpm, #Hdp⟩
  ihave Hgt := (pop hj _) $$ Hgt
  icases Hgt with ⟨Ht, Hgt⟩
  ihave #Hi := (rec_cell V κ ι (frD f c, .inr (.inr (.inl f)))) $$ HR
  unfold kcell
  icases Hi with ⟨Hi, Hre⟩
  iapply (Rounds.wp_signal 𝒱₀ EB (Rd V) (c : Thread nD τ) none (dst := (frD f c : Thread nD τ)) (κ := κ (frD f c, .inr (.inr (.inl f))))
    (d := x.g) (r := 0) (mem_duties_c V (frD f c) f hj) ((amount_c V (frD f c) f 0 x.g).trans (by decide)) (cix x.g) (owed c f (grantX x) + O) rfl)
    $$ [HO Ht]
  · isplitr; · iexact Hi
    isplitl [HO]; · iexact HO
    isplitl [Ht]; · iexact Ht
    isplitr
    · iapply (show perms (frD f c) f (x.g + 1) ⊢ (Rd V).payload ((frD f c : Thread nD τ), SemLoc.reg (cS f)) 0 x.g from
        Entails.of_eq (pay_c V (frD f c) f 0 x.g).symm)
      unfold perms
      rw [← hd]
      iexact Hdp
    · iexact Hre
  iintro HO
  rw [wp_ret]
  imodintro
  isplitr [HO]
  · isplitl [HA]; · iexact HA
    isplitl [HS]; · iexact HS
    isplitl [HC]; · iexact HC
    isplitl [Hrc]; · iexact Hrc
    isplitl [Hsc]; · iexact Hsc
    isplitl [Hcc]; · iexact Hcc
    isplitl [Htk]; · iexact Htk
    isplitl [Hgt]; · iexact Hgt
    isplitl [Hst]; · iexact Hst
    isplitl [Hcm]; · iexact Hcm
    isplitl [Hra]; · iexact Hra
    isplitl [Hpm]; · iexact Hpm
    iexact Hdp
  · iexists _; iexact HO

/-- The last two credits, given together. -/
theorem op_grant_two (c : Dev nD) (f : Fin 8) {x : X} (h0 : x.g = 12) (hd : x.d = 10) (O : CellTallies nD τ sig ℕ) :
    iprop(Rec V κ ι ∗ Flow V c f x ∗ Ow c (owed c f x + O))
      ⊢ Wp c (semSignalWord (frD f c) (cS f) 2#32) iprop(Flow V c f (grantX (grantX x)) ∗ Ow c (owed c f (grantX (grantX x)) + O)) := by
  unfold Wp Ow
  simp only [semSignalWord]
  have e1 : owed c f x + O = owed c f (grantX (grantX x)) + O + tallyAt (cCell (frD f c) f) 12 2 := by
    rw [owed_grant c f x (by omega), owed_grant c f (grantX x) (show x.g + 1 < 14 by omega), show cix (grantX x).g = 12 by
      show min (x.g + 1) 12 = 12; omega, show cix x.g = 12 by unfold cix; omega, ← tallyAt_add _ _ 1 1]
    ac_rfl
  rw [e1]
  iintro ⟨#HR, HF, ⟨%W, HO⟩⟩
  unfold Flow
  icases HF with ⟨HA, HS, HC, Hrc, Hsc, Hcc, Htk, Hgt, Hst, Hcm, Hra, Hpm, #Hdp⟩
  ihave Hgt := (pop (by omega) _) $$ Hgt
  icases Hgt with ⟨Ht, Hgt⟩
  ihave Hgt := (pop (by omega) _) $$ Hgt
  icases Hgt with ⟨Ht', Hgt⟩
  ihave #Hi := (rec_cell V κ ι (frD f c, .inr (.inr (.inl f)))) $$ HR
  unfold kcell
  icases Hi with ⟨Hi, Hre⟩
  iapply (wp_signal_two V c (frD f c) f (κ := κ (frD f c, .inr (.inr (.inl f)))) (d := x.g) (d' := x.g + 1) (ι := 12) (by omega) (by omega)
    (owed c f (grantX (grantX x)) + O) rfl) $$ [HO Ht Ht']
  · isplitr; · iexact Hi
    isplitl [HO]; · iexact HO
    isplitl [Ht]
    · isplitl [Ht]; · iexact Ht
      iapply (Entails.of_eq (pay_c V (frD f c) f 0 x.g).symm)
      unfold perms
      rw [show items (x.g + 1) = x.d by unfold items; omega]
      iexact Hdp
    isplitl [Ht']
    · isplitl [Ht']; · iexact Ht'
      iapply (Entails.of_eq (pay_c V (frD f c) f 0 (x.g + 1)).symm)
      unfold perms
      rw [show items (x.g + 1 + 1) = x.d by unfold items; omega]
      iexact Hdp
    iexact Hre
  iintro HO
  rw [wp_ret]
  imodintro
  isplitr [HO]
  · isplitl [HA]; · iexact HA
    isplitl [HS]; · iexact HS
    isplitl [HC]; · iexact HC
    isplitl [Hrc]; · iexact Hrc
    isplitl [Hsc]; · iexact Hsc
    isplitl [Hcc]; · iexact Hcc
    isplitl [Htk]; · iexact Htk
    isplitl [Hgt]; · iexact Hgt
    isplitl [Hst]; · iexact Hst
    isplitl [Hcm]; · iexact Hcm
    isplitl [Hra]; · iexact Hra
    isplitl [Hpm]; · iexact Hpm
    iexact Hdp
  · iexists _; iexact HO

/-- A credit has been taken. -/
def credX (x : X) : X := { x with q := x.q + 1 }

theorem big_item {S : Finset ℕ} {q : ℕ} (h : q + 1 ≤ S.card) : ∃ i ∈ S, q ≤ i := by
  by_contra hc
  have hs : S ⊆ Finset.range q := fun i hi => Finset.mem_range.mpr (not_le.mp fun hq => hc ⟨i, hi, hq⟩)
  have := Finset.card_le_card hs
  rw [Finset.card_range] at this
  omega

theorem op_cred (c : Dev nD) (f : Fin 8) {x : X} {q : ℕ} (h0 : x.q = q) (hq : q < 10)
    {O : CellTallies nD τ sig ℕ} (hO : Above (2 * hg q + 4) O) :
    iprop(Rec V κ ι ∗ Flow V c f x ∗ Ow c O)
      ⊢ Wp c (semWaitWord (cS f) 1#32) iprop(Flow V c f (credX x) ∗ Ow c O) := by
  subst h0
  unfold Wp Ow
  simp only [semWaitWord]
  iintro ⟨#HR, HF, ⟨%W, HO⟩⟩
  unfold Flow
  icases HF with ⟨HA, HS, HC, Hrc, Hsc, Hcc, Htk, Hgt, Hst, Hcm, Hra, #Hpm, Hdp⟩
  ihave Hcc := (pop (by omega) _) $$ Hcc
  icases Hcc with ⟨Hcr, Hcc⟩
  ihave #Hi := (rec_cell V κ ι (c, .inr (.inr (.inl f)))) $$ HR
  unfold kcell
  icases Hi with ⟨Hi, -⟩
  unfold credPos
  icases HC with ⟨%T, %hT, Hat, #HT⟩
  obtain ⟨hT1, hT2⟩ := hT
  have hcix : cix x.q = x.q := by unfold cix; omega
  iapply (Rounds.wp_wait 𝒱₀ EB (Rd V) (c : Thread nD τ) none (κ := κ (c, .inr (.inr (.inl f))))
    (wpE_semWait_eq 𝒱₀ (c : Thread nD τ) none Set.univ) (Set.mem_univ _) (cr := Finsupp.single (cix x.q) 1) {(SemLoc.reg (cS f), cix x.q)}
    (O := O) (W := W) (R := 0) (m := x.q) (T := T) (by rw [Idealize.SL.Util.total_single]; decide)
    (by rw [Finsupp.support_single_ne_zero _ one_ne_zero]; exact subset_of_eq (Finset.image_singleton _ _))) $$ [Hcr HO Hat]
  · isplitr; · iexact Hi
    isplitl [Hcr]; · iexact Hcr
    isplitl [HO]; · iexact HO
    isplitr
    · iapply (mayOwe c hO (fun p hp => by
        rw [Finset.mem_singleton.mp hp, hcix]; exact ⟨by show x.q < 14; omega, le_of_eq (lv_c c f x.q)⟩))
      iapply (rec_levs V κ ι) $$ HR
    iexact Hat
  iintro %S ⟨%hS, HO, Hat, Hpay⟩
  obtain ⟨hTS, hSd, hcard⟩ := hS
  have hS14 : S ⊆ Finset.range 14 := by
    have := hSd; rw [show ((c : Thread nD τ), SemLoc.reg (cS f)) = cCell c f from rfl, duties_c, if_pos rfl] at this; exact this
  have hcS : x.q + 1 ≤ S.card := by
    rw [show ((c : Thread nD τ), SemLoc.reg (cS f)) = cCell c f from rfl, duties_c, if_pos rfl, expect_c,
      Finset.card_sdiff_of_subset hS14, Finset.card_range] at hcard
    have := Finset.card_le_card hS14
    rw [Finset.card_range] at this
    have e : ((1#32).toNat) = 1 := rfl
    omega
  obtain ⟨i, hi, hqi⟩ := big_item hcS
  ihave Hpay := (show bigSep (S \ T) (fun d => (Rd V).payload ((c : Thread nD τ), SemLoc.reg (cS f)) 0 d) ⊢ bigSep (S \ T) (fun d => perms c f (d + 1)) from
    bigSep_mono fun d _ => Entails.of_eq (pay_c V c f 0 d)) $$ Hpay
  ihave HS2 := (Entails.of_eq (bigSep_sdiff_split (Φ := fun d => perms (F := F) c f (d + 1)) hTS).symm) $$ [Hpay]
  · iapply (show iprop(bigSep T (fun d => perms (F := F) c f (d + 1)) ∗ bigSep (S \ T) (fun d => perms (F := F) c f (d + 1))) ⊢ _ from .rfl)
    isplitr; · iexact HT
    iexact Hpay
  icases HS2 with #HS2
  ihave Hi := (show bigSep S (fun d => perms (F := F) c f (d + 1)) ⊢ perms c f (i + 1) from BI.bigSep_elim (Φ := fun d => perms c f (d + 1)) hi) $$ HS2
  ihave Hi := (show perms (F := F) c f (i + 1) ⊢ perm c f (x.q + 4) from
    BI.bigSep_elim (Φ := fun i => perm c f (i + 4)) (Finset.mem_range.mpr (by unfold items; omega))) $$ Hi
  icases Hi with #Hi
  rw [wp_ret]
  imodintro
  isplitr [HO]
  · isplitl [HA]; · iexact HA
    isplitl [HS]; · iexact HS
    isplitl [Hat]
    · iexists S
      isplitr; · ipureintro; exact ⟨hS14, hcS⟩
      isplitl [Hat]; · iexact Hat
      iexact HS2
    isplitl [Hrc]; · iexact Hrc
    isplitl [Hsc]; · iexact Hsc
    isplitl [Hcc]; · iexact Hcc
    isplitl [Htk]; · iexact Htk
    isplitl [Hgt]; · iexact Hgt
    isplitl [Hst]; · iexact Hst
    isplitl [Hcm]; · iexact Hcm
    isplitl [Hra]; · iexact Hra
    isplitr [Hdp]
    · iapply (Entails.of_eq (congrArg (fun n => bigSep (Finset.range n) (perm (F := F) c f)) (show x.q + 4 + 1 = (credX x).q + 4 by
        show x.q + 4 + 1 = x.q + 1 + 4; omega)))
      iapply (pushR (x.q + 4) (perm c f))
      isplitr; · iexact Hi
      iexact Hpm
    iexact Hdp
  · iexists _; iexact HO

end Cert.Proof.Ring

end
-- ==== Proof.Out.lean ====
/- The result's buffer by tiles, the products of blocks, and the two arguments a device holds. -/
module

public import proofs.«01_k».proof.Proof.State

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Tiles of a result -/

abbrev tR (j f : Fin 8) : Rect S2048x2048 := tileR (tOff j f) (t_inb j f)
abbrev bR (j : Fin 8) (w : Fin 2) : Rect S2048x2048 := blkR (bOff j w) (b_inb j w)

abbrev qR (f : Fin 8) : Rect S256x1024 := Rect.unit (s := S256x1024) ![64 * (f.val / 2), 0] S64x1024.size (quarter_inb f)

/-- The tile of chunk `j` that flow `f` carries, in a result. -/
def rd (j f : Fin 8) (o : Vec F S2048x2048 .bf16) : Tile F := fun i => o ((tR j f).emb i)

theorem t_val0 (j f : Fin 8) (i : S64x1024.Idx) : ((tR j f).emb i 0).val = 256 * j.val + 64 * (f.val / 2) + (i 0).val := by
  show tOff j f 0 + 1 * (i 0).val = _; rw [one_mul]; rfl
theorem t_val1 (j f : Fin 8) (i : S64x1024.Idx) : ((tR j f).emb i 1).val = 1024 * (f.val % 2) + (i 1).val := by
  show tOff j f 1 + 1 * (i 1).val = _; rw [one_mul]; rfl
theorem b_val0 (j : Fin 8) (w : Fin 2) (i : S256x1024.Idx) : ((bR j w).emb i 0).val = 256 * j.val + (i 0).val := by
  show bOff j w 0 + 1 * (i 0).val = _; rw [one_mul]; rfl
theorem b_val1 (j : Fin 8) (w : Fin 2) (i : S256x1024.Idx) : ((bR j w).emb i 1).val = 1024 * w.val + (i 1).val := by
  show bOff j w 1 + 1 * (i 1).val = _; rw [one_mul]; rfl

theorem q_val0 (f : Fin 8) (i : S64x1024.Idx) : ((qR f).emb i 0).val = 64 * (f.val / 2) + (i 0).val := by
  show (![64 * (f.val / 2), 0] : Fin 2 → ℕ) 0 + 1 * (i 0).val = _; rw [one_mul]; rfl
theorem q_val1 (f : Fin 8) (i : S64x1024.Idx) : ((qR f).emb i 1).val = (i 1).val := by
  show (![64 * (f.val / 2), 0] : Fin 2 → ℕ) 1 + 1 * (i 1).val = _; rw [one_mul]; exact Nat.zero_add _

theorem out_read (o : Vec F S2048x2048 .bf16) (p : S2048x2048.Idx) : o p = oM.view.read (Elt F) o p := rfl
theorem rd_read (j f : Fin 8) (o : Vec F S2048x2048 .bf16) (i : S64x1024.Idx) : rd j f o i = oM.view.read (Elt F) o ((tR j f).emb i) := rfl

/-- A result with one tile written, -/
def wrT (j f : Fin 8) (o : Vec F S2048x2048 .bf16) (v : Tile F) : Vec F S2048x2048 .bf16 :=
  (oM.access (tR j f)).write (Elt F) o v Finset.univ
/-- or one block. -/
def wrB (j : Fin 8) (w : Fin 2) (o : Vec F S2048x2048 .bf16) (v : Vec F S256x1024 .bf16) : Vec F S2048x2048 .bf16 :=
  (oM.access (bR j w)).write (Elt F) o v Finset.univ

theorem rd_wrT (j f : Fin 8) (o : Vec F S2048x2048 .bf16) (v : Tile F) : rd j f (wrT j f o v) = v :=
  by
  funext i
  rw [rd_read]
  unfold wrT
  exact View.read_slice_write_emb (v := oM.view) (tR j f) o v (Finset.mem_univ i)

theorem rd_wrT_ne {j f j' f' : Fin 8} (h : ¬(j' = j ∧ f' = f)) (o : Vec F S2048x2048 .bf16) (v : Tile F) :
    rd j' f' (wrT j f o v) = rd j' f' o := by
  funext i
  rw [rd_read, rd_read]
  unfold wrT
  refine View.read_slice_write_of_not_mem (v := oM.view) (tR j f) o v Finset.univ ?_
  intro hm
  obtain ⟨i', -, e⟩ := Finset.mem_map.mp hm
  have e0 := congrArg (fun k => (k 0).val) e
  have e1 := congrArg (fun k => (k 1).val) e
  have h0 : (i 0).val < 64 := (i 0).isLt
  have h0' : (i' 0).val < 64 := (i' 0).isLt
  have h1 : (i 1).val < 1024 := (i 1).isLt
  have h1' : (i' 1).val < 1024 := (i' 1).isLt
  simp only at e0 e1
  rw [t_val0, t_val0] at e0
  rw [t_val1, t_val1] at e1
  exact h ⟨Fin.ext (by omega), Fin.ext (by omega)⟩

theorem rd_wrB (j f : Fin 8) (o : Vec F S2048x2048 .bf16) (v : Vec F S256x1024 .bf16) :
    rd j f (wrB j (par f) o v) = quarter f v := by
  funext i
  have e : (tR j f).emb i = (bR j (par f)).emb ((qR f).emb i) := by
    funext a
    apply Fin.ext
    fin_cases a
    · refine (t_val0 j f i).trans ((Eq.trans ?_ (b_val0 j (par f) ((qR f).emb i)).symm))
      rw [q_val0]; omega
    · refine (t_val1 j f i).trans ((Eq.trans ?_ (b_val1 j (par f) ((qR f).emb i)).symm))
      rw [q_val1]
  rw [rd_read, e]
  unfold wrB
  exact View.read_slice_write_emb (v := oM.view) (bR j (par f)) o v (Finset.mem_univ _)

theorem rd_wrB_ne {j j' f' : Fin 8} {w : Fin 2} (h : ¬(j' = j ∧ par f' = w)) (o : Vec F S2048x2048 .bf16) (v : Vec F S256x1024 .bf16) :
    rd j' f' (wrB j w o v) = rd j' f' o := by
  funext i
  rw [rd_read, rd_read]
  unfold wrB
  refine View.read_slice_write_of_not_mem (v := oM.view) (bR j w) o v Finset.univ ?_
  intro hm
  obtain ⟨i', -, e⟩ := Finset.mem_map.mp hm
  have e0 := congrArg (fun k => (k 0).val) e
  have e1 := congrArg (fun k => (k 1).val) e
  have h0 : (i 0).val < 64 := (i 0).isLt
  have h0' : (i' 0).val < 256 := (i' 0).isLt
  have h1 : (i 1).val < 1024 := (i 1).isLt
  have h1' : (i' 1).val < 1024 := (i' 1).isLt
  simp only at e0 e1
  rw [t_val0, b_val0] at e0
  rw [t_val1, b_val1] at e1
  exact h ⟨Fin.ext (by omega), Fin.ext (by show f'.val % 2 = w.val; omega)⟩

/-! ## What is known of the result -/

variable (V : Args F)

/-- What is known of the tiles of one flow: at which hop the device's own tile is in place, and up to which hop the
    tiles that are spread are. -/
structure Y where
  pr : Option ℕ
  ag : ℕ

def Known (c : Dev nD) (f : Fin 8) (y : Y) (o : Vec F S2048x2048 .bf16) : Prop :=
  (∀ h, y.pr = some h → rd (ch c f h) f o = tile V c (ch c f h) f) ∧ ∀ h, 7 ≤ h → h ≤ y.ag → rd (ch c f h) f o = sent V c f h

/-- The result's buffer. -/
def Out (c : Dev nD) (ys : Fin 8 → Y) : sProp 𝕄 :=
  iprop(∃ o : Vec F S2048x2048 .bf16, ⌜∀ f, Known V c f (ys f) o⌝ ∗ ((oM : Memref sig .tc .vmem S2048x2048 .bf16).view.loc (c : Thread nD τ) ↦{fullShare} o))

/-- The arguments' buffers. -/
def Ins (c : Dev nD) : sProp 𝕄 :=
  iprop(((aM : Memref sig .tc .vmem S2048x1024 .bf16).view.loc (c : Thread nD τ) ↦{fullShare} V.A c)
    ∗ ((bM : Memref sig .tc .vmem S1024x2048 .bf16).view.loc (c : Thread nD τ) ↦{fullShare} V.B c))

/-- A tile of the flow is read. -/
theorem wp_tile {α : Type} (c : Dev nD) (ys : Fin 8 → Y) (f : Fin 8) {h : ℕ} (hy : (ys f).pr = some h)
    {o : Fin 2 → ℕ} {ho : ∀ a, o a + S64x1024.size a ≤ S2048x2048.size a} (e : o = tOff (ch c f h) f)
    {hl : oM.view.LoadsAt (tileR o ho)} {k : Vec F S64x1024 .bf16 → Prog (TpuEff nD τ sig (Elt F) Λ₀ .tc) α} {Q : α → sProp 𝕄} :
    Out V c ys ⊢ iprop((Out V c ys -∗ wp frame (wpE (defs₀ (F := F)) 𝒱₀ (c : Thread nD τ) none) Set.univ (k (tile V c (ch c f h) f)) Q)
      -∗ wp frame (wpE (defs₀ (F := F)) 𝒱₀ (c : Thread nD τ) none) Set.univ (.op (.load oM (tileR o ho).toLoadRect hl) k) Q) := by
  subst e
  unfold Out
  iintro ⟨%o, %hk, H⟩ Hk
  rw [← (hk f).1 h hy]
  iapply (wp_load_rect 𝒱₀ (c : Thread nD τ) none Set.univ (m := oM) (r := tR (ch c f h) f) (Finset.subset_univ _)) $$ H
  iintro H
  iapply Hk
  iexists o
  isplitr
  · ipureintro; exact hk
  iexact H

/-- What is known once a tile has been written. -/
def wroteY (h : ℕ) (_y : Y) : Y := ⟨none, h⟩

theorem known_wrote (c : Dev nD) {ys : Fin 8 → Y} {f : Fin 8} {h : ℕ} (h7 : 7 ≤ h) (hh : h ≤ 14) (hy : h = 7 ∨ (ys f).ag + 1 = h)
    {o : Vec F S2048x2048 .bf16} (hk : ∀ g, Known V c g (ys g) o) :
    ∀ g, Known V c g (Function.update ys f (wroteY h (ys f)) g) (wrT (ch c f h) f o (sent V c f h)) := by
  intro g
  by_cases hg : g = f
  · subst hg
    rw [Function.update_self]
    refine ⟨fun n hn => absurd hn (by simp [wroteY]), fun n hn hn' => ?_⟩
    by_cases hnh : n = h
    · subst hnh; exact rd_wrT _ _ _ _
    · have hn'' : n ≤ h := hn'
      rw [rd_wrT_ne]
      · exact (hk g).2 n hn (by rcases hy with hy | hy <;> omega)
      · rintro ⟨e, -⟩
        exact hnh (ch_inj7 g c ⟨n, by omega⟩ ⟨h, by omega⟩ hn h7 e)
  · rw [Function.update_of_ne hg]
    refine ⟨fun n hn => ?_, fun n hn hn' => ?_⟩
    · rw [rd_wrT_ne fun e => hg e.2]; exact (hk g).1 n hn
    · rw [rd_wrT_ne fun e => hg e.2]; exact (hk g).2 n hn hn'

/-- A tile of the flow is written. -/
theorem wp_out (c : Dev nD) (ys : Fin 8 → Y) (f : Fin 8) {h : ℕ} (h7 : 7 ≤ h) (hh : h ≤ 14) (hy : h = 7 ∨ (ys f).ag + 1 = h)
    {o : Fin 2 → ℕ} {ho : ∀ a, o a + S64x1024.size a ≤ S2048x2048.size a} (e : o = tOff (ch c f h) f)
    {hp : (tileR o ho).PackedRows (EltTy.packing .bf16)} {v : FVec F S64x1024 .bf16} (hv : v = sent V c f h) :
    Out V c ys ⊢ Wp c (outP o ho hp v) (Out V c (Function.update ys f (wroteY h (ys f)))) := by
  subst e hv
  unfold Out Wp outP
  simp only [Prog.lift, Prog.bind_op, Prog.bind_ret, Prog.pure_eq_ret]
  iintro ⟨%o, %hk, H⟩
  iapply (wp_load_rect 𝒱₀ (c : Thread nD τ) none Set.univ (m := oM) (r := tR (ch c f h) f) (Finset.subset_univ _)) $$ H
  iintro H
  iapply (wp_store 𝒱₀ (c : Thread nD τ) none Set.univ (m := oM) (r := tR (ch c f h) f) (Finset.subset_univ _)) $$ H
  iintro H
  rw [wp_ret]
  imodintro
  iexists _
  isplitr
  · ipureintro; exact known_wrote V c h7 hh hy hk
  iexact H

/-- What is known once a block has been written. -/
def prodY (w : Fin 2) (h : ℕ) (ys : Fin 8 → Y) : Fin 8 → Y := fun f => if par f = w then ⟨some h, 0⟩ else ys f

theorem known_prod (c : Dev nD) {ys : Fin 8 → Y} {h : ℕ} {w : Fin 2} {g : Fin 8} (hg : par g = w)
    {o : Vec F S2048x2048 .bf16} (hk : ∀ f, Known V c f (ys f) o) :
    ∀ f, Known V c f (prodY w h ys f) (wrB (ch c g h) w o (block V c (ch c g h) w)) := by
  intro f
  subst hg
  unfold prodY
  by_cases hf : par f = par g
  · rw [if_pos hf]
    refine ⟨fun n hn => ?_, fun n hn hn' => absurd (show n ≤ 0 from hn') (by omega)⟩
    have hn : h = n := Option.some.inj hn
    subst hn
    rw [ch_par h (show f.val % 2 = g.val % 2 from congrArg Fin.val hf), ← hf]
    exact rd_wrB _ _ _ _
  · rw [if_neg hf]
    refine ⟨fun n hn => ?_, fun n hn hn' => ?_⟩
    · rw [rd_wrB_ne fun e => hf e.2]; exact (hk f).1 n hn
    · rw [rd_wrB_ne fun e => hf e.2]; exact (hk f).2 n hn hn'

/-- A product of blocks. -/
theorem wp_prod (c : Dev nD) (ys : Fin 8 → Y) {h : ℕ} {w : Fin 2} {g : Fin 8} (hg : par g = w)
    {oa : Fin 2 → ℕ} {ha : ∀ a, oa a + S256x1024.size a ≤ S2048x1024.size a} (ea : oa = aOff (ch c g h))
    {o : Fin 2 → ℕ} {ho : ∀ a, o a + S256x1024.size a ≤ S2048x2048.size a} (eo : o = bOff (ch c g h) w)
    {hp : (blkR o ho).PackedRows (EltTy.packing .bf16)} :
    iprop(Ins V c ∗ Out V c ys) ⊢ Wp c (mmP oa ha w o ho hp) iprop(Ins V c ∗ Out V c (prodY w h ys)) := by
  subst ea eo
  unfold Out Ins Wp mmP
  simp only [Prog.lift, Prog.bind_op, Prog.bind_ret, Prog.pure_eq_ret]
  iintro ⟨⟨HA, HB⟩, ⟨%o, %hk, H⟩⟩
  iapply (wp_load_rect 𝒱₀ (c : Thread nD τ) none Set.univ (m := aM) (r := Rect.unit (s := S2048x1024) (aOff (ch c g h)) S256x1024.size ha) (Finset.subset_univ _)) $$ HA
  iintro HA
  iapply (wp_load_rect 𝒱₀ (c : Thread nD τ) none Set.univ (m := bM) (r := Rect.unit (s := S1024x2048) ![0, 1024 * w.val] S1024x1024.size (half_inb w)) (Finset.subset_univ _)) $$ HB
  iintro HB
  iapply (wp_load_rect 𝒱₀ (c : Thread nD τ) none Set.univ (m := oM) (r := bR (ch c g h) w) (Finset.subset_univ _)) $$ H
  iintro H
  iapply (wp_store 𝒱₀ (c : Thread nD τ) none Set.univ (m := oM) (r := bR (ch c g h) w) (Finset.subset_univ _)) $$ H
  iintro H
  rw [wp_ret]
  imodintro
  isplitl [HA HB]
  · isplitl [HA]; · iexact HA
    iexact HB
  iexists _
  isplitr
  · ipureintro; exact known_prod V c hg hk
  iexact H

end Cert.Proof.Ring

end
-- ==== Proof.Final.lean ====
/- The result that every device ends with. -/
module

public import proofs.«01_k».proof.Proof.Out

@[expose] public section

noncomputable section

namespace Cert.Proof.Ring

open Cert.KernelIdeal Cert.KernelIdeal.Gen
open Idealize.ShloMosaic Idealize.ShloMosaic.TcCoe
open Idealize.SL Idealize.SL.Sem

variable {F : FTy → Type} [FloatOps F]

/-- The device at a position of the ring. -/
def devAt (p : Fin 8) : Dev nD := if h : p.val < 4 then p else ⟨11 - p.val, by show 11 - p.val < 8; omega⟩

/-- The device whose addition completes chunk `j` on flow `f`. -/
def own (f j : Fin 8) : Dev nD := if f.val % 2 = 0 then devAt ⟨(j.val + 7) % 8, Nat.mod_lt _ (by decide)⟩ else devAt ⟨(j.val + 1) % 8, Nat.mod_lt _ (by decide)⟩

theorem own_ch : ∀ (f : Fin 8) (c : Dev nD), own f (ch c f 7) = c := by decide +kernel
theorem ch_own : ∀ f j : Fin 8, ch (own f j) f 7 = j := by decide +kernel

/-- Every hop from the seventh on carries a completed chunk. -/
theorem sent_own (V : Args F) (f : Fin 8) : ∀ (n : ℕ) (c : Dev nD), n < 8 → sent V c f (7 + n) = sent V (own f (ch c f (7 + n))) f 7
  | 0, c, _ => by rw [Nat.add_zero, own_ch]
  | n + 1, c, h => by
    have e := ch_fr f c ⟨7 + n, by omega⟩
    rw [← Nat.add_assoc, sent_spr V c f (h := 7 + n) (by omega)]
    unfold land
    rw [sent_own V f n (frD f c) (by omega)]
    exact congrArg (fun j => sent V (own f j) f 7) e

theorem every_chunk : ∀ (f j : Fin 8) (c : Dev nD), ∃ n : Fin 8, ch c f (7 + n.val) = j := by decide +kernel

def chunkOf (x : S2048x2048.Idx) : Fin 8 := ⟨(x 0).val / 256, by have h : (x 0).val < 2048 := (x 0).isLt; omega⟩
def flowOf (x : S2048x2048.Idx) : Fin 8 :=
  ⟨2 * ((x 0).val % 256 / 64) + (x 1).val / 1024, by
    have h : (x 1).val < 2048 := (x 1).isLt
    omega⟩
def inTile (x : S2048x2048.Idx) : S64x1024.Idx :=
  fun a => match a with
    | ⟨0, _⟩ => ⟨(x 0).val % 64, Nat.mod_lt _ (by decide)⟩
    | ⟨1, _⟩ => ⟨(x 1).val % 1024, Nat.mod_lt _ (by decide)⟩

theorem in_tile (x : S2048x2048.Idx) : (tR (chunkOf x) (flowOf x)).emb (inTile x) = x := by
  have h0 : (x 0).val < 2048 := (x 0).isLt
  have h1 : (x 1).val < 2048 := (x 1).isLt
  refine Shape.idx_ext₂ ?_ ?_
  · rw [t_val0]
    show 256 * ((x 0).val / 256) + 64 * ((2 * ((x 0).val % 256 / 64) + (x 1).val / 1024) / 2) + (x 0).val % 64 = (x 0).val
    omega
  · rw [t_val1]
    show 1024 * ((2 * ((x 0).val % 256 / 64) + (x 1).val / 1024) % 2) + (x 1).val % 1024 = (x 1).val
    omega

/-- The result: each tile as the device that completes it leaves it. -/
def resV (V : Args F) : Vec F S2048x2048 .bf16 := fun x => sent V (own (flowOf x) (chunkOf x)) (flowOf x) 7 (inTile x)

theorem known_res (V : Args F) (c : Dev nD) {o : Vec F S2048x2048 .bf16} (h : ∀ f h, 7 ≤ h → h ≤ 14 → rd (ch c f h) f o = sent V c f h) : o = resV V := by
  funext x
  obtain ⟨n, hn⟩ := every_chunk (flowOf x) (chunkOf x) c
  have e := h (flowOf x) (7 + n.val) (by omega) (by omega)
  rw [sent_own V _ n.val c n.isLt, hn] at e
  have := congrFun e (inTile x)
  unfold rd at this
  rw [in_tile] at this
  exact this

end Cert.Proof.Ring
-- ==== Proof.Steps.lean ====
/- What each stretch of the body does to one flow. -/
module

public import proofs.«01_k».proof.Proof.Out

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (V : Args F) (κ : Dev nD × CK → ℕ) (ι : Key → ℕ)

/-! ## Stretches -/

/-- From `S` the program ends in `S'`. -/
def Tr (c : Dev nD) (S : sProp 𝕄) (p : PR F) (S' : sProp 𝕄) : Prop := iprop(Rec V κ ι ∗ S) ⊢ Wp c p S'

variable {V κ ι}

theorem Tr.use {c : Dev nD} {A B : sProp 𝕄} {p : PR F} (h : Tr V κ ι c A p B) : iprop(Rec V κ ι ∗ A) ⊢ wp frame (wpE (defs₀ (F := F)) 𝒱₀ (c : Thread nD τ) none) Set.univ p (fun _ => B) := h

theorem Tr.seq {c : Dev nD} {A B C : sProp 𝕄} {p : PR F} {q : PUnit → PR F} (h : Tr V κ ι c A p B) (h' : Tr V κ ι c B (q ⟨⟩) C) :
    Tr V κ ι c A (p >>= q) C := by
  unfold Tr Wp
  rw [wp_bind]
  iintro ⟨#HR, HA⟩
  iapply (wp_wand_r frame (wpE (defs₀ (F := F)) 𝒱₀ (c : Thread nD τ) none) Set.univ)
  isplitl [HA]
  · iapply h.use
    isplitr; · iexact HR
    iexact HA
  iintro %_ HB
  iapply h'.use
  isplitr; · iexact HR
  iexact HB

theorem Tr.skip {c : Dev nD} {A : sProp 𝕄} : Tr V κ ι c A (pure ⟨⟩) A := by
  unfold Tr Wp
  simp only [Prog.pure_eq_ret]
  rw [wp_ret]
  iintro ⟨-, HA⟩
  imodintro
  iexact HA

theorem Tr.opt {c : Dev nD} {b : Prop} [Decidable b] {p : PR F} {A B : sProp 𝕄} (ht : b → Tr V κ ι c A p B) (hf : ¬b → A = B) :
    Tr V κ ι c A (optP b p) B := by
  unfold optP
  by_cases hb : b
  · rw [if_pos hb]; exact ht hb
  · rw [if_neg hb, hf hb]; exact Tr.skip

theorem Tr.frame {c : Dev nD} {A B R : sProp 𝕄} {p : PR F} (h : Tr V κ ι c A p B) : Tr V κ ι c iprop(A ∗ R) p iprop(B ∗ R) := by
  unfold Tr
  iintro ⟨#HR, HA, HX⟩
  iapply (wp_then c (Q := B))
  isplitl [HA]
  · iapply h.use
    isplitr; · iexact HR
    iexact HA
  iintro HB
  isplitl [HB] <;> iassumption

theorem Tr.pre {c : Dev nD} {A A' B : sProp 𝕄} {p : PR F} (hA : iprop(Rec V κ ι ∗ A') ⊢ |={Set.univ}=> A) (h : Tr V κ ι c A p B) :
    Tr V κ ι c A' p B := by
  unfold Tr Wp
  iintro ⟨#HR, HA⟩
  imod hA $$ [HA] with HA
  · isplitr; · iexact HR
    iexact HA
  iapply h.use
  isplitr; · iexact HR
  iexact HA

theorem Tr.post {c : Dev nD} {A B B' : sProp 𝕄} {p : PR F} (hB : B ⊢ B') (h : Tr V κ ι c A p B) : Tr V κ ι c A p B' := by
  unfold Tr
  iintro H
  iapply (wp_then c (Q := B))
  isplitl
  · iapply h.use $$ H
  iintro HB
  iapply hB $$ HB

/-! ## One flow -/

variable (V) in
/-- A flow, what the device owes, for it and for others, and the arguments and the result. -/
def Fl (c : Dev nD) (f : Fin 8) (x : X) (O : CellTallies nD τ sig ℕ) (ys : Fin 8 → Y) : sProp 𝕄 :=
  iprop((Flow V c f x ∗ Ow c (owed c f x + O)) ∗ (Ins V c ∗ Out V c ys))

/-- What is owed for the flow lies above a level. -/
abbrev lvOK (n : ℕ) (x : X) : Prop := n ≤ 2 * x.i + 2 ∧ n ≤ 2 * hg x.g + 3

theorem above_all {c : Dev nD} {f : Fin 8} {x : X} {n : ℕ} {O : CellTallies nD τ sig ℕ} (hx : lvOK n x) (hO : Above n O) :
    Above n (owed c f x + O) := (owed_above c f hx.1 hx.2).add hO

section
variable {c : Dev nD} {f : Fin 8} {x : X} {O : CellTallies nD τ sig ℕ} {ys : Fin 8 → Y}

theorem t_recv {h : ℕ} (hh : h < 14) (h0 : x.r = h) (hc : x.cm (sl h) = .gone) (hx : lvOK (2 * h + 3) x) (hO : Above (2 * h + 3) O) :
    Tr V κ ι c (Fl V c f x O ys) (recvP f h) (Fl V c f (recvX h x) O ys) :=
  Tr.frame (op_recv V κ ι c f h0 hh hc (above_all hx hO))

theorem t_sent {h : ℕ} (hh : h < 14) (ho : x.out (sl h) = true) (hs : x.sp (sl h) = h / 4) (hx : srcAway h x) (hO : Above 1 O) :
    Tr V κ ι c (Fl V c f x O ys) (sentP f h) (Fl V c f (sentX h x) O ys) :=
  Tr.frame (op_sent V κ ι c f hh ho hs hx (above_all ⟨by omega, by omega⟩ hO))

theorem t_start {h : ℕ} (hh : h < 14) (h0 : x.i = h) (hq : h < x.q + 4) (ho : x.out (sl h) = false) (hs : x.sp (sl h) = h / 4)
    (hx : srcReady h x) : Tr V κ ι c (Fl V c f x O ys) (startP c f h) (Fl V c f (startX h x) O ys) :=
  Tr.frame (op_start V κ ι c f h0 hh hq ho hs hx O)

theorem t_put {h : ℕ} {v : FVec F S64x1024 .bf16} (hv : v = sent V c f h) (hx : x.st (sl h) ≠ .gone) :
    Tr V κ ι c (Fl V c f x O ys) (putP f h v) (Fl V c f (putX h x) O ys) := by
  subst hv
  refine Tr.frame (Tr.frame ?_)
  unfold Tr
  iintro ⟨-, H⟩
  iapply (op_put V c f hx) $$ H

theorem t_cred {q n : ℕ} (h0 : x.q = q) (hq : q < 10) (hn : 2 * hg q + 4 ≤ n) (hx : lvOK n x) (hO : Above n O) :
    Tr V κ ι c (Fl V c f x O ys) (semWaitWord (cS f) 1#32) (Fl V c f (credX x) O ys) :=
  Tr.frame (op_cred V κ ι c f h0 hq ((above_all hx hO).mono hn))

theorem t_grant {j : ℕ} (h0 : x.g = j) (hj : j < 14) (hd : x.d = items (j + 1)) :
    Tr V κ ι c (Fl V c f x O ys) (semSignalWord (frD f c) (cS f) 1#32) (Fl V c f (grantX x) O ys) :=
  Tr.frame (op_grant V κ ι c f h0 hj hd O)

theorem t_grant_two (h0 : x.g = 12) (hd : x.d = 10) :
    Tr V κ ι c (Fl V c f x O ys) (semSignalWord (frD f c) (cS f) 2#32) (Fl V c f (grantX (grantX x)) O ys) :=
  Tr.frame (op_grant_two V κ ι c f h0 hd O)

theorem t_rel {j : ℕ} {p : PR F} {B : sProp 𝕄} (h0 : x.d = j) (hx : x.cm (sl j) = .full j) (ha : x.ra (sl j) = j / 4 + 1)
    (hr : rp x.r (sl j) = j / 4 + 1) (h : Tr V κ ι c (Fl V c f (relX j x) O ys) p B) : Tr V κ ι c (Fl V c f x O ys) p B := by
  refine Tr.pre ?_ h
  unfold Fl
  iintro ⟨HR, ⟨HF, HO⟩, HI⟩
  imod (op_rel V κ ι c f h0 hx ha hr) $$ [HR HF] with HF
  · isplitl [HR] <;> iassumption
  imodintro
  isplitr [HI]
  · isplitl [HF]; · iexact HF
    iexact HO
  iexact HI

theorem t_tile {h : ℕ} (hy : (ys f).pr = some h) {o : Fin 2 → ℕ} {ho : ∀ a, o a + S64x1024.size a ≤ S2048x2048.size a}
    (e : o = tOff (ch c f h) f) {hl : oM.view.LoadsAt (tileR o ho)} {k : Vec F S64x1024 .bf16 → PR F} {B : sProp 𝕄}
    (hk : Tr V κ ι c (Fl V c f x O ys) (k (tile V c (ch c f h) f)) B) :
    Tr V κ ι c (Fl V c f x O ys) (Prog.lift (.load oM (tileR o ho).toLoadRect hl) >>= k) B := by
  unfold Tr Wp at *
  simp only [Prog.lift, Prog.bind_op, Prog.bind_ret]
  unfold Fl at *
  iintro ⟨HR, HF, HI, HO⟩
  iapply (wp_tile V c ys f hy e) $$ HO
  iintro HO
  iapply hk
  isplitl [HR]; · iexact HR
  isplitl [HF]; · iexact HF
  isplitl [HI] <;> iassumption

theorem t_slot {h : ℕ} (hx : arrived h x) {hl : (cM f).view.LoadsAt (slotR h)} {k : Vec F S1x64x1024 .bf16 → PR F} {B : sProp 𝕄}
    (hk : Tr V κ ι c (Fl V c f x O ys) (k (up (land V c f h))) B) :
    Tr V κ ι c (Fl V c f x O ys) (Prog.lift (.load (cM f) (slotR h).toLoadRect hl) >>= k) B := by
  obtain ⟨q, hq⟩ := com_read V c f hx
  unfold Tr Wp at *
  simp only [Prog.lift, Prog.bind_op, Prog.bind_ret]
  unfold Fl at *
  iintro ⟨HR, ⟨HF, HO⟩, HI⟩
  ihave HF := hq $$ HF
  icases HF with ⟨HF, Hk⟩
  iapply (wp_slot c (cM f) h q (land V c f h)) $$ HF
  iintro HF
  iapply hk
  isplitl [HR]; · iexact HR
  isplitr [HI]
  · isplitr [HO]
    · iapply Hk $$ HF
    iexact HO
  iexact HI

theorem t_out {h : ℕ} (h7 : 7 ≤ h) (hh : h ≤ 14) (hy : h = 7 ∨ (ys f).ag + 1 = h)
    {o : Fin 2 → ℕ} {ho : ∀ a, o a + S64x1024.size a ≤ S2048x2048.size a} (e : o = tOff (ch c f h) f)
    {hp : (tileR o ho).PackedRows (EltTy.packing .bf16)} {v : FVec F S64x1024 .bf16} (hv : v = sent V c f h) :
    Tr V κ ι c (Fl V c f x O ys) (outP o ho hp v) (Fl V c f x O (Function.update ys f (wroteY h (ys f)))) := by
  have h := wp_out V c ys f h7 hh hy e (hp := hp) hv
  unfold Tr Fl
  iintro ⟨-, HF, HI, HO⟩
  iapply (wp_then c)
  isplitl [HO]
  · iapply h $$ HO
  iintro HO
  isplitl [HF]; · iexact HF
  isplitl [HI] <;> iassumption

/-! ## The hops -/

/-- A flow starts. -/
def initX (x : X) : X := startX 0 (putX 0 x)

abbrev initOK (x : X) : Prop :=
  x.st (sl 0) ≠ .gone ∧ (putX 0 x).i = 0 ∧ 0 < (putX 0 x).q + 4 ∧ (putX 0 x).out (sl 0) = false ∧ (putX 0 x).sp (sl 0) = 0
    ∧ srcReady 0 (putX 0 x)

theorem t_init (ok : initOK x) (hy : (ys f).pr = some 0) :
    Tr V κ ι c (Fl V c f x O ys) (initP c f) (Fl V c f (initX x) O ys) := by
  obtain ⟨h1, h2, h3, h4, h5, h6⟩ := ok
  unfold initP
  refine t_tile hy (off0_eq c f) ?_
  exact (t_put (by rw [sent]) h1).seq (t_start (by omega) h2 h3 h4 h5 h6)

def optX (b : Prop) [Decidable b] (g : X → X) (x : X) : X := if b then g x else x

/-- A hop of the reduction: the tile sent four hops before has left, the sum takes its place, a credit is taken, the sum
    is sent, the landing slot is handed back. -/
def red1 (k : ℕ) (x : X) : X := optX (3 ≤ k) (sentX (k - 3)) x
def red2 (k : ℕ) (x : X) : X := putX (k + 1) (red1 k x)
def red3 (k : ℕ) (x : X) : X := optX (3 ≤ k) credX (red2 k x)
def red4 (k : ℕ) (x : X) : X := startX (k + 1) (red3 k x)
def redX (k : ℕ) (x : X) : X := grantX (relX k (red4 k x))

abbrev sentOK (h : ℕ) (x : X) : Prop := h < 14 ∧ x.out (sl h) = true ∧ x.sp (sl h) = h / 4 ∧ srcAway h x
abbrev startOK (h : ℕ) (x : X) : Prop :=
  h < 14 ∧ x.i = h ∧ h < x.q + 4 ∧ x.out (sl h) = false ∧ x.sp (sl h) = h / 4 ∧ srcReady h x
abbrev relOK (j : ℕ) (x : X) : Prop := x.d = j ∧ x.cm (sl j) = .full j ∧ x.ra (sl j) = j / 4 + 1 ∧ rp x.r (sl j) = j / 4 + 1
abbrev credOK (q n : ℕ) (x : X) : Prop := x.q = q ∧ q < 10 ∧ 2 * hg q + 4 ≤ n ∧ lvOK n x
abbrev grantOK (j : ℕ) (x : X) : Prop := x.g = j ∧ j < 14 ∧ x.d = items (j + 1)

abbrev redOK (k : ℕ) (x : X) : Prop :=
  (3 ≤ k → sentOK (k - 3) x) ∧ arrived k (red1 k x) ∧ (red1 k x).st (sl (k + 1)) ≠ .gone
    ∧ (3 ≤ k → credOK (k - 3) (2 * k + 3) (red2 k x)) ∧ startOK (k + 1) (red3 k x) ∧ relOK k (red4 k x)
    ∧ grantOK k (relX k (red4 k x))

def redY (k : ℕ) (f : Fin 8) (ys : Fin 8 → Y) : Fin 8 → Y := if k = 6 then Function.update ys f (wroteY 7 (ys f)) else ys

theorem t_red {k : Fin 7} (ok : redOK k.val x) (hO : Above (2 * k.val + 3) O) (hy : (ys f).pr = some (k.val + 1)) :
    Tr V κ ι c (Fl V c f x O ys) (redP c k f) (Fl V c f (redX k.val x) O (redY k.val f ys)) := by
  obtain ⟨h1, h2, h3, h4, h5, h6, h7⟩ := ok
  unfold redP
  refine Tr.seq (B := Fl V c f (red1 k.val x) O ys) (Tr.opt (fun hk => ?_) fun hk => ?_) ?_
  · obtain ⟨a, b, d, e⟩ := h1 hk
    unfold red1 optX; rw [if_pos hk]
    exact t_sent a b d e (hO.mono (by omega))
  · unfold red1 optX; rw [if_neg hk]
  refine t_tile hy (offR_eq c k f) (t_slot h2 ?_)
  have hv : redV k.val (tile V c (ch c f (k.val + 1)) f) (up (land V c f k.val)) = sent V c f (k.val + 1) := (sent_red V c f k.isLt).symm
  refine Tr.seq (B := Fl V c f (red1 k.val x) O (redY k.val f ys)) (Tr.opt (fun hk => ?_) fun hk => ?_) ?_
  · unfold redY; rw [if_pos hk]
    exact t_out (le_refl 7) (by omega) (.inl rfl) ((offR_eq c k f).trans (by rw [hk])) (hv.trans (by rw [hk]))
  · unfold redY; rw [if_neg hk]
  refine Tr.seq (t_put hv h3) ?_
  refine Tr.seq (B := Fl V c f (red3 k.val x) O (redY k.val f ys)) (Tr.opt (fun hk => ?_) fun hk => ?_) ?_
  · obtain ⟨a, b, d, e⟩ := h4 hk
    unfold red3 optX; rw [if_pos hk]
    exact t_cred a b d e hO
  · unfold red3 optX; rw [if_neg hk]; rfl
  obtain ⟨a, b, d, e, g, i⟩ := h5
  refine Tr.seq (t_start a b d e g i) ?_
  obtain ⟨a, b, d, e⟩ := h6
  refine t_rel a b d e ?_
  obtain ⟨a, b, d⟩ := h7
  exact t_grant a b d

/-- A hop of the spreading: a hop before has left, a credit is taken, what arrived is sent on and copied, and the slot of
    a hop that was sent on before is handed back. -/
def spr1 (s : ℕ) (x : X) : X := optX (s ≤ 3) (sentX (4 + s)) x
def spr2 (s : ℕ) (x : X) : X := optX (s ≤ 5) (fun x => startX (8 + s) (credX x)) (spr1 s x)
def spr3 (s : ℕ) (x : X) : X := sentX (6 + s) (spr2 s x)
def spr4 (s : ℕ) (x : X) : X := optX (s ≤ 4) (relX (5 + s)) (spr3 s x)
def sprX (s : ℕ) (x : X) : X := if 2 ≤ s then grantX (spr4 s x) else spr2 s x

abbrev sprOK (s : ℕ) (x : X) : Prop :=
  (s ≤ 3 → sentOK (4 + s) x) ∧ (s ≤ 5 → credOK (4 + s) (2 * (7 + s) + 3) (spr1 s x)) ∧ (s ≤ 5 → startOK (8 + s) (credX (spr1 s x)))
    ∧ arrived (7 + s) (spr2 s x) ∧ (2 ≤ s → sentOK (6 + s) (spr2 s x)) ∧ (2 ≤ s ∧ s ≤ 4 → relOK (5 + s) (spr3 s x))
    ∧ (2 ≤ s → grantOK (5 + s) (spr4 s x))

def sprY (s : ℕ) (f : Fin 8) (ys : Fin 8 → Y) : Fin 8 → Y := Function.update ys f (wroteY (8 + s) (ys f))

theorem t_spr {s : Fin 7} (ok : sprOK s.val x) (hO : Above (2 * (7 + s.val) + 3) O) (hy : (ys f).ag = 7 + s.val) :
    Tr V κ ι c (Fl V c f x O ys) (sprP c s f) (Fl V c f (sprX s.val x) O (sprY s.val f ys)) := by
  obtain ⟨h1, h2, h3, h4, h5, h6, h7⟩ := ok
  unfold sprP
  refine Tr.seq (B := Fl V c f (spr1 s.val x) O ys) (Tr.opt (fun hk => ?_) fun hk => ?_) ?_
  · obtain ⟨a, b, d, e⟩ := h1 hk
    unfold spr1 optX; rw [if_pos hk]
    exact t_sent a b d e (hO.mono (by omega))
  · unfold spr1 optX; rw [if_neg hk]
  refine Tr.seq (B := Fl V c f (spr2 s.val x) O ys) (Tr.opt (fun hk => ?_) fun hk => ?_) ?_
  · obtain ⟨a, b, d, e⟩ := h2 hk
    obtain ⟨a', b', d', e', g', i'⟩ := h3 hk
    unfold spr2 optX; rw [if_pos hk]
    exact (t_cred a b d e hO).seq (t_start a' b' d' e' g' i')
  · unfold spr2 optX; rw [if_neg hk]
  refine Tr.seq (B := Fl V c f (spr2 s.val x) O (sprY s.val f ys)) ?_ (Tr.opt (fun hk => ?_) fun hk => ?_)
  · unfold copyP
    refine t_slot h4 (t_out (by omega) (by omega) (.inr (by omega)) (offG_eq c s f) ?_)
    rw [down_up, show 8 + s.val = 7 + s.val + 1 by omega, sent_spr V c f (by omega)]
  · obtain ⟨a, b, d, e⟩ := h5 hk
    obtain ⟨a', b', d'⟩ := h7 hk
    unfold backP sprX; rw [if_pos hk]
    refine Tr.seq (t_sent a b d e (hO.mono (by omega))) ?_
    have hg : Tr V κ ι c (Fl V c f (spr4 s.val x) O (sprY s.val f ys)) (semSignalWord (frD f c) (cS f) 1#32)
        (Fl V c f (grantX (spr4 s.val x)) O (sprY s.val f ys)) := t_grant a' b' d'
    by_cases h4s : s.val ≤ 4
    · obtain ⟨a, b, d, e⟩ := h6 ⟨hk, h4s⟩
      refine t_rel a b d e ?_
      unfold spr4 optX at hg ⊢
      rw [if_pos h4s] at hg ⊢
      exact hg
    · unfold spr4 optX at hg ⊢
      rw [if_neg h4s] at hg ⊢
      exact hg
  · unfold sprX; rw [if_neg hk]

/-- A flow ends. -/
def endX (x : X) : X := grantX (grantX (sentX 13 x))
abbrev endOK (x : X) : Prop := sentOK 13 x ∧ (sentX 13 x).g = 12 ∧ (sentX 13 x).d = 10

theorem t_end (ok : endOK x) (hO : Above 1 O) : Tr V κ ι c (Fl V c f x O ys) (endP c f) (Fl V c f (endX x) O ys) := by
  obtain ⟨⟨a, b, d, e⟩, h, i⟩ := ok
  exact (t_sent a b d e hO).seq (t_grant_two h i)

end

/-! ## The states of a flow -/

/-- A flow once the neighbours are there, -/
def x0 : X := ⟨0, 0, 0, 0, 0, fun _ => 0, fun _ => false, fun _ => .junk, fun _ => .gone, fun _ => 1⟩
/-- before each hop, -/
def xs : ℕ → X
  | 0 => initX x0
  | h + 1 => if h < 7 then redX h (recvX h (xs h)) else sprX (h - 7) (recvX h (xs h))
/-- and at the end. -/
def xe : X := endX (xs 14)

theorem init_ok : initOK x0 := by decide
abbrev recvOK (h : ℕ) (x : X) : Prop := h < 14 ∧ x.r = h ∧ x.cm (sl h) = .gone ∧ lvOK (2 * h + 3) x
theorem recv_ok : ∀ h : Fin 14, recvOK h.val (xs h.val) := by decide
theorem red_ok : ∀ k : Fin 7, redOK k.val (recvX k.val (xs k.val)) := by decide
theorem spr_ok : ∀ s : Fin 7, sprOK s.val (recvX (7 + s.val) (xs (7 + s.val))) := by decide
theorem lv_ok : ∀ h : Fin 14, lvOK (2 * h.val + 3) (xs (h.val + 1)) := by decide
theorem end_ok : endOK (xs 14) := by decide

end Cert.Proof.Ring

end
-- ==== Proof.Body.lean ====
/- The body over all the flows, between the barrier and the last waits. -/
module

public import proofs.«01_k».proof.Proof.Steps

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (V : Args F) {κ : Dev nD × CK → ℕ} {ι : Key → ℕ}

/-- Every flow, what the device owes, the arguments and the result. -/
def All (c : Dev nD) (xs : Fin 8 → X) (ys : Fin 8 → Y) : sProp 𝕄 :=
  iprop((bigSep Finset.univ (fun f => Flow V c f (xs f)) ∗ Ow c (∑ f, owed c f (xs f))) ∗ (Ins V c ∗ Out V c ys))

variable {V}

theorem lift {c : Dev nD} (f : Fin 8) {xs : Fin 8 → X} {x' : X} {ys ys' : Fin 8 → Y} {p : PR F} {n : ℕ} (hn : ∀ g, g ≠ f → lvOK n (xs g))
    (h : ∀ O, Above n O → Tr V κ ι c (Fl V c f (xs f) O ys) p (Fl V c f x' O ys')) :
    Tr V κ ι c (All V c xs ys) p (All V c (Function.update xs f x') ys') := by
  have hO : Above n (∑ g ∈ Finset.univ.erase f, owed c g (xs g)) :=
    Above.sum _ fun g hg => owed_above c g (hn g (Finset.ne_of_mem_erase hg)).1 (hn g (Finset.ne_of_mem_erase hg)).2
  have h := h _ hO
  have e1 : ∑ g, owed c g (xs g) = owed c f (xs f) + ∑ g ∈ Finset.univ.erase f, owed c g (xs g) :=
    (Finset.add_sum_erase _ _ (Finset.mem_univ f)).symm
  have e2 : owed c f x' + ∑ g ∈ Finset.univ.erase f, owed c g (xs g) = ∑ g, owed c g (Function.update xs f x' g) := by
    rw [← Finset.add_sum_erase _ _ (Finset.mem_univ f), Function.update_self]
    exact congrArg (owed c f x' + ·) (Finset.sum_congr rfl fun g hg => by rw [Function.update_of_ne (Finset.ne_of_mem_erase hg)])
  unfold Tr All
  rw [e1, ← e2]
  iintro ⟨HR, ⟨HF, HO⟩, HI⟩
  ihave HF := (take_put _ (fun g => Flow V c g (Function.update xs f x' g)) f (fun g hg => by rw [Function.update_of_ne hg])) $$ HF
  icases HF with ⟨HF, Hk⟩
  iapply (wp_then c)
  isplitr [Hk]
  · iapply h.use
    isplitl [HR]; · iexact HR
    unfold Fl
    isplitr [HI]
    · isplitl [HF]; · iexact HF
      iexact HO
    iexact HI
  unfold Fl
  iintro ⟨⟨HF, HO⟩, HI⟩
  isplitr [HI]
  · isplitr [HO]
    · iapply Hk
      rw [Function.update_self]
      iexact HF
    iexact HO
  iexact HI

theorem prod {c : Dev nD} {xs : Fin 8 → X} (ys : Fin 8 → Y) {h : ℕ} {w : Fin 2} {g : Fin 8} (hg : par g = w)
    {oa : Fin 2 → ℕ} {ha : ∀ a, oa a + S256x1024.size a ≤ S2048x1024.size a} (ea : oa = aOff (ch c g h))
    {o : Fin 2 → ℕ} {ho : ∀ a, o a + S256x1024.size a ≤ S2048x2048.size a} (eo : o = bOff (ch c g h) w)
    {hp : (blkR o ho).PackedRows (EltTy.packing .bf16)} :
    Tr V κ ι c (All V c xs ys) (mmP oa ha w o ho hp) (All V c xs (prodY w h ys)) := by
  have h := wp_prod V c ys hg (ha := ha) ea (ho := ho) eo (hp := hp)
  unfold Tr All
  iintro ⟨-, HF, HI⟩
  iapply (wp_then c)
  isplitl [HI]
  · iapply h $$ HI
  iintro HI
  isplitl [HF] <;> iassumption

/-! ## Two flows at a time -/

/-- The flows below `m` are past a hop. -/
def upto {A : Type} (m : ℕ) (a b : Fin 8 → A) : Fin 8 → A := fun j => if j.val < m then b j else a j

theorem upto_zero {A : Type} (a b : Fin 8 → A) : upto 0 a b = a := funext fun j => if_neg (Nat.not_lt_zero _)
theorem upto_all {A : Type} (a b : Fin 8 → A) : upto 8 a b = b := funext fun j => if_pos j.isLt
theorem upto_at {A : Type} {m : ℕ} (a b : Fin 8 → A) {f : Fin 8} (hf : m ≤ f.val) : upto m a b f = a f := if_neg (Nat.not_lt.mpr hf)

theorem upto_two {A : Type} {m : ℕ} {f g : Fin 8} (hf : f.val = m) (hg : g.val = m + 1) (a b : Fin 8 → A) (u v : A) :
    Function.update (Function.update (Function.update (Function.update (upto m a b) f u) g v) f (b f)) g (b g) = upto (m + 2) a b := by
  have hfg : f ≠ g := fun e => by rw [e] at hf; omega
  funext j
  by_cases hjg : j = g
  · subst hjg; rw [Function.update_self]; unfold upto; rw [if_pos (by omega)]
  rw [Function.update_of_ne hjg]
  by_cases hjf : j = f
  · subst hjf; rw [Function.update_self]; unfold upto; rw [if_pos (by omega)]
  rw [Function.update_of_ne hjf, Function.update_of_ne hjg, Function.update_of_ne hjf]
  unfold upto
  have : j.val ≠ m := fun e => hjf (Fin.ext (by omega))
  have : j.val ≠ m + 1 := fun e => hjg (Fin.ext (by omega))
  by_cases hj : j.val < m
  · rw [if_pos hj, if_pos (by omega)]
  · rw [if_neg hj, if_neg (by omega)]

theorem upto_one {A : Type} {m : ℕ} {f : Fin 8} (hf : f.val = m) (a b : Fin 8 → A) :
    Function.update (upto m a b) f (b f) = upto (m + 1) a b := by
  funext j
  by_cases hjf : j = f
  · subst hjf; rw [Function.update_self]; unfold upto; rw [if_pos (by omega)]
  rw [Function.update_of_ne hjf]
  unfold upto
  have : j.val ≠ m := fun e => hjf (Fin.ext (by omega))
  by_cases hj : j.val < m
  · rw [if_pos hj, if_pos (by omega)]
  · rw [if_neg hj, if_neg (by omega)]

section
variable {c : Dev nD} {h : ℕ} {a b : X} {y y' : Y} {p : Fin 8 → PR F}

/-- What a hop does to one flow, whatever the others' states. -/
def HopOK (V : Args F) (κ : Dev nD × CK → ℕ) (ι : Key → ℕ) (c : Dev nD) (h : ℕ) (a b : X) (y y' : Y) (p : Fin 8 → PR F) : Prop :=
  ∀ (f : Fin 8) (O : CellTallies nD τ sig ℕ) (ys : Fin 8 → Y), Above (2 * h + 3) O → ys f = y →
    Tr V κ ι c (Fl V c f (recvX h a) O ys) (p f) (Fl V c f b O (Function.update ys f y'))

theorem t_pair (ha : recvOK h a) (hb : lvOK (2 * h + 3) b) (hp : HopOK V κ ι c h a b y y' p) {m : ℕ} {f g : Fin 8} (hf : f.val = m) (hg : g.val = m + 1) :
    Tr V κ ι c (All V c (upto m (fun _ => a) fun _ => b) (upto m (fun _ => y) fun _ => y')) (pairP h p f g)
      (All V c (upto (m + 2) (fun _ => a) fun _ => b) (upto (m + 2) (fun _ => y) fun _ => y')) := by
  obtain ⟨h14, hr, hc, hl⟩ := ha
  have hfg : f ≠ g := fun e => by rw [e] at hf; omega
  have hl0 : ∀ j, lvOK (2 * h + 3) (upto m (fun _ => a) (fun _ => b) j) := fun j => by
    unfold upto; split
    · exact hb
    · exact hl
  have hu : ∀ {xs : Fin 8 → X} {x : X} (j : Fin 8), (∀ i, lvOK (2 * h + 3) (xs i)) → lvOK (2 * h + 3) x → ∀ i, lvOK (2 * h + 3) (Function.update xs j x i) := by
    intro xs x j hx hx' i
    by_cases e : i = j
    · subst e; rw [Function.update_self]; exact hx'
    · rw [Function.update_of_ne e]; exact hx i
  have hra : lvOK (2 * h + 3) (recvX h a) := hl
  rw [← upto_two hf hg (fun _ => a) (fun _ => b) (recvX h a) (recvX h a), show upto (m + 2) (fun _ => y) (fun _ => y') =
    Function.update (Function.update (upto m (fun _ => y) fun _ => y') f y') g y' from
      ((congrArg (fun z => Function.update z g y') (upto_one hf (fun _ => y) (fun _ => y'))).trans (upto_one hg (fun _ => y) fun _ => y')).symm]
  unfold pairP
  refine Tr.seq (lift f (x' := recvX h a) (ys' := upto m (fun _ => y) fun _ => y') (n := 2 * h + 3) (fun j _ => hl0 j) fun O hO => ?_) ?_
  · rw [upto_at _ _ (le_of_eq hf.symm)]
    exact t_recv h14 hr hc hl hO
  refine Tr.seq (lift g (x' := recvX h a) (ys' := upto m (fun _ => y) fun _ => y') (n := 2 * h + 3) (fun j _ => hu f hl0 hra j) fun O hO => ?_) ?_
  · rw [Function.update_of_ne hfg.symm, upto_at _ _ (by omega)]
    exact t_recv h14 hr hc hl hO
  refine Tr.seq (lift f (x' := b) (ys' := Function.update (upto m (fun _ => y) fun _ => y') f y') (n := 2 * h + 3) (fun j _ => hu g (hu f hl0 hra) hra j) fun O hO => ?_) ?_
  · rw [Function.update_of_ne hfg, Function.update_self]
    exact hp f O _ hO (upto_at _ _ (le_of_eq hf.symm))
  refine lift g (n := 2 * h + 3) (fun j _ => hu f (hu g (hu f hl0 hra) hra) hb j) fun O hO => ?_
  rw [Function.update_of_ne hfg.symm, Function.update_self]
  exact hp g O _ hO (by rw [Function.update_of_ne hfg.symm, upto_at _ _ (by omega)])

theorem t_pairs (ha : recvOK h a) (hb : lvOK (2 * h + 3) b) (hp : HopOK V κ ι c h a b y y' p) :
    Tr V κ ι c (All V c (fun _ => a) fun _ => y) (pairsP h p) (All V c (fun _ => b) fun _ => y') := by
  unfold pairsP
  have t0 := t_pair ha hb hp (m := 0) (f := 0) (g := 1) rfl rfl
  have t2 := t_pair ha hb hp (m := 2) (f := 2) (g := 3) rfl rfl
  have t4 := t_pair ha hb hp (m := 4) (f := 4) (g := 5) rfl rfl
  have t6 := t_pair ha hb hp (m := 6) (f := 6) (g := 7) rfl rfl
  rw [upto_zero, upto_zero] at t0
  rw [upto_all, upto_all] at t6
  exact t0.seq (t2.seq (t4.seq t6))

end

/-! ## The hops -/

/-- What is known of a flow's tiles before hop `h`. -/
def yAt (h : ℕ) : Y := if h < 7 then ⟨some h, 0⟩ else ⟨none, h⟩

theorem prod_two (h : ℕ) (ys : Fin 8 → Y) : prodY 1 h (prodY 0 h ys) = fun _ => ⟨some h, 0⟩ := by
  funext f
  unfold prodY
  by_cases h1 : par f = 1
  · rw [if_pos h1]
  · rw [if_neg h1, if_pos]
    have : ∀ w : Fin 2, w ≠ 1 → w = 0 := by decide
    exact this _ h1

theorem xs_red {k : ℕ} (h : k < 7) : xs (k + 1) = redX k (recvX k (xs k)) := by rw [xs, if_pos h]
theorem xs_spr (s : ℕ) : xs (7 + s + 1) = sprX s (recvX (7 + s) (xs (7 + s))) := by
  rw [xs, if_neg (by omega), Nat.add_sub_cancel_left]

theorem t_redHop {c : Dev nD} (k : Fin 7) :
    Tr V κ ι c (All V c (fun _ => xs k.val) fun _ => yAt k.val) (redHop c k) (All V c (fun _ => xs (k.val + 1)) fun _ => yAt (k.val + 1)) := by
  unfold redHop
  refine Tr.seq (prod _ (h := k.val + 1) (w := 0) (g := 0) rfl (off6_eq c k) (off7_eq c k)) ?_
  refine Tr.seq (prod _ (h := k.val + 1) (w := 1) (g := 1) rfl (off8_eq c k) (off9_eq c k)) ?_
  rw [prod_two]
  refine t_pairs (recv_ok ⟨k.val, by omega⟩) (lv_ok ⟨k.val, by omega⟩) fun f O ys hO hy => ?_
  have ht := t_red (V := V) (κ := κ) (ι := ι) (c := c) (f := f) (ys := ys) (red_ok k) hO (by rw [hy])
  rw [xs_red k.isLt]
  convert ht using 2
  unfold redY yAt
  by_cases hk : k.val = 6
  · rw [if_pos hk, if_neg (by omega), hk]; rfl
  · rw [if_neg hk, if_pos (by omega), ← hy, Function.update_eq_self]

theorem t_sprHop {c : Dev nD} (s : Fin 7) :
    Tr V κ ι c (All V c (fun _ => xs (7 + s.val)) fun _ => yAt (7 + s.val)) (sprHop c s)
      (All V c (fun _ => xs (7 + s.val + 1)) fun _ => yAt (7 + s.val + 1)) := by
  unfold sprHop
  refine t_pairs (recv_ok ⟨7 + s.val, by omega⟩) (lv_ok ⟨7 + s.val, by omega⟩) fun f O ys hO hy => ?_
  have ht := t_spr (V := V) (κ := κ) (ι := ι) (c := c) (f := f) (ys := ys) (spr_ok s) hO (by rw [hy]; unfold yAt; rw [if_neg (by omega)])
  rw [xs_spr]
  convert ht using 2
  unfold sprY yAt wroteY
  rw [if_neg (by omega), show 7 + s.val + 1 = 8 + s.val by omega]

theorem t_hops {c : Dev nD} {P : ℕ → sProp 𝕄} {p : Fin 7 → PR F} (h : ∀ k : Fin 7, Tr V κ ι c (P k.val) (p k) (P (k.val + 1))) :
    Tr V κ ι c (P 0) (hopsP p) (P 7) := by
  unfold hopsP
  exact (h 0).seq ((h 1).seq ((h 2).seq ((h 3).seq ((h 4).seq ((h 5).seq (h 6))))))

/-! ## The starts and the ends -/

theorem t_each {c : Dev nD} {p : Fin 8 → PR F} {a b : X} {ys : Fin 8 → Y} {L : List (Fin 8)}
    (h : ∀ f ∈ L, ∀ zs : Fin 8 → X, (∀ j, zs j = a ∨ zs j = b) → zs f = a →
      Tr V κ ι c (All V c zs ys) (p f) (All V c (Function.update zs f b) ys)) :
    ∀ (l : List (Fin 8)) (zs : Fin 8 → X), l ⊆ L → l.Nodup → (∀ j, zs j = a ∨ zs j = b) → (∀ j ∈ l, zs j = a) →
      Tr V κ ι c (All V c zs ys) (eachP p l) (All V c (fun j => if j ∈ l then b else zs j) ys)
  | [], zs, _, _, _, _ => by
    simp only [List.not_mem_nil, if_false]
    exact Tr.skip
  | f :: l, zs, hL, hn, hz, ha => by
    rw [List.nodup_cons] at hn
    have hz' : ∀ j, Function.update zs f b j = a ∨ Function.update zs f b j = b := fun j => by
      by_cases e : j = f
      · subst e; rw [Function.update_self]; exact .inr rfl
      · rw [Function.update_of_ne e]; exact hz j
    have hl := t_each h l (Function.update zs f b) (fun _ hj => hL (List.mem_cons_of_mem _ hj)) hn.2 hz' fun j hj => by
      rw [Function.update_of_ne (by rintro rfl; exact hn.1 hj)]; exact ha j (List.mem_cons_of_mem _ hj)
    have e : (fun j => if j ∈ f :: l then b else zs j) = fun j => if j ∈ l then b else Function.update zs f b j := by
      funext j
      by_cases e : j = f
      · subst e; rw [if_pos List.mem_cons_self, if_neg hn.1, Function.update_self]
      · rw [Function.update_of_ne e]
        by_cases hj : j ∈ l
        · rw [if_pos hj, if_pos (List.mem_cons_of_mem _ hj)]
        · rw [if_neg hj, if_neg (by simp [e, hj])]
    rw [e]
    exact (h f (hL List.mem_cons_self) zs hz (ha f List.mem_cons_self)).seq hl

theorem init_step {c : Dev nD} {ys : Fin 8 → Y} {l : List (Fin 8)} (hl : ∀ f ∈ l, (ys f).pr = some 0) (f : Fin 8) (hf : f ∈ l)
    (zs : Fin 8 → X) (hz : zs f = x0) :
    Tr V κ ι c (All V c zs ys) (initP c f) (All V c (Function.update zs f (xs 0)) ys) := by
  refine lift f (n := 0) (fun _ _ => ⟨Nat.zero_le _, Nat.zero_le _⟩) fun O _ => ?_
  rw [hz]
  exact t_init init_ok (hl f hf)

theorem end_step {c : Dev nD} {ys : Fin 8 → Y} (f : Fin 8) (zs : Fin 8 → X) (hz : ∀ j, zs j = xs 14 ∨ zs j = xe) (hf : zs f = xs 14) :
    Tr V κ ι c (All V c zs ys) (endP c f) (All V c (Function.update zs f xe) ys) := by
  refine lift f (n := 1) (fun _ _ => ⟨by omega, by omega⟩) fun O hO => ?_
  rw [hf]
  exact t_end end_ok hO

end Cert.Proof.Ring

end
-- ==== Proof.Ends.lean ====
/- The barrier at the start, the last waits, and the body from one end to the other. -/
module

public import proofs.«01_k».proof.Proof.Body

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (V : Args F) (κ : Dev nD × CK → ℕ) (ι : Key → ℕ)

/-! ## One step for each of many -/

theorem all_step {I : Type} [DecidableEq I] {P : sProp 𝕄} [BI.Persistent P] {Φ Ψ : I → sProp 𝕄} (s : Finset I)
    (h : ∀ i ∈ s, iprop(P ∗ Φ i) ⊢ Ψ i) : iprop(P ∗ bigSep s Φ) ⊢ bigSep s Ψ := by
  induction s using Finset.induction_on with
  | empty =>
    rw [BI.bigSep_empty, BI.bigSep_empty]
    iintro ⟨-, H⟩
    iexact H
  | insert i s hi ih =>
    rw [BI.bigSep_insert hi, BI.bigSep_insert hi]
    have h1 := h i (Finset.mem_insert_self i s)
    have h2 := ih fun j hj => h j (Finset.mem_insert_of_mem hj)
    show iprop(P ∗ (Φ i ∗ bigSep s Φ)) ⊢ iprop(Ψ i ∗ bigSep s Ψ)
    iintro ⟨#HP, Hi, Hs⟩
    isplitl [Hi]
    · iapply h1
      isplitr; · iexact HP
      iexact Hi
    · iapply h2
      isplitr; · iexact HP
      iexact Hs

theorem all_upd {I : Type} [DecidableEq I] {P : sProp 𝕄} [BI.Persistent P] {Φ Ψ : I → sProp 𝕄} (s : Finset I)
    (h : ∀ i ∈ s, iprop(P ∗ Φ i) ⊢ |={Set.univ}=> Ψ i) : iprop(P ∗ bigSep s Φ) ⊢ |={Set.univ}=> bigSep s Ψ :=
  (all_step s h).trans (bigSep_fupd s Ψ)

theorem all_emp {I : Type} [DecidableEq I] (s : Finset I) : iprop(emp) ⊢ bigSep s (fun _ => (iprop(emp) : sProp 𝕄)) := by
  induction s using Finset.induction_on with
  | empty => rw [BI.bigSep_empty]; exact .rfl
  | insert i s hi ih =>
    rw [BI.bigSep_insert hi]
    show iprop(emp) ⊢ iprop(emp ∗ bigSep s (fun _ => (iprop(emp) : sProp 𝕄)))
    iintro H
    isplitr
    · iempintro
    · iapply ih $$ H

theorem all_of {I : Type} [DecidableEq I] {P : sProp 𝕄} [BI.Persistent P] {Ψ : I → sProp 𝕄} (s : Finset I) (h : ∀ i ∈ s, P ⊢ Ψ i) :
    P ⊢ bigSep s Ψ := by
  have h' := all_step (P := P) (Φ := fun _ => iprop(emp)) (Ψ := Ψ) s (fun i hi => by
    iintro ⟨H, -⟩
    iapply h i hi $$ H)
  iintro H
  iapply h'
  isplitl; · iexact H
  iapply (all_emp s)
  iempintro

/-- A landing slot has been handed out for the first time. -/
abbrev rel1 (k : Key) : sProp 𝕄 := released ES k 1

/-! ## Before the barrier -/

/-- What a device holds of a flow at launch, but for the landing slots. -/
def Core (c : Dev nD) (f : Fin 8) : sProp 𝕄 :=
  iprop(bigSep Finset.univ (fun s => iprop(atPos EB (rCell c f s) 0 ∅ 0 ∗ reached EB (rCell c f s) 0))
    ∗ bigSep Finset.univ (fun s => iprop(atPos EB (sCell c f s) 0 ∅ 0 ∗ reached EB (sCell c f s) 0))
    ∗ atPos EB (cCell c f) 0 ∅ 0
    ∗ bigSep (Finset.range 14) (fun h => (cred (tallyAt (rCell c f (sl h)) h N) : sProp 𝕄))
    ∗ bigSep (Finset.range 14) (fun j => (cred (tallyAt (cCell c f) (cix j) 1) : sProp 𝕄))
    ∗ bigSep (Finset.range 14) (hopTok c f)
    ∗ bigSep (Finset.range 14) (fun j => dutyTok EB (cCell (frD f c) f) 0 j)
    ∗ bigSep Finset.univ (fun s : Fin 4 => anySlot c (gM f) s.val fullShare))

/-- The landing slots, in the device's own hands. -/
def Free (c : Dev nD) (f : Fin 8) : sProp 𝕄 :=
  bigSep Finset.univ (fun s : Fin 4 => iprop(readerAt ES ((c, f, s) : Key) 0 ∗ anySlot c (cM f) s.val fullShare))
/-- The landing slots handed out. -/
def Lent (c : Dev nD) (f : Fin 8) : sProp 𝕄 :=
  iprop(bigSep Finset.univ (fun s : Fin 4 => readerAt ES ((c, f, s) : Key) 1) ∗ bigSep Finset.univ (fun s : Fin 4 => rel1 (F := F) (c, f, s)))

theorem lend (c : Dev nD) (f : Fin 8) : iprop(Rec V κ ι ∗ Free c f) ⊢ |={Set.univ}=> Lent c f := by
  unfold Free Lent
  rw [← bigSep_sep']
  refine all_upd _ fun s _ => ?_
  iintro ⟨#HR, Hr, Hs⟩
  ihave #Hi := (rec_slot V κ ι (c, f, s)) $$ HR
  iapply (slot_release ES (Set.mem_univ (ι (c, f, s))) (slot_slot_false c (cM f) s.val) 0)
  isplitr; · iexact Hi
  isplitl [Hr] <;> iassumption

theorem start_flow (c : Dev nD) (f : Fin 8) :
    iprop((Rec V κ ι ∗ bigSep Finset.univ (fun s : Fin 4 => rel1 (F := F) (toD f c, f, s)))
      ∗ (Core c f ∗ bigSep Finset.univ (fun s : Fin 4 => readerAt ES ((c, f, s) : Key) 1))) ⊢ Flow V c f x0 := by
  unfold Core Flow
  iintro ⟨⟨#HR, #Hl⟩, ⟨HA, HS, HC, Hrc, Hcc, Htk, Hgt, Hst⟩, Hra⟩
  have hrp : (fun s : Fin 4 => (iprop(atPos EB (rCell c f s) (rp x0.r s) ∅ 0 ∗ reached EB (rCell c f s) (rp x0.r s)) : sProp 𝕄)) =
      fun s => iprop(atPos EB (rCell c f s) 0 ∅ 0 ∗ reached EB (rCell c f s) 0) := funext fun s => by
    rw [show rp x0.r s = 0 by revert s; decide]
  rw [hrp, show Finset.Ico x0.r 14 = Finset.range 14 from rfl, show Finset.Ico x0.q 14 = Finset.range 14 from rfl,
    show Finset.Ico x0.i 14 = Finset.range 14 from rfl, show Finset.Ico x0.g 14 = Finset.range 14 from rfl]
  isplitl [HA]; · iexact HA
  isplitl [HS]; · iexact HS
  isplitl [HC]
  · unfold credPos
    iexists (∅ : Finset ℕ)
    isplitr; · ipureintro; exact ⟨Finset.empty_subset _, Nat.le_refl 0⟩
    isplitl [HC]; · iexact HC
    rw [BI.bigSep_empty]
    iapply (show iprop(emp) ⊢ (emp : sProp 𝕄) from .rfl)
    iempintro
  isplitl [Hrc]; · iexact Hrc
  isplitr
  · iapply (show iprop(emp) ⊢ bigSep Finset.univ (fun s => if x0.out s = true then (cred (tallyAt (sCell c f s) 0 N) : sProp 𝕄) else iprop(emp)) from
      all_of _ fun s _ => .rfl)
    iempintro
  isplitl [Hcc]; · iexact Hcc
  isplitl [Htk]; · iexact Htk
  isplitl [Hgt]; · iexact Hgt
  isplitl [Hst]; · iexact Hst
  isplitr
  · iapply (show iprop(emp) ⊢ bigSep Finset.univ (fun s => comSt V c f s (x0.cm s)) from all_of _ fun s _ => .rfl)
    iempintro
  isplitl [Hra]; · iexact Hra
  isplitr
  · iapply (all_of (P := iprop(Rec V κ ι ∗ bigSep Finset.univ (fun s : Fin 4 => rel1 (F := F) (toD f c, f, s)))) (Finset.range (x0.q + 4)) (fun h hh => by
      have h4 : h < 4 := Finset.mem_range.mp hh
      unfold perm
      rw [show h / 4 = 0 by omega]
      iintro ⟨#HR, #Hl⟩
      isplitr
      · iapply (show _ ⊢ _ from BI.bigSep_elim (Φ := fun s : Fin 4 => rel1 (F := F) (toD f c, f, s)) (Finset.mem_univ (sl h))) $$ Hl
      · ihave H := (rec_cell V κ ι (toD f c, .inr (.inl (f, sl h)))) $$ HR
        unfold kcell
        icases H with ⟨-, H⟩
        iexact H))
    isplitr; · iexact HR
    iexact Hl
  · rw [show Finset.range x0.d = ∅ from rfl, BI.bigSep_empty]
    iapply (show iprop(emp) ⊢ (emp : sProp 𝕄) from .rfl)
    iempintro

variable {V κ ι}

theorem Tr.around {c : Dev nD} {A B R S T : sProp 𝕄} {p : PR F} (h : Tr V κ ι c A p B) (hS : S ⊢ iprop(A ∗ R)) (hT : iprop(B ∗ R) ⊢ T) :
    Tr V κ ι c S p T := by
  refine Tr.post hT (Tr.pre ?_ (Tr.frame h))
  iintro ⟨-, H⟩
  imodintro
  iapply hS $$ H

theorem t_bar {c dst : Dev nD} {d : ℕ} (hd : d < 2) (O : CellTallies nD τ sig ℕ) :
    Tr V κ ι c iprop(Ow c (O + tallyAt (bCell dst) 0 1) ∗ dutyTok EB (bCell dst) 0 d ∗ barPay dst d) (semSignalWord dst barS 1#32) (Ow c O) := by
  have hm : d ∈ (Rd V).duties (bCell dst) 0 := by rw [duties_b, if_pos rfl]; exact Finset.mem_range.mpr hd
  unfold Tr Wp Ow
  simp only [semSignalWord]
  iintro ⟨#HR, ⟨%W, HO⟩, Ht, Hp⟩
  ihave #Hi := (rec_cell V κ ι (dst, .inr (.inr (.inr ())))) $$ HR
  unfold kcell
  icases Hi with ⟨Hi, Hre⟩
  iapply (Rounds.wp_signal 𝒱₀ EB (Rd V) (c : Thread nD τ) none (dst := (dst : Thread nD τ)) (κ := κ (dst, .inr (.inr (.inr ()))))
    (d := d) (r := 0) hm ((amount_b V dst 0 d).trans (by decide)) 0 O rfl) $$ [HO Ht Hp]
  · isplitr; · iexact Hi
    isplitl [HO]; · iexact HO
    isplitl [Ht]; · iexact Ht
    isplitl [Hp]
    · iapply (show barPay dst d ⊢ (Rd V).payload ((dst : Thread nD τ), SemLoc.reg barS) 0 d from Entails.of_eq (pay_b V dst 0 d).symm) $$ Hp
    · iexact Hre
  iintro HO
  rw [wp_ret]
  imodintro
  iexists _; iexact HO

theorem t_met {c : Dev nD} {O : CellTallies nD τ sig ℕ} (hO : Above 2 O) :
    Tr V κ ι c iprop(Ow c O ∗ cred (tallyAt (bCell c) 0 2) ∗ atPos EB (bCell c) 0 ∅ 0) (semWaitWord barS 2#32)
      iprop(Ow c O ∗ atPos EB (bCell c) 1 ∅ 0 ∗ barPay c 0 ∗ barPay c 1) := by
  unfold Tr Wp Ow
  simp only [semWaitWord]
  iintro ⟨#HR, ⟨%W, HO⟩, Hc, Hat⟩
  ihave #Hi := (rec_cell V κ ι (c, .inr (.inr (.inr ())))) $$ HR
  unfold kcell
  icases Hi with ⟨Hi, -⟩
  iapply (Rounds.wp_wait_rest_token 𝒱₀ EB (Rd V) (c : Thread nD τ) none (κ := κ (c, .inr (.inr (.inr ()))))
    (wpE_semWait_eq 𝒱₀ (c : Thread nD τ) none Set.univ) (Set.mem_univ _) 0 (O := O) (W := W) (R := 0) (m := 0) (T := ∅)
    (by rw [show ((c : Thread nD τ), SemLoc.reg barS) = bCell c from rfl, expect_b]; decide)) $$ [Hc HO Hat]
  · isplitr; · iexact Hi
    isplitl [Hc]; · iexact Hc
    isplitl [HO]; · iexact HO
    isplitr
    · iapply (mayOwe c (W := {(SemLoc.reg barS, 0)}) hO (fun p hp => by
        rw [Finset.mem_singleton.mp hp]; exact ⟨by show 0 < 14; omega, le_of_eq (lv_b c 0)⟩))
      iapply (rec_levs V κ ι) $$ HR
    iexact Hat
  iintro ⟨HO, Hat, -, Hpay⟩
  rw [wp_ret]
  imodintro
  isplitl [HO]; · iexists _; iexact HO
  isplitl [Hat]; · iexact Hat
  ihave Hpay := (show bigSep ((Rd V).duties ((c : Thread nD τ), SemLoc.reg barS) 0 \ ∅) (fun d => (Rd V).payload ((c : Thread nD τ), SemLoc.reg barS) 0 d)
      ⊢ iprop(barPay c 0 ∗ barPay c 1) by
    rw [show ((c : Thread nD τ), SemLoc.reg barS) = bCell c from rfl, duties_b, if_pos rfl, Finset.sdiff_empty,
      show Finset.range 2 = insert 0 {1} from rfl, BI.bigSep_insert (by decide), BI.bigSep_singleton, pay_b, pay_b]
    exact .rfl) $$ Hpay
  iexact Hpay

/-- What the device owes at launch. -/
def owed0 (c : Dev nD) : CellTallies nD τ sig ℕ :=
  (∑ f, owed c f x0 + tallyAt (bCell (rgtD c)) 0 1) + tallyAt (bCell (lftD c)) 0 1

/-- What a device holds of the barrier. -/
def Bar (c : Dev nD) : sProp 𝕄 :=
  iprop(dutyTok EB (bCell (lftD c)) 0 0 ∗ dutyTok EB (bCell (rgtD c)) 0 1 ∗ cred (tallyAt (bCell c) 0 2) ∗ atPos EB (bCell c) 0 ∅ 0)

variable (V κ ι) in
theorem handed (c d : Dev nD) (w : Fin 2) (h : ∀ f : Fin 8, f.val % 2 = w.val → toD f d = c) :
    bigSep Finset.univ (fun f : Fin 8 => bigSep Finset.univ (fun s : Fin 4 => rel1 (F := F) (c, f, s))) ⊢ barPay d w.val := by
  unfold barPay
  refine (BI.bigSep_subset (Finset.filter_subset (fun f : Fin 8 => f.val % 2 = w.val) Finset.univ)).trans (BI.bigSep_mono fun f hf => ?_)
  rw [h f (Finset.mem_filter.mp hf).2]
  exact BI.Entails.refl _

theorem handed_on (c : Dev nD) (f : Fin 8) :
    iprop(barPay c 0 ∗ barPay c 1) ⊢ bigSep Finset.univ (fun s : Fin 4 => rel1 (F := F) (toD f c, f, s)) := by
  unfold barPay
  rcases Nat.mod_two_eq_zero_or_one f.val with h | h
  · iintro ⟨H, -⟩
    iapply (show _ ⊢ _ from BI.bigSep_elim (Φ := fun f : Fin 8 => bigSep Finset.univ (fun s : Fin 4 => rel1 (F := F) (toD f c, f, s)))
      (Finset.mem_filter.mpr ⟨Finset.mem_univ f, h⟩)) $$ H
  · iintro ⟨-, H⟩
    iapply (show _ ⊢ _ from BI.bigSep_elim (Φ := fun f : Fin 8 => bigSep Finset.univ (fun s : Fin 4 => rel1 (F := F) (toD f c, f, s)))
      (Finset.mem_filter.mpr ⟨Finset.mem_univ f, h⟩)) $$ H

theorem t_meet {c : Dev nD} :
    Tr V κ ι c iprop(bigSep Finset.univ (fun f => iprop(Core c f ∗ Free c f)) ∗ Ow c (owed0 c) ∗ Bar c) (meetP c)
      iprop((bigSep Finset.univ (fun f => Flow V c f x0) ∗ Ow c (∑ f, owed c f x0)) ∗ atPos EB (bCell c) 1 ∅ 0) := by
  refine Tr.pre (A := iprop((bigSep Finset.univ (fun f => Core c f) ∗ bigSep Finset.univ (fun f => bigSep Finset.univ fun s : Fin 4 => readerAt ES ((c, f, s) : Key) 1))
      ∗ bigSep Finset.univ (fun f : Fin 8 => bigSep Finset.univ (fun s : Fin 4 => rel1 (F := F) (c, f, s))) ∗ Ow c (owed0 c) ∗ Bar c)) ?_ ?_
  · rw [bigSep_sep']
    iintro ⟨HR, ⟨HC, HF⟩, HO, HB⟩
    imod (all_upd (P := Rec V κ ι) Finset.univ (fun f _ => lend V κ ι c f)) $$ [HR HF] with HL
    · isplitl [HR] <;> iassumption
    imodintro
    ihave HL := (show bigSep Finset.univ (fun f => Lent c f) ⊢ iprop(bigSep Finset.univ (fun f => bigSep Finset.univ fun s : Fin 4 => readerAt ES ((c, f, s) : Key) 1)
      ∗ bigSep Finset.univ (fun f : Fin 8 => bigSep Finset.univ (fun s : Fin 4 => rel1 (F := F) (c, f, s)))) from Entails.of_eq (bigSep_sep' _ _ _)) $$ HL
    icases HL with ⟨HL, HL'⟩
    isplitl [HC HL]
    · isplitl [HC] <;> iassumption
    isplitl [HL']; · iexact HL'
    isplitl [HO] <;> iassumption
  unfold meetP
  refine Tr.seq (Tr.around (R := iprop((bigSep Finset.univ (fun f => Core c f) ∗ bigSep Finset.univ (fun f => bigSep Finset.univ fun s : Fin 4 => readerAt ES ((c, f, s) : Key) 1))
      ∗ bigSep Finset.univ (fun f : Fin 8 => bigSep Finset.univ (fun s : Fin 4 => rel1 (F := F) (c, f, s)))
      ∗ dutyTok EB (bCell (rgtD c)) 0 1 ∗ cred (tallyAt (bCell c) 0 2) ∗ atPos EB (bCell c) 0 ∅ 0))
    (t_bar (dst := lftD c) (d := 0) (by decide) (∑ f, owed c f x0 + tallyAt (bCell (rgtD c)) 0 1)) ?_ .rfl) ?_
  · unfold Bar owed0
    iintro ⟨HC, #HL, HO, Ht, Ht', Hc, Hat⟩
    isplitl [HO Ht]
    · isplitl [HO]; · iexact HO
      isplitl [Ht]; · iexact Ht
      iapply (handed c (lftD c) 0 (fun f hf => by unfold toD; rw [if_pos (show f.val % 2 = 0 from hf)]; exact rgtD_lftD c)) $$ HL
    isplitl [HC]; · iexact HC
    isplitr; · iexact HL
    isplitl [Ht']; · iexact Ht'
    isplitl [Hc] <;> iassumption
  refine Tr.seq (Tr.around (R := iprop((bigSep Finset.univ (fun f => Core c f) ∗ bigSep Finset.univ (fun f => bigSep Finset.univ fun s : Fin 4 => readerAt ES ((c, f, s) : Key) 1))
      ∗ cred (tallyAt (bCell c) 0 2) ∗ atPos EB (bCell c) 0 ∅ 0))
    (t_bar (dst := rgtD c) (d := 1) (by decide) (∑ f, owed c f x0)) ?_ .rfl) ?_
  · iintro ⟨HO, HC, #HL, Ht', Hc, Hat⟩
    isplitl [HO Ht']
    · isplitl [HO]; · iexact HO
      isplitl [Ht']; · iexact Ht'
      iapply (handed c (rgtD c) 1 (fun f hf => by unfold toD; rw [if_neg (by rw [show f.val % 2 = 1 from hf]; decide)]; exact lftD_rgtD c)) $$ HL
    isplitl [HC]; · iexact HC
    isplitl [Hc] <;> iassumption
  refine Tr.pre (Entails.trans ?_ fupd_intro) (Tr.around (R := iprop(Rec V κ ι ∗ bigSep Finset.univ (fun f => Core c f) ∗ bigSep Finset.univ (fun f => bigSep Finset.univ fun s : Fin 4 => readerAt ES ((c, f, s) : Key) 1)))
    (t_met (c := c) (O := ∑ f, owed c f x0) (Above.sum _ fun f _ => owed_above c f (by decide) (by decide))) .rfl ?_)
  · iintro ⟨#HR, HO, HC, Hc, Hat⟩
    isplitl [HO Hc Hat]
    · isplitl [HO]; · iexact HO
      isplitl [Hc] <;> iassumption
    isplitr; · iexact HR
    iexact HC
  · iintro ⟨⟨HO, Hat, #Hp⟩, #HR, HC, Hr⟩
    isplitr [Hat]
    · isplitr [HO]
      · ihave H := (Entails.of_eq (bigSep_sep' Finset.univ (fun f => Core (F := F) c f) (fun f => bigSep Finset.univ fun s : Fin 4 => readerAt ES ((c, f, s) : Key) 1)).symm) $$ [HC Hr]
        · isplitl [HC] <;> iassumption
        iapply (all_step (P := iprop(Rec V κ ι ∗ (barPay c 0 ∗ barPay c 1))) Finset.univ (fun f _ => by
          iintro ⟨⟨#HR, #Hp⟩, H⟩
          iapply (start_flow V κ ι c f)
          isplitr
          · isplitr; · iexact HR
            iapply (handed_on c f) $$ Hp
          iexact H))
        isplitr
        · isplitr; · iexact HR
          iexact Hp
        iexact H
      iexact HO
    iexact Hat

end Cert.Proof.Ring

end
-- ==== Proof.Close.lean ====
/- The last waits, the cells at zero, and the body from one end to the other. -/
module

public import proofs.«01_k».proof.Proof.Ends

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (V : Args F) (κ : Dev nD × CK → ℕ) (ι : Key → ℕ)

/-- Credits of a sum. -/
theorem cred_sum {I : Type} [DecidableEq I] (s : Finset I) (T : I → CellTallies nD τ sig ℕ) :
    (cred (∑ i ∈ s, T i) : sProp 𝕄) ⊣⊢ bigSep s (fun i => (cred (T i) : sProp 𝕄)) := by
  induction s using Finset.induction_on with
  | empty =>
    rw [Finset.sum_empty, BI.bigSep_empty, cred_zero]
    exact ⟨.rfl, .rfl⟩
  | insert i s hi ih =>
    rw [Finset.sum_insert hi, BI.bigSep_insert hi]
    have h := cred_add (Val := Elt F) (Name := ℕ) (U := UU) (Lvl := ℕ) (T i) (∑ i ∈ s, T i)
    constructor
    · show cred (T i + ∑ i ∈ s, T i) ⊢ iprop(cred (T i) ∗ bigSep s (fun i => (cred (T i) : sProp 𝕄)))
      iintro H
      ihave H := h.1 $$ H
      icases H with ⟨H, H'⟩
      isplitl [H]; · iexact H
      iapply ih.1 $$ H'
    · show iprop(cred (T i) ∗ bigSep s (fun i => (cred (T i) : sProp 𝕄))) ⊢ cred (T i + ∑ i ∈ s, T i)
      iintro ⟨H, H'⟩
      iapply h.2
      isplitl [H]; · iexact H
      iapply ih.2 $$ H'

theorem tallyOn_sum {I : Type} [DecidableEq I] (s : Finset I) (g : GSem nD τ sig) (T : I → ℕ →₀ ℕ) :
    ∑ i ∈ s, (tallyOn g (T i) : CellTallies nD τ sig ℕ) = tallyOn g (∑ i ∈ s, T i) := by
  induction s using Finset.induction_on with
  | empty => rw [Finset.sum_empty, Finset.sum_empty]; exact (Pi.single_zero g).symm
  | insert i s hi ih =>
    rw [Finset.sum_insert hi, Finset.sum_insert hi, ih]
    exact (Pi.single_add g _ _).symm

/-- What is left of a flow. -/
def Done (c : Dev nD) (f : Fin 8) : sProp 𝕄 :=
  iprop(bigSep Finset.univ (fun s => (semVal (rCell c f s) 0 : sProp 𝕄)) ∗ bigSep Finset.univ (fun s => (semVal (sCell c f s) 0 : sProp 𝕄))
    ∗ semVal (cCell c f) 0
    ∗ bigSep Finset.univ (fun s : Fin 4 => anySlot c (gM f) s.val fullShare) ∗ bigSep Finset.univ (fun s : Fin 4 => anySlot c (cM f) s.val fullShare))

def lastCr : ℕ →₀ ℕ := ∑ j ∈ Finset.Ico 10 14, Finsupp.single (cix j) 1

theorem lastCr_total : Idealize.SL.Util.total lastCr = 4 := by
  unfold lastCr
  rw [show Finset.Ico 10 14 = insert 10 (insert 11 (insert 12 {13})) from rfl, Finset.sum_insert (by decide), Finset.sum_insert (by decide),
    Finset.sum_insert (by decide), Finset.sum_singleton]
  simp only [Idealize.SL.Util.total_add, Idealize.SL.Util.total_single]
theorem lastCr_lt {u : ℕ} (h : u ∈ lastCr.support) : u < 14 := by
  by_contra hu
  refine (Finsupp.mem_support_iff.mp h) ?_
  unfold lastCr
  rw [Finsupp.finset_sum_apply]
  refine Finset.sum_eq_zero fun j _ => Finsupp.single_eq_of_ne ?_
  unfold cix; omega

theorem xe_st : ∀ s, xe.st s ≠ .gone := by decide
theorem xe_cm : ∀ s, xe.cm s = .full (if s.val < 2 then 12 + s.val else 8 + s.val) := by decide
theorem xe_sp : ∀ s : Fin 4, 14 ≤ 4 * xe.sp s + s.val := by decide
theorem xe_rp : ∀ s : Fin 4, 14 ≤ 4 * rp xe.r s + s.val := by decide
theorem xe_out : xe.i = 14 ∧ xe.g = 14 ∧ xe.q = 10 := by decide

theorem xe_owed (c : Dev nD) (f : Fin 8) : owed c f xe = 0 := by
  unfold owed
  rw [xe_out.1, xe_out.2.1, Finset.Ico_self, Finset.sum_empty, Finset.sum_empty, add_zero]

/-- The cells of a flow, all waits made, are at zero. -/
theorem close_cell (x : Dev nD × CK) {R : ℕ} (hR : ∀ r, R ≤ r → (Rd V).duties (kcell x) r = ∅) :
    iprop(Rec V κ ι ∗ atPos EB (kcell x) R ∅ 0) ⊢ |={Set.univ}=> semVal (kcell x) 0 := by
  iintro ⟨#HR, Hat⟩
  ihave #Hi := (rec_cell V κ ι x) $$ HR
  icases Hi with ⟨Hi, -⟩
  iapply (cell_close EB (Rd V) (Set.mem_univ (κ x)) (fun h => h) hR)
  isplitr; · iexact Hi
  iexact Hat

theorem t_fin {c : Dev nD} {f : Fin 8} :
    Tr V κ ι c iprop(Flow V c f xe ∗ Ow c 0) (semWaitWord (cS f) 4#32) iprop(Done c f ∗ Ow c 0) := by
  unfold Tr Wp Ow
  simp only [semWaitWord]
  iintro ⟨#HR, HF, ⟨%W, HO⟩⟩
  unfold Flow
  icases HF with ⟨HA, HS, HC, Hrc, Hsc, Hcc, Htk, Hgt, Hst, Hcm, Hra, Hpm, Hdp⟩
  ihave #Hi := (rec_cell V κ ι (c, .inr (.inr (.inl f)))) $$ HR
  unfold kcell
  icases Hi with ⟨Hi, -⟩
  unfold credPos
  icases HC with ⟨%T, -, Hat, -⟩
  ihave Hcc := (show bigSep (Finset.Ico xe.q 14) (fun j => (cred (tallyAt (cCell c f) (cix j) 1) : sProp 𝕄)) ⊢ cred (tallyOn (cCell c f) lastCr) by
    unfold lastCr
    rw [← tallyOn_sum]
    exact (cred_sum (F := F) (Finset.Ico 10 14) (fun j => tallyAt (cCell c f) (cix j) 1)).2) $$ Hcc
  iapply (Rounds.wp_wait_rest 𝒱₀ EB (Rd V) (c : Thread nD τ) none (κ := κ (c, .inr (.inr (.inl f))))
    (wpE_semWait_eq 𝒱₀ (c : Thread nD τ) none Set.univ) (Set.mem_univ _) (cr := lastCr) (lastCr.support.image (SemLoc.reg (cS f), ·))
    (O := 0) (W := W) (R := 0) (m := xe.q) (T := T)
    (by rw [show ((c : Thread nD τ), SemLoc.reg (cS f)) = cCell c f from rfl, expect_c]; decide) (lastCr_total.trans (by decide)) subset_rfl) $$ [Hcc HO Hat]
  · isplitr; · iexact Hi
    isplitl [Hcc]; · iexact Hcc
    isplitl [HO]; · iexact HO
    isplitr
    · iapply (mayOwe c (n := 31) (Above.zero _) (fun p hp => by
        obtain ⟨u, hu, rfl⟩ := Finset.mem_image.mp hp
        have hu := lastCr_lt hu
        refine ⟨hu, ?_⟩
        rw [show ((c : Thread nD τ), SemLoc.reg (cS f)) = cCell c f from rfl, lv_c]
        unfold hg
        split_ifs <;> omega))
      iapply (rec_levs V κ ι) $$ HR
    iexact Hat
  iintro ⟨HO, Hat, -, -⟩
  rw [wp_ret]
  imod (close_cell V κ ι (c, .inr (.inr (.inl f))) (R := 0 + 1) (fun r hr => by
    show (Rd V).duties (cCell c f) r = ∅
    rw [duties_c, if_neg (by omega)])) $$ [Hat] with Hc
  · isplitr; · iexact HR
    iexact Hat
  imod (all_upd (P := Rec V κ ι) Finset.univ (fun s _ => (show iprop(Rec V κ ι ∗ (atPos EB (rCell c f s) (rp xe.r s) ∅ 0 ∗ reached EB (rCell c f s) (rp xe.r s)))
      ⊢ |={Set.univ}=> semVal (rCell c f s) 0 by
    iintro ⟨#HR, Hat, -⟩
    iapply (close_cell V κ ι (c, .inr (.inl (f, s))) (R := rp xe.r s) (fun r hr => by
      show (Rd V).duties (rCell c f s) r = ∅
      have := xe_rp s
      rw [duties_r, if_neg (by omega)]))
    isplitr; · iexact HR
    iexact Hat))) $$ [HA] with HA
  · isplitr; · iexact HR
    iexact HA
  imod (all_upd (P := Rec V κ ι) Finset.univ (fun s _ => (show iprop(Rec V κ ι ∗ (atPos EB (sCell c f s) (xe.sp s) ∅ 0 ∗ reached EB (sCell c f s) (xe.sp s)))
      ⊢ |={Set.univ}=> semVal (sCell c f s) 0 by
    iintro ⟨#HR, Hat, -⟩
    iapply (close_cell V κ ι (c, .inl (f, s)) (R := xe.sp s) (fun r hr => by
      show (Rd V).duties (sCell c f s) r = ∅
      have := xe_sp s
      rw [duties_s, if_neg (by omega)]))
    isplitr; · iexact HR
    iexact Hat))) $$ [HS] with HS
  · isplitr; · iexact HR
    iexact HS
  imodintro
  isplitr [HO]
  · unfold Done
    isplitl [HA]; · iexact HA
    isplitl [HS]; · iexact HS
    isplitl [Hc]; · iexact Hc
    isplitl [Hst]
    · iapply (show bigSep Finset.univ (fun s => stgSt V c f s (xe.st s)) ⊢ bigSep Finset.univ (fun s : Fin 4 => anySlot c (gM f) s.val fullShare) from
        BI.bigSep_mono fun s _ => stg_any V c f s (xe_st s)) $$ Hst
    · iapply (show bigSep Finset.univ (fun s => comSt V c f s (xe.cm s)) ⊢ bigSep Finset.univ (fun s : Fin 4 => anySlot c (cM f) s.val fullShare) from
        BI.bigSep_mono fun s _ => by
          rw [xe_cm s]
          exact slot_any c (cM f) s.val fullShare _) $$ Hcm
  · iexists _; iexact HO

variable {V κ ι}

theorem t_fins {c : Dev nD} : ∀ l : List (Fin 8), l.Nodup →
    Tr V κ ι c iprop(bigSep l.toFinset (fun f => Flow V c f xe) ∗ Ow c 0) (eachP (fun f => semWaitWord (cS f) 4#32) l) iprop(bigSep l.toFinset (fun f => Done c f) ∗ Ow c 0)
  | [], _ => by
    unfold eachP
    refine Tr.post ?_ Tr.skip
    rw [List.toFinset_nil, BI.bigSep_empty, BI.bigSep_empty]
  | f :: l, hn => by
    rw [List.nodup_cons] at hn
    have hf : f ∉ l.toFinset := fun h => hn.1 (List.mem_toFinset.mp h)
    have h1 := t_fin V κ ι (c := c) (f := f)
    have h2 := t_fins (c := c) l hn.2
    rw [List.toFinset_cons, BI.bigSep_insert hf, BI.bigSep_insert hf]
    unfold eachP
    refine Tr.seq (h1.around (R := bigSep l.toFinset (fun f => Flow V c f xe)) ?_ .rfl) (h2.around (R := Done c f) ?_ ?_)
    · show iprop((Flow V c f xe ∗ bigSep l.toFinset (fun f => Flow V c f xe)) ∗ Ow c 0) ⊢ _
      iintro ⟨⟨HF, HL⟩, HO⟩
      isplitr [HL]
      · isplitl [HF] <;> iassumption
      iexact HL
    · iintro ⟨⟨HD, HO⟩, HL⟩
      isplitr [HD]
      · isplitl [HL] <;> iassumption
      iexact HD
    · show _ ⊢ iprop((Done c f ∗ bigSep l.toFinset (fun f => Done c f)) ∗ Ow c 0)
      iintro ⟨⟨HL, HO⟩, HD⟩
      isplitr [HO]
      · isplitl [HD] <;> iassumption
      iexact HO

/-- The flows start. -/
theorem t_starts {c : Dev nD} {ys : Fin 8 → Y} :
    Tr V κ ι c (All V c (fun _ => x0) ys) (startsP c) (All V c (fun _ => xs 0) fun _ => yAt 0) := by
  unfold startsP
  refine Tr.seq (prod ys (h := 0) (w := 0) (g := 0) rfl (off1_eq c) (off2_eq c)) ?_
  refine Tr.seq (t_each (a := x0) (b := xs 0) (L := [0, 2, 4, 6]) (fun f hf zs _ hz => init_step (l := [0, 2, 4, 6]) (fun g hg => ?_) f hf zs hz)
    [0, 2, 4, 6] _ (fun _ h => h) (by decide) (fun _ => .inl rfl) (fun _ _ => rfl)) ?_
  · unfold prodY
    rw [if_pos (by revert g; decide)]
  refine Tr.seq (prod _ (h := 0) (w := 1) (g := 1) rfl (off1_eq c) (off4_eq c)) ?_
  rw [prod_two]
  refine Tr.post ?_ (t_each (a := x0) (b := xs 0) (L := [1, 3, 5, 7]) (fun f hf zs _ hz => init_step (l := [1, 3, 5, 7]) (fun g hg => rfl) f hf zs hz)
    [1, 3, 5, 7] _ (fun _ h => h) (by decide) (fun j => ?_) (fun j hj => ?_))
  · refine Entails.of_eq ?_
    congr 1
    funext j
    by_cases h1 : j ∈ [1, 3, 5, 7]
    · rw [if_pos h1]
    · rw [if_neg h1, if_pos (by revert j; decide)]
  · by_cases h1 : j ∈ [0, 2, 4, 6]
    · exact .inr (if_pos h1)
    · exact .inl (if_neg h1)
  · exact if_neg (by revert j; decide)

/-- The flows end. -/
theorem t_ends {c : Dev nD} {ys : Fin 8 → Y} :
    Tr V κ ι c (All V c (fun _ => xs 14) ys) (endsP c) iprop((bigSep Finset.univ (fun f => Done c f) ∗ Ow c 0) ∗ (Ins V c ∗ Out V c ys)) := by
  unfold endsP
  refine Tr.seq (t_each (a := xs 14) (b := xe) (L := [0, 1, 2, 3, 4, 5, 6, 7]) (fun f _ zs hz hf => end_step f zs hz hf)
    [0, 1, 2, 3, 4, 5, 6, 7] _ (fun _ h => h) (by decide) (fun _ => .inl rfl) (fun _ _ => rfl)) ?_
  refine Tr.frame ?_
  have h := t_fins (V := V) (κ := κ) (ι := ι) (c := c) [0, 1, 2, 3, 4, 5, 6, 7] (by decide)
  rw [show ([0, 1, 2, 3, 4, 5, 6, 7] : List (Fin 8)).toFinset = Finset.univ from by decide] at h
  have hall : ∀ f : Fin 8, f ∈ ([0, 1, 2, 3, 4, 5, 6, 7] : List (Fin 8)) := by decide
  convert h using 3
  · exact funext fun f => congrArg (Flow V c f) (if_pos (hall f))
  · exact Finset.sum_eq_zero fun f _ => (congrArg (owed c f) (if_pos (hall f))).trans (xe_owed c f)

/-- The body on one device, from the launch to the end. -/
theorem t_core {c : Dev nD} {ys : Fin 8 → Y} :
    Tr V κ ι c iprop((bigSep Finset.univ (fun f => iprop(Core c f ∗ Free c f)) ∗ Ow c (owed0 c) ∗ Bar c) ∗ (Ins V c ∗ Out V c ys)) (coreP c)
      iprop(((bigSep Finset.univ (fun f => Done c f) ∗ Ow c 0) ∗ (Ins V c ∗ Out V c fun _ => yAt 14)) ∗ semVal (bCell c) 0) := by
  unfold coreP
  refine Tr.seq (Tr.frame t_meet) ?_
  refine Tr.pre (A := iprop(All V c (fun _ => x0) ys ∗ semVal (bCell c) 0)) ?_ ?_
  · iintro ⟨HR, ⟨HF, Hat⟩, HI⟩
    imod (close_cell V κ ι (c, .inr (.inr (.inr ()))) (R := 1) (fun r hr => by
      show (Rd V).duties (bCell c) r = ∅
      rw [duties_b, if_neg (by omega)])) $$ [HR Hat] with Hb
    · isplitl [HR]; · iexact HR
      iexact Hat
    imodintro
    isplitr [Hb]
    · unfold All
      isplitl [HF]; · iexact HF
      iexact HI
    iexact Hb
  exact (Tr.frame t_starts).seq ((Tr.frame (t_hops (P := fun k => All V c (fun _ => xs k) fun _ => yAt k) t_redHop)).seq
    ((Tr.frame (t_hops (P := fun k => All V c (fun _ => xs (7 + k)) fun _ => yAt (7 + k)) t_sprHop)).seq (Tr.frame t_ends)))

end Cert.Proof.Ring

end
-- ==== Proof.Deal.lean ====
/- What a launch hands the devices: the buffers by slots, and the credits of all that is owed. -/
module

public import proofs.«01_k».proof.Proof.Close
public import proofs.«01_k».proof.Proof.Gen.KernelIdeal.Launch
public import proofs.«01_k».proof.Proof.Gen.KernelIdeal.Points

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem both {P Q : sProp 𝕄} (h : P ⊢ Q) (h' : Q ⊢ P) : P = Q := BI.Entails.antisymm h h'

/-! ## A buffer and its four slots -/

theorem mem_slot (s : Fin 4) (x : S4x64x1024.Idx) : x ∈ (slotR s.val).set ↔ x 0 = s := by
  rw [Rect.mem_set_unit]
  have h1 : (x 1).val < 64 := (x 1).isLt
  have h2 : (x 2).val < 1024 := (x 2).isLt
  have hs : s.val % 4 = s.val := Nat.mod_eq_of_lt s.isLt
  constructor
  · intro h
    have h0 : s.val % 4 ≤ (x 0).val ∧ (x 0).val < s.val % 4 + 1 := h 0
    exact Fin.ext (by omega)
  · intro h a
    have h0 : (x 0).val = s.val := congrArg Fin.val h
    have hx : (s.val % 4 ≤ (x 0).val ∧ (x 0).val < s.val % 4 + 1) ∧ (0 ≤ (x 1).val ∧ (x 1).val < 0 + 64)
        ∧ (0 ≤ (x 2).val ∧ (x 2).val < 0 + 1024) := by omega
    exact match a with
      | ⟨0, _⟩ => hx.1
      | ⟨1, _⟩ => hx.2.1
      | ⟨2, _⟩ => hx.2.2

theorem slots_apart (s s' : Fin 4) (h : s ≠ s') : Disjoint (slotR s.val).set (slotR s'.val).set :=
  Finset.disjoint_left.mpr fun x hx hx' => h (((mem_slot s x).mp hx).symm.trans ((mem_slot s' x).mp hx'))

theorem slots_cover : (Finset.univ : Finset (Fin 4)).biUnion (fun s => (slotR s.val).set) = Finset.univ := by
  ext x
  refine ⟨fun _ => Finset.mem_univ _, fun _ => Finset.mem_biUnion.mpr ⟨x 0, Finset.mem_univ _, (mem_slot (x 0) x).mpr rfl⟩⟩

theorem slice_any (c : Dev nD) (M : Memref sig .tc .vmem S4x64x1024 .bf16) (s : ℕ) (q : PosShare TreeShare) :
    (ownsSat (c : Thread nD τ) (M.slice (slotR s) (fun _ => rfl)) q (fun _ => True) : sProp 𝕄) = anySlot c M s q := by
  unfold anySlot ownsSat
  rw [slot_set M s]

theorem whole_slots (c : Dev nD) (M : Memref sig .tc .vmem S4x64x1024 .bf16) (q : PosShare TreeShare) :
    (ownsSat (c : Thread nD τ) M q (fun _ => True) : sProp 𝕄) = bigSep Finset.univ fun s : Fin 4 => anySlot c M s.val q := by
  have e : (ownsSat (c : Thread nD τ) M q (fun _ => True) : sProp 𝕄)
      = ownsSat (c : Thread nD τ) M q (fun X => ∀ t : Fin 4, (fun _ => True : (((slotR t.val).shape.Idx → Elt F .bf16) → Prop)) fun j => X ((slotR t.val).emb j)) :=
    ownsSat_congr _ _ _ fun X => ⟨fun _ _ => trivial, fun _ => trivial⟩
  rw [← BI.bigSep_congr (fun (s : Fin 4) _ => slice_any (F := F) c M s.val q), e]
  exact BI.Entails.antisymm
    (ownsSat_rects (c : Thread nD τ) M q (fun s : Fin 4 => slotR s.val) (fun _ _ => rfl) slots_apart slots_cover fun _ _ => True)
    (ownsSat_of_rects (c : Thread nD τ) M q (fun s : Fin 4 => slotR s.val) (fun _ _ => rfl) slots_apart slots_cover fun _ _ => True)

theorem any_whole (c : Dev nD) (b : Ref sig .tc) :
    (ownsSat (c : Thread nD τ) (Memref.whole b) fullShare (fun _ => True) : sProp 𝕄)
      = iprop(∃ f : Buf (Elt F) ((c : Thread nD τ).loc b), ((c : Thread nD τ).loc b) ↦{fullShare} f) := by
  unfold ownsSat
  simp only [Memref.view_whole, View.set_whole]
  refine both ?_ ?_
  · iintro ⟨%f, -, H⟩
    iexists f
    iexact H
  · iintro ⟨%f, H⟩
    iexists f
    isplitr
    · ipureintro; trivial
    · iexact H

theorem fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem whole8 (c : Dev nD) (M : Fin 8 → Memref sig .tc .vmem S4x64x1024 .bf16) (q : PosShare TreeShare) :
    (bigSep Finset.univ fun f => bigSep Finset.univ fun s : Fin 4 => anySlot (F := F) c (M f) s.val q)
      = bigSep Finset.univ fun f => (ownsSat (c : Thread nD τ) (M f) q (fun _ => True) : sProp 𝕄) :=
  BI.bigSep_congr fun f _ => (whole_slots c (M f) q).symm

theorem in_eights (P0 P1 P2 P3 P4 P5 P6 P7 Q0 Q1 Q2 Q3 Q4 Q5 Q6 Q7 : sProp 𝕄) :
    iprop(P0 ∗ P1 ∗ P2 ∗ P3 ∗ P4 ∗ P5 ∗ P6 ∗ P7 ∗ Q0 ∗ Q1 ∗ Q2 ∗ Q3 ∗ Q4 ∗ Q5 ∗ Q6 ∗ Q7)
      = iprop((P0 ∗ P1 ∗ P2 ∗ P3 ∗ P4 ∗ P5 ∗ P6 ∗ P7) ∗ Q0 ∗ Q1 ∗ Q2 ∗ Q3 ∗ Q4 ∗ Q5 ∗ Q6 ∗ Q7) := by
  refine both ?_ ?_
  · iintro ⟨H0, H1, H2, H3, H4, H5, H6, H7, G0, G1, G2, G3, G4, G5, G6, G7⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
  · iintro ⟨⟨H0, H1, H2, H3, H4, H5, H6, H7⟩, G0, G1, G2, G3, G4, G5, G6, G7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7

theorem rest_slots (c : Dev nD) :
    (Pipeline.scopedRest (Ix := ℕ) (Name := ℕ) (U := UU) (Lvl := ℕ) (Val := Elt F) spec0 c : sProp 𝕄)
      = iprop((bigSep Finset.univ fun f => bigSep Finset.univ fun s : Fin 4 => anySlot c (cM f) s.val fullShare)
        ∗ (bigSep Finset.univ fun f => bigSep Finset.univ fun s : Fin 4 => anySlot c (gM f) s.val fullShare)) := by
  rw [whole8 c cM, whole8 c gM, fin8, fin8, scopedRest0_eq c]
  simp only [← any_whole]
  exact in_eights _ _ _ _ _ _ _ _ _ _ _ _ _ _ _ _

/-! ## Around the ring -/

def toE (f : Fin 8) : Dev nD ≃ Dev nD := ⟨toD f, frD f, frD_toD f, toD_frD f⟩
def frE (f : Fin 8) : Dev nD ≃ Dev nD := (toE f).symm
def lftE : Dev nD ≃ Dev nD := ⟨lftD, rgtD, rgtD_lftD, lftD_rgtD⟩
def rgtE : Dev nD ≃ Dev nD := lftE.symm

/-- What every device has of every flow, dealt to other devices flow by flow. -/
theorem around (e : Fin 8 → Dev nD ≃ Dev nD) (Φ : Dev nD → Fin 8 → sProp 𝕄) :
    (bigSep Finset.univ fun c => bigSep Finset.univ fun f => Φ c f)
      = bigSep Finset.univ fun c => bigSep Finset.univ fun f => Φ (e f c) f := by
  rw [BI.bigSep_univ_comm, BI.bigSep_univ_comm (fun c f => Φ (e f c) f)]
  exact BI.bigSep_congr fun f _ => BI.bigSep_univ_equiv (e f) fun c => Φ c f

/-! ## The credits -/

/-- The credits of device `c`'s own cells. -/
def want (c : Dev nD) : CellTallies nD τ sig ℕ :=
  ∑ f : Fin 8, (∑ h ∈ Finset.range 14, tallyAt (rCell c f (sl h)) h N + ∑ j ∈ Finset.range 14, tallyAt (cCell c f) (cix j) 1)
    + tallyAt (bCell c) 0 (1 + 1)

theorem sum_owed : ∑ c, owed0 c = ∑ c, want c := by
  unfold owed0 want owed
  have hx : Finset.Ico x0.i 14 = Finset.range 14 ∧ Finset.Ico x0.g 14 = Finset.range 14 := by decide
  rw [hx.1, hx.2]
  have hb : ∀ d : Dev nD, tallyAt (bCell d) 0 1 + tallyAt (bCell d) 0 1 = (tallyAt (bCell d) 0 (1 + 1) : CellTallies nD τ sig ℕ) :=
    fun d => tallyAt_add (bCell d) 0 1 1
  have hr : ∑ d : Dev nD, tallyAt (bCell (rgtD d)) 0 1 = ∑ d : Dev nD, (tallyAt (bCell d) 0 1 : CellTallies nD τ sig ℕ) :=
    Equiv.sum_comp rgtE fun d : Dev nD => (tallyAt (bCell d) 0 1 : CellTallies nD τ sig ℕ)
  have hl : ∑ d : Dev nD, tallyAt (bCell (lftD d)) 0 1 = ∑ d : Dev nD, (tallyAt (bCell d) 0 1 : CellTallies nD τ sig ℕ) :=
    Equiv.sum_comp lftE fun d : Dev nD => (tallyAt (bCell d) 0 1 : CellTallies nD τ sig ℕ)
  have hm (e : Fin 8 → Dev nD ≃ Dev nD) (T : Dev nD → Fin 8 → CellTallies nD τ sig ℕ) : ∑ c, ∑ f, T (e f c) f = ∑ c, ∑ f, T c f := by
    rw [Finset.sum_comm, Finset.sum_comm (f := fun c f => T c f)]
    exact Finset.sum_congr rfl fun f _ => Equiv.sum_comp (e f) fun c => T c f
  have h1 : ∑ c, ∑ f, ∑ h ∈ Finset.range 14, tallyAt (rCell (toD f c) f (sl h)) h N = _ :=
    hm toE fun c f => ∑ h ∈ Finset.range 14, tallyAt (rCell c f (sl h)) h N
  have h2 : ∑ c, ∑ f, ∑ j ∈ Finset.range 14, tallyAt (cCell (frD f c) f) (cix j) 1 = _ :=
    hm frE fun c f => ∑ j ∈ Finset.range 14, tallyAt (cCell c f) (cix j) 1
  simp only [Finset.sum_add_distrib, ← hb]
  rw [h1, h2, hr, hl, add_assoc]

/-- They sit on the device's own cells. -/
theorem want_home (c : Dev nD) (g : GSem nD τ sig) (h : g.1 ≠ (c : Thread nD τ)) : want c g = 0 := by
  have z (g' : GSem nD τ sig) (e : g'.1 = (c : Thread nD τ)) (i k : ℕ) : (tallyAt g' i k : CellTallies nD τ sig ℕ) g = 0 :=
    tallyAt_ne_cell (fun hh : g = g' => h (by rw [hh]; exact e)) _ _
  unfold want
  simp only [Pi.add_apply, Finset.sum_apply]
  rw [z _ rfl, add_zero]
  exact Finset.sum_eq_zero fun f _ => by
    rw [Finset.sum_eq_zero fun h _ => z _ rfl _ _, Finset.sum_eq_zero fun j _ => z _ rfl _ _, add_zero]

theorem credit_at (c : Dev nD) (sm : SemLoc sig) :
    launchCredit (Pipeline.owing owed0) 0 ((c : Thread nD τ), sm) = want c ((c : Thread nD τ), sm) := by
  ext i
  rw [Pipeline.launchCredit_owing]
  have e : ∑ d : Dev nD, owed0 d ((c : Thread nD τ), sm) i = (∑ d, owed0 d) ((c : Thread nD τ), sm) i := by
    rw [Finset.sum_apply, Finsupp.finset_sum_apply]
  rw [e, sum_owed, Finset.sum_apply, Finset.sum_eq_single c]
  · intro d _ hd
    exact want_home d _ fun h => hd (congrArg (fun t : Thread nD τ => t.1) h).symm
  · exact fun h => absurd (Finset.mem_univ c) h

theorem want_parts (c : Dev nD) :
    ∑ sm : SemLoc sig, tallyOn ((c : Thread nD τ), sm) (want c ((c : Thread nD τ), sm)) = want c := by
  funext g
  rw [Finset.sum_apply]
  by_cases h : g.1 = (c : Thread nD τ)
  · obtain ⟨t, sm⟩ := g
    obtain rfl : t = (c : Thread nD τ) := h
    rw [Finset.sum_eq_single sm]
    · exact tallyOn_self _ _
    · exact fun sm' _ hne => tallyOn_ne (fun e => hne (congrArg Prod.snd e).symm) _
    · exact fun h => absurd (Finset.mem_univ sm) h
  · rw [want_home c g h]
    exact Finset.sum_eq_zero fun sm _ => tallyOn_ne (fun e => h (congrArg Prod.fst e)) _

/-- The credits of a device's cells, each by itself. -/
def Creds (c : Dev nD) : sProp 𝕄 :=
  iprop((bigSep Finset.univ fun f : Fin 8 => iprop(
      (bigSep (Finset.range 14) fun h => cred (tallyAt (rCell c f (sl h)) h N))
      ∗ (bigSep (Finset.range 14) fun j => cred (tallyAt (cCell c f) (cix j) 1))))
    ∗ cred (tallyAt (bCell c) 0 2))

theorem creds_intro (c : Dev nD) : (Pipeline.launchCred owed0 c : sProp 𝕄) ⊢ Creds c := by
  unfold Pipeline.launchCred Creds
  rw [BI.bigSep_congr (fun sm _ => by rw [show (c.tc : Thread nD τ) = (c : Thread nD τ) from rfl, credit_at c sm])]
  refine (cred_sum Finset.univ _).2.trans ?_
  rw [want_parts]
  unfold want
  refine (cred_add (Val := Elt F) (Name := ℕ) (U := UU) (Lvl := ℕ) _ _).1.trans (BI.sep_mono ?_ (BI.Entails.refl _))
  refine (cred_sum Finset.univ _).1.trans (BI.bigSep_mono fun f _ => ?_)
  exact (cred_add (Val := Elt F) (Name := ℕ) (U := UU) (Lvl := ℕ) _ _).1.trans (BI.sep_mono (cred_sum _ _).1 (cred_sum _ _).1)

end Cert.Proof.Ring
-- ==== Proof.Tokens.lean ====
/- The cells and the tokens of a launch, and the update that deals them to the devices. -/
module

public import proofs.«01_k».proof.Proof.Deal

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The cells -/

/-- Which of a device's cells a semaphore is. -/
def cellAt (g : GSem nD τ sig) : Dev nD × CK :=
  (g.1.1, match role g.2 with
    | .send f s => .inl (f, s) | .recv f s => .inr (.inl (f, s)) | .cred f => .inr (.inr (.inl f)) | _ => .inr (.inr (.inr ())))

theorem cellAt_kcell (x : Dev nD × CK) : cellAt (kcell x) = x := by
  rcases x with ⟨c, ⟨f, s⟩ | ⟨f, s⟩ | f | _⟩ <;> unfold cellAt kcell
  · simp only [sCell, role_s]
  · simp only [rCell, role_r]
  · simp only [cCell, role_c]
  · simp only [bCell, role_b]

theorem kcell_inj : Function.Injective kcell := Function.LeftInverse.injective cellAt_kcell

def cells : Finset (GSem nD τ sig) := Finset.univ.map ⟨kcell, kcell_inj⟩

theorem over_cells (Φ : GSem nD τ sig → sProp 𝕄) :
    bigSep cells Φ = bigSep Finset.univ fun x => Φ (kcell x) := by
  unfold cells; rw [BI.bigSep_map]; rfl

/-- All cells, kind by kind. -/
theorem by_kind (Φ : GSem nD τ sig → sProp 𝕄) :
    (bigSep Finset.univ fun x => Φ (kcell x))
      = iprop((bigSep Finset.univ fun c => bigSep Finset.univ fun f => bigSep Finset.univ fun s => Φ (sCell c f s))
        ∗ (bigSep Finset.univ fun c => bigSep Finset.univ fun f => bigSep Finset.univ fun s => Φ (rCell c f s))
        ∗ (bigSep Finset.univ fun c => bigSep Finset.univ fun f => Φ (cCell c f))
        ∗ bigSep Finset.univ fun c => Φ (bCell c)) := by
  have e (c : Dev nD) : (bigSep Finset.univ fun k : CK => Φ (kcell (c, k)))
      = iprop((bigSep Finset.univ fun f => bigSep Finset.univ fun s => Φ (sCell c f s))
        ∗ (bigSep Finset.univ fun f => bigSep Finset.univ fun s => Φ (rCell c f s))
        ∗ (bigSep Finset.univ fun f => Φ (cCell c f)) ∗ Φ (bCell c)) := by
    rw [BI.bigSep_univ_sum, BI.bigSep_univ_sum, BI.bigSep_univ_sum, BI.bigSep_univ_prod, BI.bigSep_univ_prod,
      BI.bigSep_univ_of_subsingleton ()]
    rfl
  rw [BI.bigSep_univ_prod, BI.bigSep_congr fun c _ => e c]
  simp only [bigSep_sep']

/-- The cells whose semaphores the region opens. -/
abbrev OK : Type := (Fin 8 × Fin 4) ⊕ (Fin 8 × Fin 4) ⊕ Fin 8

def osem : OK → SemLoc sig
  | .inl (f, s) => .dma (sS f s.val)
  | .inr (.inl (f, s)) => .dma (rS f s.val)
  | .inr (.inr f) => .reg (cS f)

theorem own_eq (c : Dev nD) :
    (Pipeline.ownSems0 (Ix := ℕ) (Name := ℕ) (U := UU) (Lvl := ℕ) (Val := Elt F) (τ := τ) osem c : sProp 𝕄)
      = iprop((bigSep Finset.univ fun f => bigSep Finset.univ fun s => semVal (sCell c f s) 0)
        ∗ (bigSep Finset.univ fun f => bigSep Finset.univ fun s => semVal (rCell c f s) 0)
        ∗ (bigSep Finset.univ fun f => semVal (cCell c f) 0)) := by
  unfold Pipeline.ownSems0
  rw [BI.bigSep_univ_sum, BI.bigSep_univ_sum, BI.bigSep_univ_prod, BI.bigSep_univ_prod]
  rfl

theorem bar_eq (c : Dev nD) : (unscopedSems0 c : sProp 𝕄) = semVal (bCell c) 0 := by
  unfold unscopedSems0
  rw [bigSep_eq_bigSepL_of_eq [SemLoc.reg barS] (by decide +kernel) (by decide +kernel)]
  rfl

theorem sems_eq :
    (bigSep Finset.univ fun c => iprop(Pipeline.ownSems0 (Ix := ℕ) (Name := ℕ) (U := UU) (Lvl := ℕ) (Val := Elt F) (τ := τ) osem c
      ∗ unscopedSems0 c) : sProp 𝕄) ⊢ bigSep Finset.univ fun x => semVal (kcell x) 0 := by
  rw [by_kind fun g => semVal g 0, BI.bigSep_congr fun c _ => by rw [own_eq, bar_eq]]
  simp only [bigSep_sep']
  iintro ⟨⟨H1, H2, H3⟩, H4⟩
  isplitl [H1]; · iexact H1
  isplitl [H2]; · iexact H2
  isplitl [H3]; · iexact H3
  iexact H4

/-! ## The tokens -/

abbrev TK : Type := (Fin 8 × Fin 14) ⊕ (Fin 8 × Fin 14) ⊕ (Fin 8 × Fin 14) ⊕ Fin 2

def tokOf : Dev nD × TK → GSem nD τ sig × ℕ × ℕ
  | (c, .inl (f, h)) => (sCell c f (sl h.val), h.val / 4, 0)
  | (c, .inr (.inl (f, h))) => (rCell c f (sl h.val), h.val / 4, 0)
  | (c, .inr (.inr (.inl (f, j)))) => (cCell c f, 0, j.val)
  | (c, .inr (.inr (.inr d))) => (bCell c, 0, d.val)

def tokAt (x : GSem nD τ sig × ℕ × ℕ) : Dev nD × TK :=
  (x.1.1.1, match role x.1.2 with
    | .send f s => .inl (f, ⟨(4 * x.2.1 + s.val) % 14, Nat.mod_lt _ (by decide)⟩)
    | .recv f s => .inr (.inl (f, ⟨(4 * x.2.1 + s.val) % 14, Nat.mod_lt _ (by decide)⟩))
    | .cred f => .inr (.inr (.inl (f, ⟨x.2.2 % 14, Nat.mod_lt _ (by decide)⟩)))
    | _ => .inr (.inr (.inr ⟨x.2.2 % 2, Nat.mod_lt _ (by decide)⟩)))

theorem tokAt_tokOf (x : Dev nD × TK) : tokAt (tokOf x) = x := by
  have h14 (h : Fin 14) : (⟨(4 * (h.val / 4) + (sl h.val).val) % 14, Nat.mod_lt _ (by decide)⟩ : Fin 14) = h :=
    Fin.ext (by show (4 * (h.val / 4) + h.val % 4) % 14 = h.val; have := h.isLt; omega)
  rcases x with ⟨c, ⟨f, h⟩ | ⟨f, h⟩ | ⟨f, j⟩ | d⟩ <;> unfold tokAt tokOf
  · simp only [sCell, role_s, h14]
  · simp only [rCell, role_r, h14]
  · simp only [cCell, role_c, Nat.mod_eq_of_lt j.isLt]
  · simp only [bCell, role_b, Nat.mod_eq_of_lt d.isLt]

def toks : Finset (GSem nD τ sig × ℕ × ℕ) := Finset.univ.map ⟨tokOf, Function.LeftInverse.injective tokAt_tokOf⟩

theorem fin_range (n : ℕ) (Φ : ℕ → sProp 𝕄) : (bigSep Finset.univ fun i : Fin n => Φ i.val) = bigSep (Finset.range n) Φ := by
  have e : Finset.range n = (Finset.univ : Finset (Fin n)).map Fin.valEmbedding := by
    ext i
    simp only [Finset.mem_range, Finset.mem_map, Finset.mem_univ, true_and, Fin.valEmbedding_apply]
    exact ⟨fun h => ⟨⟨i, h⟩, rfl⟩, fun ⟨j, h⟩ => h ▸ j.isLt⟩
  rw [e, BI.bigSep_map]
  rfl

theorem over_toks :
    (bigSep toks fun x => (dutyTok EB x.1 x.2.1 x.2.2 : sProp 𝕄))
      = iprop((bigSep Finset.univ fun c => bigSep Finset.univ fun f => bigSep (Finset.range 14) fun h => dutyTok EB (sCell c f (sl h)) (h / 4) 0)
        ∗ (bigSep Finset.univ fun c => bigSep Finset.univ fun f => bigSep (Finset.range 14) fun h => dutyTok EB (rCell c f (sl h)) (h / 4) 0)
        ∗ (bigSep Finset.univ fun c => bigSep Finset.univ fun f => bigSep (Finset.range 14) fun j => dutyTok EB (cCell c f) 0 j)
        ∗ (bigSep Finset.univ fun c => dutyTok EB (bCell c) 0 0) ∗ bigSep Finset.univ fun c => dutyTok EB (bCell c) 0 1) := by
  have e (c : Dev nD) : (bigSep Finset.univ fun k : TK => (dutyTok EB (tokOf (c, k)).1 (tokOf (c, k)).2.1 (tokOf (c, k)).2.2 : sProp 𝕄))
      = iprop((bigSep Finset.univ fun f => bigSep (Finset.range 14) fun h => dutyTok EB (sCell c f (sl h)) (h / 4) 0)
        ∗ (bigSep Finset.univ fun f => bigSep (Finset.range 14) fun h => dutyTok EB (rCell c f (sl h)) (h / 4) 0)
        ∗ (bigSep Finset.univ fun f => bigSep (Finset.range 14) fun j => dutyTok EB (cCell c f) 0 j)
        ∗ dutyTok EB (bCell c) 0 0 ∗ dutyTok EB (bCell c) 0 1) := by
    simp only [← fin_range]
    rw [BI.bigSep_univ_sum, BI.bigSep_univ_sum, BI.bigSep_univ_sum, BI.bigSep_univ_prod, BI.bigSep_univ_prod, BI.bigSep_univ_prod,
      BI.bigSep_fin_two]
    rfl
  unfold toks
  rw [BI.bigSep_map]
  show (bigSep Finset.univ fun x : Dev nD × TK => (dutyTok EB (tokOf x).1 (tokOf x).2.1 (tokOf x).2.2 : sProp 𝕄)) = _
  rw [BI.bigSep_univ_prod, BI.bigSep_congr fun c _ => e c]
  simp only [bigSep_sep']

/-- Which write of which slot a hop makes. -/
def wrOf (x : Dev nD × Fin 8 × Fin 14) : Key × ℕ := ((x.1, x.2.1, sl x.2.2.val), x.2.2.val / 4)

theorem wrOf_inj : Function.Injective wrOf := by
  rintro ⟨c, f, h⟩ ⟨c', f', h'⟩ e
  have e1 : c = c' := congrArg (fun y : Key × ℕ => y.1.1) e
  have e2 : f = f' := congrArg (fun y : Key × ℕ => y.1.2.1) e
  have e3 : h.val % 4 = h'.val % 4 := congrArg (fun y : Key × ℕ => y.1.2.2.val) e
  have e4 : h.val / 4 = h'.val / 4 := congrArg (fun y : Key × ℕ => y.2) e
  have e5 : h = h' := Fin.ext (by omega)
  rw [e1, e2, e5]

theorem over_writes :
    bigSep ((Finset.univ : Finset Key) ×ˢ Finset.range 4) (fun x => (writeTok ES x.1 (x.2 + 1) : sProp 𝕄))
      ⊢ bigSep Finset.univ fun c => bigSep Finset.univ fun f => bigSep (Finset.range 14) fun h => writeTok ES ((c, f, sl h) : Key) (h / 4 + 1) := by
  have hs : Finset.univ.map ⟨wrOf, wrOf_inj⟩ ⊆ (Finset.univ : Finset Key) ×ˢ Finset.range 4 := fun y hy => by
    obtain ⟨x, -, rfl⟩ := Finset.mem_map.mp hy
    refine Finset.mem_product.mpr ⟨Finset.mem_univ _, Finset.mem_range.mpr ?_⟩
    show x.2.2.val / 4 < 4
    have := x.2.2.isLt
    omega
  refine (BI.bigSep_subset hs).trans ?_
  rw [BI.bigSep_map, BI.bigSep_univ_prod]
  refine BI.bigSep_mono fun c _ => ?_
  rw [BI.bigSep_univ_prod]
  refine BI.bigSep_mono fun f _ => ?_
  rw [← fin_range]
  exact BI.Entails.refl _

/-! ## The dealing -/

/-- What a device is dealt of a flow, -/
def flowG (c : Dev nD) (f : Fin 8) : sProp 𝕄 :=
  iprop((bigSep Finset.univ fun s => iprop(atPos EB (rCell c f s) 0 ∅ 0 ∗ reached EB (rCell c f s) 0))
    ∗ (bigSep Finset.univ fun s => iprop(atPos EB (sCell c f s) 0 ∅ 0 ∗ reached EB (sCell c f s) 0))
    ∗ atPos EB (cCell c f) 0 ∅ 0
    ∗ (bigSep (Finset.range 14) fun h => hopTok c f h)
    ∗ (bigSep (Finset.range 14) fun j => dutyTok EB (cCell (frD f c) f) 0 j)
    ∗ (bigSep Finset.univ fun s => readerAt ES ((c, f, s) : Key) 0))

/-- and altogether. -/
def lin (c : Dev nD) : sProp 𝕄 :=
  iprop((bigSep Finset.univ fun f => flowG c f)
    ∗ dutyTok EB (bCell (lftD c)) 0 0 ∗ dutyTok EB (bCell (rgtD c)) 0 1 ∗ atPos EB (bCell c) 0 ∅ 0)

theorem deal :
    iprop((bigSep Finset.univ fun x => (atPos EB (kcell x) 0 ∅ 0 : sProp 𝕄)) ∗ (bigSep Finset.univ fun x => reached EB (kcell x) 0)
      ∗ (bigSep toks fun x => dutyTok EB x.1 x.2.1 x.2.2)
      ∗ (bigSep Finset.univ fun k : Key => readerAt ES k 0)
      ∗ bigSep ((Finset.univ : Finset Key) ×ˢ Finset.range 4) (fun x => writeTok ES x.1 (x.2 + 1)))
    ⊢ bigSep Finset.univ fun c => lin (F := F) c := by
  rw [by_kind fun g => atPos EB g 0 ∅ 0, by_kind fun g => reached EB g 0, over_toks, BI.bigSep_univ_prod,
    around toE (fun c f => bigSep (Finset.range 14) fun h => dutyTok EB (rCell c f (sl h)) (h / 4) 0),
    around frE (fun c f => bigSep (Finset.range 14) fun j => dutyTok EB (cCell c f) 0 j),
    BI.bigSep_univ_equiv lftE (fun c => dutyTok EB (bCell c) 0 0), BI.bigSep_univ_equiv rgtE (fun c => dutyTok EB (bCell c) 0 1),
    BI.bigSep_congr fun c _ => BI.bigSep_univ_prod fun k : Fin 8 × Fin 4 => readerAt ES ((c, k) : Key) 0]
  unfold lin flowG hopTok
  simp only [bigSep_sep']
  iintro ⟨⟨HaS, HaR, HaC, HaB⟩, ⟨HrS, HrR, -, -⟩, ⟨HtS, HtR, HtC, Ht0, Ht1⟩, Hrd, Hw⟩
  ihave Hw := over_writes (F := F) $$ Hw
  ihave Hw := (Entails.of_eq (around toE fun c f => bigSep (Finset.range 14) fun h => (writeTok ES ((c, f, sl h) : Key) (h / 4 + 1) : sProp 𝕄))) $$ Hw
  isplitl [HaS HaR HaC HrS HrR HtS HtR HtC Hrd Hw]
  · isplitl [HaR HrR]
    · isplitl [HaR]; · iexact HaR
      iexact HrR
    isplitl [HaS HrS]
    · isplitl [HaS]; · iexact HaS
      iexact HrS
    isplitl [HaC]; · iexact HaC
    isplitl [HtS HtR Hw]
    · isplitl [HtS]; · iexact HtS
      isplitl [HtR]; · iexact HtR
      iexact Hw
    isplitl [HtC]; · iexact HtC
    iexact Hrd
  isplitl [Ht0]; · iexact Ht0
  isplitl [Ht1]; · iexact Ht1
  iexact HaB

/-- The start of every cell and slot, all on one device. -/
def G (c : Dev nD) : sProp 𝕄 :=
  if c = 0 then iprop(BI.own (EB (initOf cells toks)) ∗ BI.own (ES (initSlots (Finset.univ : Finset Key) 4))) else iprop(emp)

theorem all_G : (bigSep Finset.univ fun c => G (F := F) c)
    = iprop(BI.own (EB (initOf cells toks)) ∗ BI.own (ES (initSlots (Finset.univ : Finset Key) 4))) := by
  have h (c : Dev nD) (hc : c ∈ Finset.univ.erase (0 : Dev nD)) : G (F := F) c = iprop(emp) := if_neg (Finset.ne_of_mem_erase hc)
  rw [BI.bigSep_univ_at _ (0 : Dev nD), BI.bigSep_congr h, show (fun _ : Dev nD => (iprop(emp) : sProp 𝕄)) = fun _ => BI.emp from rfl,
    BI.bigSep_emp_const]
  exact both (by unfold G; rw [if_pos rfl]; iintro ⟨H, -⟩; iexact H)
    (by unfold G; rw [if_pos rfl]; iintro H; isplitl [H]; · iexact H
        iapply (show iprop(emp) ⊢ (BI.emp : sProp 𝕄) from .rfl); iempintro)

variable (V : Args F)

/-- What all devices share of the cells and slots. -/
def RecG (κ : Dev nD × CK → ℕ) (ι : Key → ℕ) : sProp 𝕄 :=
  iprop(bigSep Finset.univ (fun x => iprop(cellInv EB (Rd V) (κ x) (kcell x) ∗ reached EB (kcell x) 0))
    ∗ bigSep Finset.univ (fun k : Key => slotInv ES (ι k) k (anySlot k.1 (cM k.2.1) k.2.2.val fullShare)))

instance RecG_persistent (κ : Dev nD × CK → ℕ) (ι : Key → ℕ) : BI.Persistent (RecG V κ ι) := by unfold RecG; infer_instance

def G' (c : Dev nD) : sProp 𝕄 := iprop(∃ κ ι, RecG V κ ι ∗ lin c)

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact BI.bigSep_mono h)

theorem glob :
    (bigSep Finset.univ fun c => iprop(Pipeline.ownSems0 (Ix := ℕ) (Name := ℕ) (U := UU) (Lvl := ℕ) (Val := Elt F) (τ := τ) osem c
      ∗ unscopedSems0 c ∗ G c) : sProp 𝕄) ⊢ |={Set.univ}=> bigSep Finset.univ (G' V) := by
  have hs : (bigSep Finset.univ fun c => iprop(Pipeline.ownSems0 (Ix := ℕ) (Name := ℕ) (U := UU) (Lvl := ℕ) (Val := Elt F) (τ := τ) osem c
      ∗ unscopedSems0 c ∗ G c) : sProp 𝕄) ⊢ iprop((bigSep Finset.univ fun x => semVal (kcell x) 0)
        ∗ BI.own (EB (initOf cells toks)) ∗ BI.own (ES (initSlots (Finset.univ : Finset Key) 4))) := by
    rw [← all_G]
    refine BIBase.Entails.trans ?_ (sep_mono_left sems_eq)
    simp only [bigSep_sep']
    iintro ⟨H1, H2, H3⟩
    isplitl [H1 H2]
    · isplitl [H1]; · iexact H1
      iexact H2
    iexact H3
  refine hs.trans ?_
  iintro ⟨Hv, HB, HS⟩
  imod (Rounds.fund EB (Rd V) cells toks) $$ HB with ⟨Hst, Hr, Hat, Htok⟩
  ihave Hst := (show _ ⊢ _ from Entails.of_eq (over_cells (F := F) fun g => roundState EB (Rd V) g 0)) $$ Hst
  ihave Hr := (show _ ⊢ _ from Entails.of_eq (over_cells (F := F) fun g => reached EB g 0)) $$ Hr
  ihave Hat := (show _ ⊢ _ from Entails.of_eq (over_cells (F := F) fun g => atPos EB g 0 ∅ 0)) $$ Hat
  imod (show iprop((bigSep Finset.univ fun x => (semVal (kcell x) 0 : sProp 𝕄)) ∗ bigSep Finset.univ fun x => roundState EB (Rd V) (kcell x) 0)
      ⊢ |={Set.univ}=> bigSep Finset.univ fun x => iprop(∃ n : ℕ, cellInv EB (Rd V) n (kcell x)) from by
        rw [← bigSep_sep']
        exact (BI.bigSep_mono fun x _ => (Rounds.body_intro EB (Rd V) (kcell x)).trans inv_alloc).trans (bigSep_fupd _ _)) $$ [Hv Hst] with Hinv
  · isplitl [Hv] <;> iassumption
  imod (slots_init (Es := Set.univ) ES (Finset.univ : Finset Key) 4 fun k => anySlot (F := F) k.1 (cM k.2.1) k.2.2.val fullShare) $$ HS
    with ⟨%ι, -, #Hsl, Hrd, Hw⟩
  ihave HK := (BI.bigSep_exists_pi Finset.univ (fun (x : Dev nD × CK) (n : ℕ) => (cellInv EB (Rd V) n (kcell x) : sProp 𝕄))) $$ Hinv
  icases HK with ⟨%κ, #HI⟩
  icases Hr with #Hr
  imodintro
  iapply (with_shared (R := RecG V κ ι) (Φ := fun c => lin c) fun c _ => show iprop(RecG V κ ι ∗ lin c) ⊢ G' V c from by
    unfold G'
    iintro H
    iexists κ, ι
    iexact H)
  isplitr
  · unfold RecG
    simp only [bigSep_sep']
    isplitl
    · isplitl; · iexact HI
      iexact Hr
    iexact Hsl
  · iapply deal
    isplitl [Hat]; · iexact Hat
    isplitr; · iexact Hr
    isplitl [Htok]; · iexact Htok
    isplitl [Hrd]; · iexact Hrd
    iexact Hw

end Cert.Proof.Ring
-- ==== Proof.Launch.lean ====
/- The launch: every run ends with each device's result, its arguments as they were, and every counter at zero. -/
module

public import proofs.«01_k».proof.Proof.Final
public import proofs.«01_k».proof.Proof.Tokens
public import Idealize.ShloMosaic.Lib.Pipeline.Launch
public import Idealize.ShloMosaic.Lib.Pipeline.Value
public import Idealize.ShloMosaic.Lib.Pipeline.CollectiveSegs

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The launch state: any memory, every counter zero. -/
def s₀ : MemSt nD τ sig (Elt F) := ⟨m, fun _ => 0, ρ⟩

/-- The arguments that a memory holds. -/
def argsOf : Args F := ⟨fun c => m ((c : Thread nD τ).loc main_arg0), fun c => m ((c : Thread nD τ).loc main_arg1)⟩

/-- What a device starts with, but for its buffers, -/
def start (c : Dev nD) : sProp 𝕄 := iprop((∃ κ ι, Rec (argsOf m) κ ι ∗ lin c) ∗ Creds c)
/-- with them, -/
def Φ₀ (c : Dev nD) : sProp 𝕄 := iprop(∃ κ ι, Rec (argsOf m) κ ι ∗ (bigSep Finset.univ fun f => iprop(Core c f ∗ Free c f)) ∗ Bar c)
/-- and what it ends with. -/
def Φ₁ (c : Dev nD) : sProp 𝕄 := iprop((bigSep Finset.univ fun f => Done c f) ∗ semVal (bCell c) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (argsOf m).A c
    | ⟨1, _⟩ => (argsOf m).B c
    | ⟨2, _⟩ => resV (argsOf m)
  Φ t := match t with
    | ⟨0, _⟩ => Φ₀ m c
    | ⟨_ + 1, _⟩ => Φ₁ c
  q _ := fullShare
  owed t := match t with
    | ⟨0, _⟩ => owed0 c
    | ⟨_ + 1, _⟩ => 0

/-! ## The windows are the whole arrays -/

theorem blk0_read (t : Fin cfg0.N) (f : (main_arg0 : Ref sig .tc).ty.Contents (Elt F)) : ((cfg0.win 0).blk t).view.read (Elt F) f = f := by
  obtain rfl := fin_N0 t
  funext x
  exact congrArg f (funext fun a => Fin.ext (by fin_cases a <;> exact (win0_0.rect_emb_val_of_index_zero _ _ (by decide) x)))
theorem blk1_read (t : Fin cfg0.N) (f : (main_arg1 : Ref sig .tc).ty.Contents (Elt F)) : ((cfg0.win 1).blk t).view.read (Elt F) f = f := by
  obtain rfl := fin_N0 t
  funext x
  exact congrArg f (funext fun a => Fin.ext (by fin_cases a <;> exact (win0_1.rect_emb_val_of_index_zero _ _ (by decide) x)))
theorem blk2_emb (t : Fin cfg0.N) (x : S2048x2048.Idx) : ((cfg0.win 2).blk t).view.emb x = x := by
  obtain rfl := fin_N0 t
  exact funext fun a => Fin.ext (by fin_cases a <;> exact (win0_2.rect_emb_val_of_index_zero _ _ (by decide) x))

theorem result (c : Dev nD) : (dats m ρ 0 c).arrAt 2 cfg0.N = resV (argsOf m) := by
  refine (dats m ρ 0 c).arrAt_eq_of_cover 2 (resV (argsOf m)) (fun t _ => ?_) fun x => ?_
  · obtain rfl := fin_N0 t
    funext x
    show resV (argsOf m) x = resV (argsOf m) (((cfg0.win 2).blk t0_0).view.emb x)
    rw [blk2_emb]
  · exact ⟨t0_0, flush0_2 _, Finset.mem_map.mpr ⟨x, Finset.mem_univ _, blk2_emb t0_0 x⟩⟩

/-! ## The body -/

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt 0 t0_0.succ ∗ stg c cc0_stg0_0 ((argsOf m).A c) ∗ stg c cc0_stg1_0 ((argsOf m).B c)
    ∗ stg c cc0_stg2_0 (resV (argsOf m)))

theorem before_A (c : Dev nD) (d : (main_arg0 : Ref sig .tc).ty.Contents (Elt F)) : (dats m ρ 0 c).before (0 : Fin 3) t0_0 d = (argsOf m).A c := by
  unfold Dat.before; rw [if_pos (fetch0_0 t0_0)]
  exact blk0_read (F := F) t0_0 _
theorem before_B (c : Dev nD) (d : (main_arg1 : Ref sig .tc).ty.Contents (Elt F)) : (dats m ρ 0 c).before (1 : Fin 3) t0_0 d = (argsOf m).B c := by
  unfold Dat.before; rw [if_pos (fetch0_1 t0_0)]
  exact blk1_read (F := F) t0_0 _

theorem sound_body (c : Dev nD) :
    bodyPre m ρ c ⊢ wp frame (wpE (defs₀ (F := F)) 𝒱₀ (c : Thread nD τ) none) Set.univ bodyP (fun _ => bodyPost m ρ c) := by
  unfold bodyPre Φ₀ bodyP
  simp only [before_A, before_B]
  simp only [Prog.lift, Prog.bind_op, Prog.bind_ret, wp_deviceId]
  iintro ⟨⟨%κ, %ι, HR, HC, HB⟩, HO, ⟨%d0, %a, %ha, Ha⟩, ⟨%d1, %b, %hb, Hb⟩, ⟨%d2, %o, %ho, Ho⟩⟩
  subst ha hb
  unfold Dat.owesAt Pipeline.owesWithin
  icases HO with ⟨%W, %hW, HO⟩
  iapply (wp_wand_r frame (wpE (defs₀ (F := F)) 𝒱₀ (c : Thread nD τ) none) Set.univ)
  isplitl [HR HC HB HO Ha Hb Ho]
  · iapply (t_core (V := argsOf m) (κ := κ) (ι := ι) (c := c) (ys := fun _ => ⟨none, 0⟩)).use
    isplitl [HR]; · iexact HR
    isplitl [HC HO HB]
    · isplitl [HC]; · iexact HC
      isplitl [HO]
      · unfold Ow
        iexists W
        iexact HO
      iexact HB
    isplitl [Ha Hb]
    · unfold Ins
      isplitl [Ha]; · iexact Ha
      iexact Hb
    unfold Out
    iexists o
    isplitr
    · ipureintro
      exact fun f => ⟨fun h e => (by cases e), fun h h7 h0 => absurd h0 (by show ¬ h ≤ 0; omega)⟩
    iexact Ho
  iintro %_ ⟨⟨⟨HD, HO⟩, HI, Hout⟩, Hb0⟩
  unfold bodyPost Φ₁ Dat.owesAt Pipeline.owesWithin Ow Ins Out
  icases HO with ⟨%W', HO⟩
  icases HI with ⟨Ha, Hb⟩
  icases Hout with ⟨%o', %ho', Ho⟩
  have e : o' = resV (argsOf m) := known_res (argsOf m) c fun f h h7 h14 => (ho' f).2 h h7 h14
  subst e
  isplitl [HD Hb0]
  · isplitl [HD]; · iexact HD
    iexact Hb0
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ho

theorem phi_out (c : Dev nD) : (dats m ρ 0 c).Φ t0_0.succ = Φ₁ c := rfl

/-- The body that the pipeline calls. -/
theorem defs_body (t : Fin cfg0.N) : defs₀ (F := F) .tc cfg0.body (cfg0.bodyArgs t (cfg0.slots t)) = bodyP := by
  rw [← body_eq t]; chain_rfl

set_option maxRecDepth 4000 in
theorem body_obligation (c : Dev nD) : BodyObligation (dats (F := F) m ρ 0 c) (defs₀ (F := F)) 𝒱₀ 0 Set.univ := fun t => by
  rw [fin_N0 t, defs_body]
  rw [bigSep_W0, bigSep_W0]
  simp only [owns_whole_eq]
  refine BIBase.Entails.trans ?_ (BIBase.Entails.trans (sound_body m ρ c) ?_)
  · exact .rfl
  · iintro H
    iapply (wp_wand_r frame (wpE (defs₀ (F := F)) 𝒱₀ (c : Thread nD τ) none) Set.univ)
    isplitl [H]; · iexact H
    iintro %_ H
    unfold bodyPost
    icases H with ⟨HP, HO, HA, HB, HC⟩
    isplitl [HP]; · rw [phi_out]; iexact HP
    isplitl [HO]; · iexact HO
    isplitl [HA]; · iexact HA
    isplitl [HB]; · iexact HB
    iexact HC

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf cells toks, initSlots (Finset.univ : Finset Key) 4))

theorem L_of_ne (g : GSem nD τ sig) (h : g.1.2 ≠ .tc) : L g = ∅ := if_neg h

theorem owed0_above (c : Dev nD) : Above 1 (owed0 c) := by
  have hb (d : Dev nD) : Above 1 (tallyAt (bCell d) 0 1) := Above.at ⟨Finset.mem_range.mpr (by decide), le_of_eq (lv_b d 0).symm⟩
  exact ((Above.sum _ fun f _ => owed_above c f (by omega) (by omega)).add (hb _)).add (hb _)

theorem waits (c : Dev nD) : (levAts L lv : sProp 𝕄) ⊢ Pipeline.cellsWaits cfgs (dats m ρ) 0 0 c :=
  Pipeline.cellsWaits_intro cfgs (dats m ρ) 0 0 c fun w s t => by
    refine mayOwe c (n := 0) ?_ fun p hp => ?_
    · rcases t with ⟨_ | _, ht⟩
      · exact owed0_above c
      · exact Above.zero _
    · rw [Finset.mem_singleton.mp hp]
      refine ⟨show 0 < 14 by decide, ?_⟩
      have h : role (SemLoc.dma (((cfgs 0).win w).sem s) : SemLoc sig) = .none := by fin_cases w <;> fin_cases s <;> decide +kernel
      unfold lv
      rw [show role (SemLoc.dma (((cfgs 0).win w).sem s) : SemLoc sig) = .none from h]

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' (argsOf m) c)
      ⊢ |={Set.univ}=> iprop(start m c ∗ emp) := by
  iintro ⟨-, Hlev, Hcr, -, HG⟩
  ihave Hc := (creds_intro (F := F) c) $$ Hcr
  imodintro
  unfold start G'
  isplitl
  · icases HG with ⟨%κ, %ι, HR, HL⟩
    isplitl [HR HL Hlev]
    · iexists κ, ι
      isplitl [HR Hlev]
      · unfold Rec RecG
        icases HR with ⟨H1, H2⟩
        isplitl [H1]; · iexact H1
        isplitl [H2]; · iexact H2
        iexact Hlev
      iexact HL
    iexact Hc
  · iempintro

/-- What a flow starts with: what it was dealt, its part of the credits, its buffers. -/
theorem flow_start (c : Dev nD) (f : Fin 8) :
    iprop(flowG c f
        ∗ ((bigSep (Finset.range 14) fun h => cred (tallyAt (rCell c f (sl h)) h N)) ∗ (bigSep (Finset.range 14) fun j => cred (tallyAt (cCell c f) (cix j) 1)))
        ∗ (bigSep Finset.univ fun s : Fin 4 => anySlot (F := F) c (cM f) s.val fullShare)
        ∗ (bigSep Finset.univ fun s : Fin 4 => anySlot (F := F) c (gM f) s.val fullShare))
      ⊢ iprop(Core c f ∗ Free c f) := by
  unfold flowG Core Free
  simp only [bigSep_sep']
  iintro ⟨⟨⟨HR, HRr⟩, ⟨HS, HSr⟩, HC, Hh, Hd, Hr⟩, ⟨Hcr, Hcc⟩, HB, HG⟩
  isplitr [Hr HB]
  · isplitl [HR HRr]
    · isplitl [HR]; · iexact HR
      iexact HRr
    isplitl [HS HSr]
    · isplitl [HS]; · iexact HS
      iexact HSr
    isplitl [HC]; · iexact HC
    isplitl [Hcr]; · iexact Hcr
    isplitl [Hcc]; · iexact Hcc
    isplitl [Hh]; · iexact Hh
    isplitl [Hd]; · iexact Hd
    iexact HG
  isplitl [Hr]; · iexact Hr
  iexact HB

theorem flows_start (c : Dev nD) :
    iprop((bigSep Finset.univ fun f => flowG (F := F) c f)
        ∗ (bigSep Finset.univ fun f : Fin 8 => iprop(
            (bigSep (Finset.range 14) fun h => cred (tallyAt (rCell c f (sl h)) h N)) ∗ (bigSep (Finset.range 14) fun j => cred (tallyAt (cCell c f) (cix j) 1))))
        ∗ (bigSep Finset.univ fun f : Fin 8 => bigSep Finset.univ fun s : Fin 4 => anySlot (F := F) c (cM f) s.val fullShare)
        ∗ (bigSep Finset.univ fun f : Fin 8 => bigSep Finset.univ fun s : Fin 4 => anySlot (F := F) c (gM f) s.val fullShare))
      ⊢ bigSep Finset.univ fun f => iprop(Core (F := F) c f ∗ Free c f) := by
  rw [← bigSep_sep', ← bigSep_sep', ← bigSep_sep']
  exact BI.bigSep_mono fun f _ => flow_start c f

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_slots]
  unfold start Φ₀ Creds lin Bar
  iintro ⟨⟨⟨%κ, %ι, HR, HF, Hl, Hr, Hat⟩, HC, Hb⟩, -, HB, HG⟩
  iexists κ, ι
  isplitl [HR]; · iexact HR
  isplitl [HF HC HB HG]
  · iapply (flows_start c)
    isplitl [HF]; · iexact HF
    isplitl [HC]; · iexact HC
    isplitl [HB]; · iexact HB
    iexact HG
  isplitl [Hl]; · iexact Hl
  isplitl [Hr]; · iexact Hr
  isplitl [Hb]; · iexact Hb
  iexact Hat

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, rest_slots, own_eq, bar_eq]
  unfold Φ₁ Done
  simp only [bigSep_sep']
  iintro ⟨⟨HR, HS, HC, HG, HB⟩, Hb⟩
  isplitl [Hb]; · iexact Hb
  isplitl [HR HS HC]
  · isplitl [HS]; · iexact HS
    isplitl [HR]; · iexact HR
    iexact HC
  isplitl [HB]; · iexact HB
  iexact HG

/-! ## The run -/

/-- What a run ends with: the result on every device, its arguments unchanged. -/
def Ends : PUnit × MemSt nD τ sig (Elt F) → Prop := fun r => ∀ c : Dev nD,
  r.2.mem ((c : Thread nD τ).loc main_v1) = resV (argsOf m)
    ∧ r.2.mem ((c : Thread nD τ).loc main_arg0) = m ((c : Thread nD τ).loc main_arg0)
    ∧ r.2.mem ((c : Thread nD τ).loc main_arg1) = m ((c : Thread nD τ).loc main_arg1)

theorem ends (r : PUnit × MemSt nD τ sig (Elt F))
    (h : ∀ c : Dev nD, ∀ w : Fin cfg0.W, r.2.mem ((cfg0.win w).arr.view.loc (c : Thread nD τ)) = (dats m ρ 0 c).arrAt w cfg0.N) : Ends m r :=
  fun c => ⟨(h c 2).trans (result m ρ c), (h c 0).trans ((dats m ρ 0 c).arrAt_in 0 rfl _), (h c 1).trans ((dats m ρ 0 c).arrAt_in 1 rfl _)⟩

set_option maxRecDepth 8000 in
theorem run_main : θ_run defs (onTc (τ := τ) (main (F := F))) (s₀ m ρ) (fun r => Ends m r ∧ r.2.sem = fun _ => 0) := by
  refine Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := ?hmain)
    (hbody := ?hbody) (hne := ?hne) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := G) (G' := G' (argsOf m)) (u₀ := u₀)
    (hu₀ := ?hu)
    (hglob := glob (argsOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := ?hY)
    (hQ := fun r h hs => ⟨ends m ρ ((), r) fun c w => (h c).1 w, sem_eq_zero hs fun c => (h c).2.2⟩)
  case hmain => exact fun _ => rfl
  case hbody =>
    exact fun c => (body_obligation m ρ c).loose
  case hne => exact fun w => by fin_cases w <;> exact Nat.succ_pos _
  case hu =>
    unfold u₀
    iintro Hu
    ihave H := (ownU_pair _ _) $$ Hu
    icases H with ⟨HP, HX⟩
    ihave HX := (own_pair_emb embR _ _) $$ HX
    imodintro
    isplitl [HP]; · iexact HP
    rw [all_G]
    iexact HX
  case hY =>
    intro c s'
    iintro ⟨Hu, -, HSI⟩
    iapply (Pipeline.unscopedSems0_read (X := unscopedSems0 c) (c := c) fupd_intro s')
    isplitl [Hu] <;> iassumption

end Cert.Proof.Ring
-- ==== Proof.Values.lean ====
/- The result over the extended reals: the products of all the devices' blocks, summed and clipped at zero, which is the
   product of the whole arrays, clipped at zero. -/
module

public import proofs.«01_k».proof.Proof.Final
public import proofs.«01_k».proof.Proof.Gen.ReferenceIdeal.Run
public import Idealize.ShloMosaic.Lib.Layout
public import Idealize.ShloMosaic.Lib.Pipeline.Value
public import Idealize.ShloMosaic.Lib.Pointwise.Contract
public import Idealize.ShloMosaic.PureOps.Ideal.Laws

@[expose] public section

noncomputable section

namespace Cert.Proof.Ring

open Cert.KernelIdeal Cert.KernelIdeal.Gen
open Idealize.ShloMosaic

variable (V : Args Ideal)

/-- A device's part of an element of the result: a row of its left block times a column of its right one. -/
def part (c : Dev nD) (p q : Fin 2048) : EReal :=
  ∑ k : Fin 1024, V.A c (Shape.pair (d := ![2048, 1024]) p k) * V.B c (Shape.pair (d := ![1024, 2048]) k q)

theorem tile_part (c : Dev nD) (j f : Fin 8) (i : S64x1024.Idx) :
    tile V c j f i = part V c ((tR j f).emb i 0) ((tR j f).emb i 1) := by
  have hi : (i 1).val < 1024 := (i 1).isLt
  have e : tile V c j f i = Ideal.matmul dot_S256x1024_S1024x1024_S256x1024_1_0_0_1_n_n (rowsA (V.A c) j) (colsB (V.B c) (par f))
      (constant (F := Ideal) S256x1024 .f32 0x00000000#32) ((qR f).emb i) := by
    unfold tile quarter block mmV
    rw [shapeCast_self, shapeCast_self]
    rfl
  rw [e, Ideal.matmul_apply₁_of dot_S256x1024_S1024x1024_S256x1024_1_0_0_1_n_n (a := 1) rfl (K := 1024) rfl _ _ _ _
    (fun k => Shape.pair (d := ![256, 1024]) ((qR f).emb i 0) k) (fun k => Shape.pair (d := ![1024, 1024]) k ((qR f).emb i 1))
    (fun k => Shape.idx_ext₂ rfl rfl) (fun k => Shape.idx_ext₂ rfl rfl)]
  rw [show (constant S256x1024 .f32 0x00000000#32 : FVec Ideal S256x1024 .f32) ((qR f).emb i) = (0 : EReal) from Ideal.ofBits_zero_f32, zero_add]
  unfold part
  refine Finset.sum_congr rfl fun k _ => congrArg₂ (· * ·) ?_ ?_
  · refine congrArg (V.A c) (Shape.idx_ext₂ ?_ ?_)
    · refine (Eq.trans ?_ (t_val0 j f i).symm)
      show 256 * j.val + 1 * ((qR f).emb i 0).val = _
      rw [q_val0]; omega
    · show 0 + 1 * k.val = k.val
      omega
  · refine congrArg (V.B c) (Shape.idx_ext₂ ?_ ?_)
    · show 0 + 1 * k.val = k.val
      omega
    · refine (Eq.trans ?_ (t_val1 j f i).symm)
      show 1024 * (par f).val + 1 * ((qR f).emb i 1).val = _
      rw [q_val1]; show 1024 * (f.val % 2) + _ = _; omega

/-- What a device sends is its own tile and what it was sent, summed, -/
theorem add_at (t u : Tile Ideal) (i : S64x1024.Idx) : addV t (up u) i = (t i + u i : EReal) := by
  unfold addV
  rw [down_up, shapeCast_self]
  rfl

/-- so the parts of the devices that the chunk has passed. -/
theorem sent_parts (f : Fin 8) (i : S64x1024.Idx) : ∀ (h : ℕ) (c : Dev nD), h < 7 →
    sent V c f h i = ∑ k ∈ Finset.range (h + 1), part V ((frD f)^[k] c) ((tR (ch c f h) f).emb i 0) ((tR (ch c f h) f).emb i 1)
  | 0, c, _ => by
    rw [sent, shapeCast_self, tile_part, Finset.sum_range_one]
    rfl
  | h + 1, c, hh => by
    rw [sent_red V c f (k := h) (by omega), redV, if_neg (by omega)]
    refine (add_at _ _ i).trans ?_
    unfold land
    rw [tile_part, sent_parts f i h (frD f c) (by omega), show ch (frD f c) f h = ch c f (h + 1) from ch_fr f c ⟨h, by omega⟩,
      Finset.sum_range_succ' _ (h + 1), add_comm]
    rfl

theorem round_trip : ∀ (f : Fin 8) (c d : Dev nD), ∃ k : Fin 8, (frD f)^[k.val] c = d := by decide +kernel

/-- A round of the ring meets every device once. -/
theorem all_devices (f : Fin 8) (c : Dev nD) (g : Dev nD → EReal) : ∑ k ∈ Finset.range 8, g ((frD f)^[k] c) = ∑ d, g d := by
  rw [Finset.sum_range]
  refine Function.Bijective.sum_comp (e := fun k : Fin 8 => (frD f)^[k.val] c) ?_ g
  have hs : Function.Surjective (fun k : Fin 8 => ((frD f)^[k.val] c : Fin 8)) := fun d => round_trip f c d
  exact ⟨Finite.injective_iff_surjective.mpr hs, hs⟩

theorem sent_whole (f : Fin 8) (c : Dev nD) (i : S64x1024.Idx) :
    sent V c f 7 i = max (∑ d, part V d ((tR (ch c f 7) f).emb i 0) ((tR (ch c f 7) f).emb i 1)) 0 := by
  rw [sent_red V c f (k := 6) (by omega), redV, if_pos rfl]
  refine Eq.trans (b := max (addV (tile V c (ch c f (6 + 1)) f) (up (land V c f 6)) i : EReal) (Ideal.ofBits .f32 0x00000000#32)) rfl ?_
  rw [Ideal.ofBits_zero_f32, add_at]
  unfold land
  rw [tile_part, sent_parts V f i 6 (frD f c) (by omega), show ch (frD f c) f 6 = ch c f 7 from ch_fr f c ⟨6, by omega⟩,
    ← all_devices f c, Finset.sum_range_succ' _ 7, add_comm]
  rfl

theorem res_at (x : S2048x2048.Idx) : resV V x = max (∑ d, part V d (x 0) (x 1)) 0 := by
  unfold resV
  rw [sent_whole, ch_own, in_tile]

/-! ## The reference -/

/-- The reference's result. -/
def refV (A : Vec Ideal Cert.ReferenceIdeal.S2048x8192 .bf16) (B : Vec Ideal Cert.ReferenceIdeal.S8192x2048 .bf16) : Vec Ideal S2048x2048 .bf16 :=
  maximumf (F := Ideal) (φ := .bf16) (truncf (F := Ideal) .bf16 (Host.dotGeneral (F := Ideal) (φ₁ := .bf16) (φ₂ := .bf16) Cert.ReferenceIdeal.dot_S2048x8192_S8192x2048_S2048x2048_1_0_0_1_n_n none A B) Cert.ReferenceIdeal.Facts₀.bitsLt_bf16_f32)
    (broadcastInDim Cert.ReferenceIdeal.S2048x2048 ![] Cert.ReferenceIdeal.Facts₀.bcast_S_S2048x2048 (constant (F := Ideal) Cert.ReferenceIdeal.S_ .bf16 0x0000#16))

theorem zero_bf16 : Ideal.ofBits .bf16 0x0000#16 = 0 := by simp [Ideal.ofBits, Ideal.ieee]

theorem ref_at (A : Vec Ideal Cert.ReferenceIdeal.S2048x8192 .bf16) (B : Vec Ideal Cert.ReferenceIdeal.S8192x2048 .bf16) (x : S2048x2048.Idx) :
    refV A B x = max (∑ k : Fin 8192, A (Shape.pair (d := ![2048, 8192]) (x 0) k) * B (Shape.pair (d := ![8192, 2048]) k (x 1)) : EReal) 0 := by
  have e : refV A B x = max (Ideal.matmul Cert.ReferenceIdeal.dot_S2048x8192_S8192x2048_S2048x2048_1_0_0_1_n_n A B (fun _ => 0) x)
      (Ideal.ofBits .bf16 0x0000#16) := rfl
  rw [e, zero_bf16, Ideal.matmul_apply₁_of Cert.ReferenceIdeal.dot_S2048x8192_S8192x2048_S2048x2048_1_0_0_1_n_n (a := 1) rfl (K := 8192) rfl _ _ _ _
    (fun k => Shape.pair (d := ![2048, 8192]) (x 0) k) (fun k => Shape.pair (d := ![8192, 2048]) k (x 1))
    (fun k => Shape.idx_ext₂ rfl rfl) (fun k => Shape.idx_ext₂ rfl rfl), zero_add]

/-- The place of a device's row of eighths in a whole. -/
def place (d : Fin 8) (k : Fin 1024) : Fin 8192 := ⟨d.val * 1024 + k.val, by omega⟩

theorem by_eighths (g : Fin 8192 → EReal) : ∑ K, g K = ∑ d : Fin 8, ∑ k : Fin 1024, g (place d k) := by
  rw [← Fintype.sum_prod_type']
  refine (Fintype.sum_equiv (finProdFinEquiv (m := 8) (n := 1024)) _ g fun x => congrArg g (Fin.ext ?_)).symm
  show x.1.val * 1024 + x.2.val = x.2.val + 1024 * x.1.val
  omega

/-- The kernel's result is the reference's. -/
theorem res_ref (A : Vec Ideal Cert.ReferenceIdeal.S2048x8192 .bf16) (B : Vec Ideal Cert.ReferenceIdeal.S8192x2048 .bf16)
    (hA : ∀ c : Fin 8, V.A c = Layout.block ⟨2, ![2048, 1024]⟩ ⟨2, ![2048, 8192]⟩ 1 8 c A)
    (hB : ∀ c : Fin 8, V.B c = Layout.block ⟨2, ![1024, 2048]⟩ ⟨2, ![8192, 2048]⟩ 0 8 c B) : resV V = refV A B := by
  funext x
  rw [res_at, ref_at, by_eighths]
  refine congrArg (max · 0) (Finset.sum_congr rfl fun d _ => Finset.sum_congr rfl fun k _ => ?_)
  rw [hA d, hB d]
  exact congrArg₂ (fun a b => (A a * B b : EReal)) (Shape.idx_ext₂ rfl rfl) (Shape.idx_ext₂ rfl rfl)

end Cert.Proof.Ring
-- ==== Proof.lean ====
/- The five claims: the three runs, the idealization, and the equality of the kernel's result and the reference's. -/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.SL.Sem

/-- The kernel over the extended reals runs, its arguments unchanged, its counters back at zero. -/
theorem frame_ideal : Cert.quiescent_KernelIdeal := fun m ρ _ =>
  (θ_run Cert.KernelIdeal.defs _ _).mono (fun _ h => ⟨fun c => (h.1 c).2, h.2⟩) (Ring.run_main (F := Ideal) m ρ)

/-- The kernel's own text is the same, -/
theorem same_text : Cert.quiescent_Kernel =
    ∀ (m : (ℓ : Loc Cert.KernelIdeal.nD Cert.KernelIdeal.τ Cert.KernelIdeal.sig) → Buf (Elt Bits) ℓ) (ρ : Dev Cert.KernelIdeal.nD → PrngReg), Pre_Kernel m →
      θ_run (Cert.KernelIdeal.defs (F := Bits)) (onTc (τ := Cert.KernelIdeal.τ) (Cert.KernelIdeal.main (F := Bits))) (Ring.s₀ m ρ) (fun r =>
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by chain_rfl

/-- so its run is the same proof read at words. -/
theorem frame_kernel : Cert.quiescent_Kernel := same_text.mpr fun m ρ _ =>
  (θ_run Cert.KernelIdeal.defs _ _).mono (fun _ h => ⟨fun c => (h.1 c).2, h.2⟩) (Ring.run_main (F := Bits) m ρ)

/-- The reference runs; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ hag =>
  ⟨Ring.resV (Ring.argsOf m),
    (θ_run Cert.KernelIdeal.defs _ _).mono (fun _ h => h.1) (Ring.run_main (F := Ideal) m ρ),
    (θ_run Cert.ReferenceIdeal.defs _ _).mono
      (fun _ h => ⟨(h 0).1.trans (Ring.res_ref (Ring.argsOf m) _ _ (fun c => (hag c).1) (fun c => (hag c).2)).symm, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
